-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22)
      ∧ r.2.mem ((c.tc : Thread Cert.Kernel3.nD Cert.Kernel3.τ).loc Cert.Kernel3.main_arg23) = m ((c.tc : Thread Cert.Kernel3.nD Cert.Kernel3.τ).loc Cert.Kernel3.main_arg23)
      ∧ r.2.mem ((c.tc : Thread Cert.Kernel3.nD Cert.Kernel3.τ).loc Cert.Kernel3.main_arg24) = m ((c.tc : Thread Cert.Kernel3.nD Cert.Kernel3.τ).loc Cert.Kernel3.main_arg24)
      ∧ r.2.mem ((c.tc : Thread Cert.Kernel3.nD Cert.Kernel3.τ).loc Cert.Kernel3.main_arg25) = m ((c.tc : Thread Cert.Kernel3.nD Cert.Kernel3.τ).loc Cert.Kernel3.main_arg25)
      ∧ r.2.mem ((c.tc : Thread Cert.Kernel3.nD Cert.Kernel3.τ).loc Cert.Kernel3.main_arg26) = m ((c.tc : Thread Cert.Kernel3.nD Cert.Kernel3.τ).loc Cert.Kernel3.main_arg26)
      ∧ r.2.mem ((c.tc : Thread Cert.Kernel3.nD Cert.Kernel3.τ).loc Cert.Kernel3.main_arg27) = m ((c.tc : Thread Cert.Kernel3.nD Cert.Kernel3.τ).loc Cert.Kernel3.main_arg27)
      ∧ r.2.mem ((c.tc : Thread Cert.Kernel3.nD Cert.Kernel3.τ).loc Cert.Kernel3.main_arg28) = m ((c.tc : Thread Cert.Kernel3.nD Cert.Kernel3.τ).loc Cert.Kernel3.main_arg28)
      ∧ r.2.mem ((c.tc : Thread Cert.Kernel3.nD Cert.Kernel3.τ).loc Cert.Kernel3.main_arg29) = m ((c.tc : Thread Cert.Kernel3.nD Cert.Kernel3.τ).loc Cert.Kernel3.main_arg29)
      ∧ r.2.mem ((c.tc : Thread Cert.Kernel3.nD Cert.Kernel3.τ).loc Cert.Kernel3.main_arg30) = m ((c.tc : Thread Cert.Kernel3.nD Cert.Kernel3.τ).loc Cert.Kernel3.main_arg30)
      ∧ r.2.mem ((c.tc : Thread Cert.Kernel3.nD Cert.Kernel3.τ).loc Cert.Kernel3.main_arg31) = m ((c.tc : Thread Cert.Kernel3.nD Cert.Kernel3.τ).loc Cert.Kernel3.main_arg31))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
      ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
      ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
      ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29)
      ∧ r.2.mem ((c.tc : Thread Cert.Kernel3Ideal.nD Cert.Kernel3Ideal.τ).loc Cert.Kernel3Ideal.main_arg30) = m ((c.tc : Thread Cert.Kernel3Ideal.nD Cert.Kernel3Ideal.τ).loc Cert.Kernel3Ideal.main_arg30)
      ∧ r.2.mem ((c.tc : Thread Cert.Kernel3Ideal.nD Cert.Kernel3Ideal.τ).loc Cert.Kernel3Ideal.main_arg31) = m ((c.tc : Thread Cert.Kernel3Ideal.nD Cert.Kernel3Ideal.τ).loc Cert.Kernel3Ideal.main_arg31))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26)
      ∧ r.2.mem ((c.tc : Thread Cert.Reference3Ideal.nD Cert.Reference3Ideal.τ).loc Cert.Reference3Ideal.main_arg27) = m ((c.tc : Thread Cert.Reference3Ideal.nD Cert.Reference3Ideal.τ).loc Cert.Reference3Ideal.main_arg27)
      ∧ r.2.mem ((c.tc : Thread Cert.Reference3Ideal.nD Cert.Reference3Ideal.τ).loc Cert.Reference3Ideal.main_arg28) = m ((c.tc : Thread Cert.Reference3Ideal.nD Cert.Reference3Ideal.τ).loc Cert.Reference3Ideal.main_arg28)
      ∧ r.2.mem ((c.tc : Thread Cert.Reference3Ideal.nD Cert.Reference3Ideal.τ).loc Cert.Reference3Ideal.main_arg29) = m ((c.tc : Thread Cert.Reference3Ideal.nD Cert.Reference3Ideal.τ).loc Cert.Reference3Ideal.main_arg29)
      ∧ r.2.mem ((c.tc : Thread Cert.Reference3Ideal.nD Cert.Reference3Ideal.τ).loc Cert.Reference3Ideal.main_arg30) = m ((c.tc : Thread Cert.Reference3Ideal.nD Cert.Reference3Ideal.τ).loc Cert.Reference3Ideal.main_arg30)
      ∧ r.2.mem ((c.tc : Thread Cert.Reference3Ideal.nD Cert.Reference3Ideal.τ).loc Cert.Reference3Ideal.main_arg31) = m ((c.tc : Thread Cert.Reference3Ideal.nD Cert.Reference3Ideal.τ).loc Cert.Reference3Ideal.main_arg31))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v19_4)) (v3 : (c : Dev Cert.KernelIdeal.nD) → Buf (Elt Ideal) ((c.tc : Thread Cert.KernelIdeal.nD Cert.KernelIdeal.τ).loc Cert.KernelIdeal.main_v19_5)) (v4 : (c : Dev Cert.KernelIdeal.nD) → Buf (Elt Ideal) ((c.tc : Thread Cert.KernelIdeal.nD Cert.KernelIdeal.τ).loc Cert.KernelIdeal.main_v19_0)) (v5 : (c : Dev Cert.KernelIdeal.nD) → Buf (Elt Ideal) ((c.tc : Thread Cert.KernelIdeal.nD Cert.KernelIdeal.τ).loc Cert.KernelIdeal.main_v19_1)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v21)) (v8 : (c : Dev Cert.KernelIdeal.nD) → Buf (Elt Ideal) ((c.tc : Thread Cert.KernelIdeal.nD Cert.KernelIdeal.τ).loc Cert.KernelIdeal.main_v22)) (v9 : (c : Dev Cert.KernelIdeal.nD) → Buf (Elt Ideal) ((c.tc : Thread Cert.KernelIdeal.nD Cert.KernelIdeal.τ).loc Cert.KernelIdeal.main_v16_2)) (v10 : (c : Dev Cert.KernelIdeal.nD) → Buf (Elt Ideal) ((c.tc : Thread Cert.KernelIdeal.nD Cert.KernelIdeal.τ).loc Cert.KernelIdeal.main_v18_0)) (v11 : (c : Dev Cert.KernelIdeal.nD) → Buf (Elt Ideal) ((c.tc : Thread Cert.KernelIdeal.nD Cert.KernelIdeal.τ).loc Cert.KernelIdeal.main_v17_0)) (v12 : (c : Dev Cert.KernelIdeal.nD) → Buf (Elt Ideal) ((c.tc : Thread Cert.KernelIdeal.nD Cert.KernelIdeal.τ).loc Cert.KernelIdeal.main_v13_6)) (v13 : (c : Dev Cert.KernelIdeal.nD) → Buf (Elt Ideal) ((c.tc : Thread Cert.KernelIdeal.nD Cert.KernelIdeal.τ).loc Cert.KernelIdeal.main_v15)) (v14 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v19_4) = v2 c
          ∧ r.2.mem ((c.tc : Thread Cert.KernelIdeal.nD Cert.KernelIdeal.τ).loc Cert.KernelIdeal.main_v19_5) = v3 c
          ∧ r.2.mem ((c.tc : Thread Cert.KernelIdeal.nD Cert.KernelIdeal.τ).loc Cert.KernelIdeal.main_v19_0) = v4 c
          ∧ r.2.mem ((c.tc : Thread Cert.KernelIdeal.nD Cert.KernelIdeal.τ).loc Cert.KernelIdeal.main_v19_1) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_v21) = v7 c
          ∧ r.2.mem ((c.tc : Thread Cert.KernelIdeal.nD Cert.KernelIdeal.τ).loc Cert.KernelIdeal.main_v22) = v8 c
          ∧ r.2.mem ((c.tc : Thread Cert.KernelIdeal.nD Cert.KernelIdeal.τ).loc Cert.KernelIdeal.main_v16_2) = v9 c
          ∧ r.2.mem ((c.tc : Thread Cert.KernelIdeal.nD Cert.KernelIdeal.τ).loc Cert.KernelIdeal.main_v18_0) = v10 c
          ∧ r.2.mem ((c.tc : Thread Cert.KernelIdeal.nD Cert.KernelIdeal.τ).loc Cert.KernelIdeal.main_v17_0) = v11 c
          ∧ r.2.mem ((c.tc : Thread Cert.KernelIdeal.nD Cert.KernelIdeal.τ).loc Cert.KernelIdeal.main_v13_6) = v12 c
          ∧ r.2.mem ((c.tc : Thread Cert.KernelIdeal.nD Cert.KernelIdeal.τ).loc Cert.KernelIdeal.main_v15) = v13 c
          ∧ r.2.mem ((c.tc : Thread Cert.KernelIdeal.nD Cert.KernelIdeal.τ).loc Cert.KernelIdeal.main_v14) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_v169) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_v158) = v7 c
          ∧ r.2.mem ((c.tc : Thread Cert.ReferenceIdeal.nD Cert.ReferenceIdeal.τ).loc Cert.ReferenceIdeal.main_v153) = v8 c
          ∧ r.2.mem ((c.tc : Thread Cert.ReferenceIdeal.nD Cert.ReferenceIdeal.τ).loc Cert.ReferenceIdeal.main_v134) = v9 c
          ∧ r.2.mem ((c.tc : Thread Cert.ReferenceIdeal.nD Cert.ReferenceIdeal.τ).loc Cert.ReferenceIdeal.main_v171) = v10 c
          ∧ r.2.mem ((c.tc : Thread Cert.ReferenceIdeal.nD Cert.ReferenceIdeal.τ).loc Cert.ReferenceIdeal.main_v124) = v11 c
          ∧ r.2.mem ((c.tc : Thread Cert.ReferenceIdeal.nD Cert.ReferenceIdeal.τ).loc Cert.ReferenceIdeal.main_v103) = v12 c
          ∧ r.2.mem ((c.tc : Thread Cert.ReferenceIdeal.nD Cert.ReferenceIdeal.τ).loc Cert.ReferenceIdeal.main_v99) = v13 c
          ∧ r.2.mem ((c.tc : Thread Cert.ReferenceIdeal.nD Cert.ReferenceIdeal.τ).loc Cert.ReferenceIdeal.main_v122) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v3_1)) (v1 : (c : Dev Cert.Kernel2Ideal.nD) → Buf (Elt Ideal) ((c.tc : Thread Cert.Kernel2Ideal.nD Cert.Kernel2Ideal.τ).loc Cert.Kernel2Ideal.main_v3_2)) (v2 : (c : Dev Cert.Kernel2Ideal.nD) → Buf (Elt Ideal) ((c.tc : Thread Cert.Kernel2Ideal.nD Cert.Kernel2Ideal.τ).loc Cert.Kernel2Ideal.main_v3_3)) (v3 : (c : Dev Cert.Kernel2Ideal.nD) → Buf (Elt Ideal) ((c.tc : Thread Cert.Kernel2Ideal.nD Cert.Kernel2Ideal.τ).loc Cert.Kernel2Ideal.main_v3_4)) (v4 : (c : Dev Cert.Kernel2Ideal.nD) → Buf (Elt Ideal) ((c.tc : Thread Cert.Kernel2Ideal.nD Cert.Kernel2Ideal.τ).loc Cert.Kernel2Ideal.main_v3_5)) (v5 : (c : Dev Cert.Kernel2Ideal.nD) → Buf (Elt Ideal) ((c.tc : Thread Cert.Kernel2Ideal.nD Cert.Kernel2Ideal.τ).loc Cert.Kernel2Ideal.main_v3_6)) (v6 : (c : Dev Cert.Kernel2Ideal.nD) → Buf (Elt Ideal) ((c.tc : Thread Cert.Kernel2Ideal.nD Cert.Kernel2Ideal.τ).loc Cert.Kernel2Ideal.main_v3_7)) (v7 : (c : Dev Cert.Kernel2Ideal.nD) → Buf (Elt Ideal) ((c.tc : Thread Cert.Kernel2Ideal.nD Cert.Kernel2Ideal.τ).loc Cert.Kernel2Ideal.main_v4_0)) (v8 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_1) = v0 c
          ∧ r.2.mem ((c.tc : Thread Cert.Kernel2Ideal.nD Cert.Kernel2Ideal.τ).loc Cert.Kernel2Ideal.main_v3_2) = v1 c
          ∧ r.2.mem ((c.tc : Thread Cert.Kernel2Ideal.nD Cert.Kernel2Ideal.τ).loc Cert.Kernel2Ideal.main_v3_3) = v2 c
          ∧ r.2.mem ((c.tc : Thread Cert.Kernel2Ideal.nD Cert.Kernel2Ideal.τ).loc Cert.Kernel2Ideal.main_v3_4) = v3 c
          ∧ r.2.mem ((c.tc : Thread Cert.Kernel2Ideal.nD Cert.Kernel2Ideal.τ).loc Cert.Kernel2Ideal.main_v3_5) = v4 c
          ∧ r.2.mem ((c.tc : Thread Cert.Kernel2Ideal.nD Cert.Kernel2Ideal.τ).loc Cert.Kernel2Ideal.main_v3_6) = v5 c
          ∧ r.2.mem ((c.tc : Thread Cert.Kernel2Ideal.nD Cert.Kernel2Ideal.τ).loc Cert.Kernel2Ideal.main_v3_7) = v6 c
          ∧ r.2.mem ((c.tc : Thread Cert.Kernel2Ideal.nD Cert.Kernel2Ideal.τ).loc Cert.Kernel2Ideal.main_v4_0) = v7 c
          ∧ r.2.mem ((c.tc : Thread Cert.Kernel2Ideal.nD Cert.Kernel2Ideal.τ).loc Cert.Kernel2Ideal.main_v4_1) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v21) = v5 c
          ∧ r.2.mem ((c.tc : Thread Cert.Reference2Ideal.nD Cert.Reference2Ideal.τ).loc Cert.Reference2Ideal.main_v22) = v6 c
          ∧ r.2.mem ((c.tc : Thread Cert.Reference2Ideal.nD Cert.Reference2Ideal.τ).loc Cert.Reference2Ideal.main_v51) = v7 c
          ∧ r.2.mem ((c.tc : Thread Cert.Reference2Ideal.nD Cert.Reference2Ideal.τ).loc Cert.Reference2Ideal.main_v34) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "inv_m" .f32 0x3FC48605#32 ((8388608 / 5463681 : ℝ) : EReal)
  ∧ IdealRules.named_const.Statement Cert.Kernel3Ideal.κ "inv_v" .f32 0x42C8E6D3#32 ((268435456 / 2672307 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)
      ∧ m' ((c.tc : Thread Cert.Reference3Ideal.nD Cert.Reference3Ideal.τ).loc Cert.Reference3Ideal.main_arg23) = m ((c.tc : Thread Cert.Kernel3Ideal.nD Cert.Kernel3Ideal.τ).loc Cert.Kernel3Ideal.main_arg23)
      ∧ m' ((c.tc : Thread Cert.Reference3Ideal.nD Cert.Reference3Ideal.τ).loc Cert.Reference3Ideal.main_arg24) = m ((c.tc : Thread Cert.Kernel3Ideal.nD Cert.Kernel3Ideal.τ).loc Cert.Kernel3Ideal.main_arg24)
      ∧ m' ((c.tc : Thread Cert.Reference3Ideal.nD Cert.Reference3Ideal.τ).loc Cert.Reference3Ideal.main_arg25) = m ((c.tc : Thread Cert.Kernel3Ideal.nD Cert.Kernel3Ideal.τ).loc Cert.Kernel3Ideal.main_arg25)
      ∧ m' ((c.tc : Thread Cert.Reference3Ideal.nD Cert.Reference3Ideal.τ).loc Cert.Reference3Ideal.main_arg26) = m ((c.tc : Thread Cert.Kernel3Ideal.nD Cert.Kernel3Ideal.τ).loc Cert.Kernel3Ideal.main_arg26)
      ∧ m' ((c.tc : Thread Cert.Reference3Ideal.nD Cert.Reference3Ideal.τ).loc Cert.Reference3Ideal.main_arg27) = m ((c.tc : Thread Cert.Kernel3Ideal.nD Cert.Kernel3Ideal.τ).loc Cert.Kernel3Ideal.main_arg27)
      ∧ m' ((c.tc : Thread Cert.Reference3Ideal.nD Cert.Reference3Ideal.τ).loc Cert.Reference3Ideal.main_arg28) = m ((c.tc : Thread Cert.Kernel3Ideal.nD Cert.Kernel3Ideal.τ).loc Cert.Kernel3Ideal.main_arg28)
      ∧ m' ((c.tc : Thread Cert.Reference3Ideal.nD Cert.Reference3Ideal.τ).loc Cert.Reference3Ideal.main_arg29) = m ((c.tc : Thread Cert.Kernel3Ideal.nD Cert.Kernel3Ideal.τ).loc Cert.Kernel3Ideal.main_arg29)
      ∧ m' ((c.tc : Thread Cert.Reference3Ideal.nD Cert.Reference3Ideal.τ).loc Cert.Reference3Ideal.main_arg30) = m ((c.tc : Thread Cert.Kernel3Ideal.nD Cert.Kernel3Ideal.τ).loc Cert.Kernel3Ideal.main_arg30)
      ∧ m' ((c.tc : Thread Cert.Reference3Ideal.nD Cert.Reference3Ideal.τ).loc Cert.Reference3Ideal.main_arg31) = m ((c.tc : Thread Cert.Kernel3Ideal.nD Cert.Kernel3Ideal.τ).loc Cert.Kernel3Ideal.main_arg31)) →
    ∃ (v0 : (c : Dev Cert.Kernel3Ideal.nD) → Buf (Elt Ideal) ((c.tc : Thread Cert.Kernel3Ideal.nD Cert.Kernel3Ideal.τ).loc Cert.Kernel3Ideal.main_v6)) (v1 : (c : Dev Cert.Kernel3Ideal.nD) → Buf (Elt Ideal) ((c.tc : Thread Cert.Kernel3Ideal.nD Cert.Kernel3Ideal.τ).loc Cert.Kernel3Ideal.main_v15)) (v2 : (c : Dev Cert.Kernel3Ideal.nD) → Buf (Elt Ideal) ((c.tc : Thread Cert.Kernel3Ideal.nD Cert.Kernel3Ideal.τ).loc Cert.Kernel3Ideal.main_v24)) (v3 : (c : Dev Cert.Kernel3Ideal.nD) → Buf (Elt Ideal) ((c.tc : Thread Cert.Kernel3Ideal.nD Cert.Kernel3Ideal.τ).loc Cert.Kernel3Ideal.main_v33)) (v4 : (c : Dev Cert.Kernel3Ideal.nD) → Buf (Elt Ideal) ((c.tc : Thread Cert.Kernel3Ideal.nD Cert.Kernel3Ideal.τ).loc Cert.Kernel3Ideal.main_v42)) (v5 : (c : Dev Cert.Kernel3Ideal.nD) → Buf (Elt Ideal) ((c.tc : Thread Cert.Kernel3Ideal.nD Cert.Kernel3Ideal.τ).loc Cert.Kernel3Ideal.main_v51)) (v6 : (c : Dev Cert.Kernel3Ideal.nD) → Buf (Elt Ideal) ((c.tc : Thread Cert.Kernel3Ideal.nD Cert.Kernel3Ideal.τ).loc Cert.Kernel3Ideal.main_v60)) (v7 : (c : Dev Cert.Kernel3Ideal.nD) → Buf (Elt Ideal) ((c.tc : Thread Cert.Kernel3Ideal.nD Cert.Kernel3Ideal.τ).loc Cert.Kernel3Ideal.main_v69)) (v8 : (c : Dev Cert.Kernel3Ideal.nD) → Buf (Elt Ideal) ((c.tc : Thread Cert.Kernel3Ideal.nD Cert.Kernel3Ideal.τ).loc Cert.Kernel3Ideal.main_v7)) (v9 : (c : Dev Cert.Kernel3Ideal.nD) → Buf (Elt Ideal) ((c.tc : Thread Cert.Kernel3Ideal.nD Cert.Kernel3Ideal.τ).loc Cert.Kernel3Ideal.main_v16)) (v10 : (c : Dev Cert.Kernel3Ideal.nD) → Buf (Elt Ideal) ((c.tc : Thread Cert.Kernel3Ideal.nD Cert.Kernel3Ideal.τ).loc Cert.Kernel3Ideal.main_v25)) (v11 : (c : Dev Cert.Kernel3Ideal.nD) → Buf (Elt Ideal) ((c.tc : Thread Cert.Kernel3Ideal.nD Cert.Kernel3Ideal.τ).loc Cert.Kernel3Ideal.main_v34)) (v12 : (c : Dev Cert.Kernel3Ideal.nD) → Buf (Elt Ideal) ((c.tc : Thread Cert.Kernel3Ideal.nD Cert.Kernel3Ideal.τ).loc Cert.Kernel3Ideal.main_v43)) (v13 : (c : Dev Cert.Kernel3Ideal.nD) → Buf (Elt Ideal) ((c.tc : Thread Cert.Kernel3Ideal.nD Cert.Kernel3Ideal.τ).loc Cert.Kernel3Ideal.main_v52)) (v14 : (c : Dev Cert.Kernel3Ideal.nD) → Buf (Elt Ideal) ((c.tc : Thread Cert.Kernel3Ideal.nD Cert.Kernel3Ideal.τ).loc Cert.Kernel3Ideal.main_v61)) (v15 : (c : Dev Cert.Kernel3Ideal.nD) → Buf (Elt Ideal) ((c.tc : Thread Cert.Kernel3Ideal.nD Cert.Kernel3Ideal.τ).loc Cert.Kernel3Ideal.main_v70)) (v16 : (c : Dev Cert.Kernel3Ideal.nD) → Buf (Elt Ideal) ((c.tc : Thread Cert.Kernel3Ideal.nD Cert.Kernel3Ideal.τ).loc Cert.Kernel3Ideal.main_v8)) (v17 : (c : Dev Cert.Kernel3Ideal.nD) → Buf (Elt Ideal) ((c.tc : Thread Cert.Kernel3Ideal.nD Cert.Kernel3Ideal.τ).loc Cert.Kernel3Ideal.main_v17)) (v18 : (c : Dev Cert.Kernel3Ideal.nD) → Buf (Elt Ideal) ((c.tc : Thread Cert.Kernel3Ideal.nD Cert.Kernel3Ideal.τ).loc Cert.Kernel3Ideal.main_v26)) (v19 : (c : Dev Cert.Kernel3Ideal.nD) → Buf (Elt Ideal) ((c.tc : Thread Cert.Kernel3Ideal.nD Cert.Kernel3Ideal.τ).loc Cert.Kernel3Ideal.main_v35)) (v20 : (c : Dev Cert.Kernel3Ideal.nD) → Buf (Elt Ideal) ((c.tc : Thread Cert.Kernel3Ideal.nD Cert.Kernel3Ideal.τ).loc Cert.Kernel3Ideal.main_v44)) (v21 : (c : Dev Cert.Kernel3Ideal.nD) → Buf (Elt Ideal) ((c.tc : Thread Cert.Kernel3Ideal.nD Cert.Kernel3Ideal.τ).loc Cert.Kernel3Ideal.main_v53)) (v22 : (c : Dev Cert.Kernel3Ideal.nD) → Buf (Elt Ideal) ((c.tc : Thread Cert.Kernel3Ideal.nD Cert.Kernel3Ideal.τ).loc Cert.Kernel3Ideal.main_v62)) (v23 : (c : Dev Cert.Kernel3Ideal.nD) → Buf (Elt Ideal) ((c.tc : Thread Cert.Kernel3Ideal.nD Cert.Kernel3Ideal.τ).loc Cert.Kernel3Ideal.main_v71)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_v15) = v1 c
          ∧ r.2.mem ((c.tc : Thread Cert.Kernel3Ideal.nD Cert.Kernel3Ideal.τ).loc Cert.Kernel3Ideal.main_v24) = v2 c
          ∧ r.2.mem ((c.tc : Thread Cert.Kernel3Ideal.nD Cert.Kernel3Ideal.τ).loc Cert.Kernel3Ideal.main_v33) = v3 c
          ∧ r.2.mem ((c.tc : Thread Cert.Kernel3Ideal.nD Cert.Kernel3Ideal.τ).loc Cert.Kernel3Ideal.main_v42) = v4 c
          ∧ r.2.mem ((c.tc : Thread Cert.Kernel3Ideal.nD Cert.Kernel3Ideal.τ).loc Cert.Kernel3Ideal.main_v51) = v5 c
          ∧ r.2.mem ((c.tc : Thread Cert.Kernel3Ideal.nD Cert.Kernel3Ideal.τ).loc Cert.Kernel3Ideal.main_v60) = v6 c
          ∧ r.2.mem ((c.tc : Thread Cert.Kernel3Ideal.nD Cert.Kernel3Ideal.τ).loc Cert.Kernel3Ideal.main_v69) = v7 c
          ∧ r.2.mem ((c.tc : Thread Cert.Kernel3Ideal.nD Cert.Kernel3Ideal.τ).loc Cert.Kernel3Ideal.main_v7) = v8 c
          ∧ r.2.mem ((c.tc : Thread Cert.Kernel3Ideal.nD Cert.Kernel3Ideal.τ).loc Cert.Kernel3Ideal.main_v16) = v9 c
          ∧ r.2.mem ((c.tc : Thread Cert.Kernel3Ideal.nD Cert.Kernel3Ideal.τ).loc Cert.Kernel3Ideal.main_v25) = v10 c
          ∧ r.2.mem ((c.tc : Thread Cert.Kernel3Ideal.nD Cert.Kernel3Ideal.τ).loc Cert.Kernel3Ideal.main_v34) = v11 c
          ∧ r.2.mem ((c.tc : Thread Cert.Kernel3Ideal.nD Cert.Kernel3Ideal.τ).loc Cert.Kernel3Ideal.main_v43) = v12 c
          ∧ r.2.mem ((c.tc : Thread Cert.Kernel3Ideal.nD Cert.Kernel3Ideal.τ).loc Cert.Kernel3Ideal.main_v52) = v13 c
          ∧ r.2.mem ((c.tc : Thread Cert.Kernel3Ideal.nD Cert.Kernel3Ideal.τ).loc Cert.Kernel3Ideal.main_v61) = v14 c
          ∧ r.2.mem ((c.tc : Thread Cert.Kernel3Ideal.nD Cert.Kernel3Ideal.τ).loc Cert.Kernel3Ideal.main_v70) = v15 c
          ∧ r.2.mem ((c.tc : Thread Cert.Kernel3Ideal.nD Cert.Kernel3Ideal.τ).loc Cert.Kernel3Ideal.main_v8) = v16 c
          ∧ r.2.mem ((c.tc : Thread Cert.Kernel3Ideal.nD Cert.Kernel3Ideal.τ).loc Cert.Kernel3Ideal.main_v17) = v17 c
          ∧ r.2.mem ((c.tc : Thread Cert.Kernel3Ideal.nD Cert.Kernel3Ideal.τ).loc Cert.Kernel3Ideal.main_v26) = v18 c
          ∧ r.2.mem ((c.tc : Thread Cert.Kernel3Ideal.nD Cert.Kernel3Ideal.τ).loc Cert.Kernel3Ideal.main_v35) = v19 c
          ∧ r.2.mem ((c.tc : Thread Cert.Kernel3Ideal.nD Cert.Kernel3Ideal.τ).loc Cert.Kernel3Ideal.main_v44) = v20 c
          ∧ r.2.mem ((c.tc : Thread Cert.Kernel3Ideal.nD Cert.Kernel3Ideal.τ).loc Cert.Kernel3Ideal.main_v53) = v21 c
          ∧ r.2.mem ((c.tc : Thread Cert.Kernel3Ideal.nD Cert.Kernel3Ideal.τ).loc Cert.Kernel3Ideal.main_v62) = v22 c
          ∧ r.2.mem ((c.tc : Thread Cert.Kernel3Ideal.nD Cert.Kernel3Ideal.τ).loc Cert.Kernel3Ideal.main_v71) = v23 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
          ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
          ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
          ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
          ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
          ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
          ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
          ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29)
          ∧ r.2.mem ((c.tc : Thread Cert.Kernel3Ideal.nD Cert.Kernel3Ideal.τ).loc Cert.Kernel3Ideal.main_arg30) = m ((c.tc : Thread Cert.Kernel3Ideal.nD Cert.Kernel3Ideal.τ).loc Cert.Kernel3Ideal.main_arg30)
          ∧ r.2.mem ((c.tc : Thread Cert.Kernel3Ideal.nD Cert.Kernel3Ideal.τ).loc Cert.Kernel3Ideal.main_arg31) = m ((c.tc : Thread Cert.Kernel3Ideal.nD Cert.Kernel3Ideal.τ).loc Cert.Kernel3Ideal.main_arg31))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_v143) = v5 c
          ∧ r.2.mem ((c.tc : Thread Cert.Reference3Ideal.nD Cert.Reference3Ideal.τ).loc Cert.Reference3Ideal.main_v167) = v6 c
          ∧ r.2.mem ((c.tc : Thread Cert.Reference3Ideal.nD Cert.Reference3Ideal.τ).loc Cert.Reference3Ideal.main_v191) = v7 c
          ∧ r.2.mem ((c.tc : Thread Cert.Reference3Ideal.nD Cert.Reference3Ideal.τ).loc Cert.Reference3Ideal.main_v4) = v8 c
          ∧ r.2.mem ((c.tc : Thread Cert.Reference3Ideal.nD Cert.Reference3Ideal.τ).loc Cert.Reference3Ideal.main_v28) = v9 c
          ∧ r.2.mem ((c.tc : Thread Cert.Reference3Ideal.nD Cert.Reference3Ideal.τ).loc Cert.Reference3Ideal.main_v52) = v10 c
          ∧ r.2.mem ((c.tc : Thread Cert.Reference3Ideal.nD Cert.Reference3Ideal.τ).loc Cert.Reference3Ideal.main_v76) = v11 c
          ∧ r.2.mem ((c.tc : Thread Cert.Reference3Ideal.nD Cert.Reference3Ideal.τ).loc Cert.Reference3Ideal.main_v100) = v12 c
          ∧ r.2.mem ((c.tc : Thread Cert.Reference3Ideal.nD Cert.Reference3Ideal.τ).loc Cert.Reference3Ideal.main_v124) = v13 c
          ∧ r.2.mem ((c.tc : Thread Cert.Reference3Ideal.nD Cert.Reference3Ideal.τ).loc Cert.Reference3Ideal.main_v148) = v14 c
          ∧ r.2.mem ((c.tc : Thread Cert.Reference3Ideal.nD Cert.Reference3Ideal.τ).loc Cert.Reference3Ideal.main_v172) = v15 c
          ∧ r.2.mem ((c.tc : Thread Cert.Reference3Ideal.nD Cert.Reference3Ideal.τ).loc Cert.Reference3Ideal.main_v10) = v16 c
          ∧ r.2.mem ((c.tc : Thread Cert.Reference3Ideal.nD Cert.Reference3Ideal.τ).loc Cert.Reference3Ideal.main_v34) = v17 c
          ∧ r.2.mem ((c.tc : Thread Cert.Reference3Ideal.nD Cert.Reference3Ideal.τ).loc Cert.Reference3Ideal.main_v58) = v18 c
          ∧ r.2.mem ((c.tc : Thread Cert.Reference3Ideal.nD Cert.Reference3Ideal.τ).loc Cert.Reference3Ideal.main_v82) = v19 c
          ∧ r.2.mem ((c.tc : Thread Cert.Reference3Ideal.nD Cert.Reference3Ideal.τ).loc Cert.Reference3Ideal.main_v106) = v20 c
          ∧ r.2.mem ((c.tc : Thread Cert.Reference3Ideal.nD Cert.Reference3Ideal.τ).loc Cert.Reference3Ideal.main_v130) = v21 c
          ∧ r.2.mem ((c.tc : Thread Cert.Reference3Ideal.nD Cert.Reference3Ideal.τ).loc Cert.Reference3Ideal.main_v154) = v22 c
          ∧ r.2.mem ((c.tc : Thread Cert.Reference3Ideal.nD Cert.Reference3Ideal.τ).loc Cert.Reference3Ideal.main_v178) = v23 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22)
          ∧ r.2.mem ((c.tc : Thread Cert.Reference3Ideal.nD Cert.Reference3Ideal.τ).loc Cert.Reference3Ideal.main_arg23) = m' ((c.tc : Thread Cert.Reference3Ideal.nD Cert.Reference3Ideal.τ).loc Cert.Reference3Ideal.main_arg23)
          ∧ r.2.mem ((c.tc : Thread Cert.Reference3Ideal.nD Cert.Reference3Ideal.τ).loc Cert.Reference3Ideal.main_arg24) = m' ((c.tc : Thread Cert.Reference3Ideal.nD Cert.Reference3Ideal.τ).loc Cert.Reference3Ideal.main_arg24)
          ∧ r.2.mem ((c.tc : Thread Cert.Reference3Ideal.nD Cert.Reference3Ideal.τ).loc Cert.Reference3Ideal.main_arg25) = m' ((c.tc : Thread Cert.Reference3Ideal.nD Cert.Reference3Ideal.τ).loc Cert.Reference3Ideal.main_arg25)
          ∧ r.2.mem ((c.tc : Thread Cert.Reference3Ideal.nD Cert.Reference3Ideal.τ).loc Cert.Reference3Ideal.main_arg26) = m' ((c.tc : Thread Cert.Reference3Ideal.nD Cert.Reference3Ideal.τ).loc Cert.Reference3Ideal.main_arg26)
          ∧ r.2.mem ((c.tc : Thread Cert.Reference3Ideal.nD Cert.Reference3Ideal.τ).loc Cert.Reference3Ideal.main_arg27) = m' ((c.tc : Thread Cert.Reference3Ideal.nD Cert.Reference3Ideal.τ).loc Cert.Reference3Ideal.main_arg27)
          ∧ r.2.mem ((c.tc : Thread Cert.Reference3Ideal.nD Cert.Reference3Ideal.τ).loc Cert.Reference3Ideal.main_arg28) = m' ((c.tc : Thread Cert.Reference3Ideal.nD Cert.Reference3Ideal.τ).loc Cert.Reference3Ideal.main_arg28)
          ∧ r.2.mem ((c.tc : Thread Cert.Reference3Ideal.nD Cert.Reference3Ideal.τ).loc Cert.Reference3Ideal.main_arg29) = m' ((c.tc : Thread Cert.Reference3Ideal.nD Cert.Reference3Ideal.τ).loc Cert.Reference3Ideal.main_arg29)
          ∧ r.2.mem ((c.tc : Thread Cert.Reference3Ideal.nD Cert.Reference3Ideal.τ).loc Cert.Reference3Ideal.main_arg30) = m' ((c.tc : Thread Cert.Reference3Ideal.nD Cert.Reference3Ideal.τ).loc Cert.Reference3Ideal.main_arg30)
          ∧ r.2.mem ((c.tc : Thread Cert.Reference3Ideal.nD Cert.Reference3Ideal.τ).loc Cert.Reference3Ideal.main_arg31) = m' ((c.tc : Thread Cert.Reference3Ideal.nD Cert.Reference3Ideal.τ).loc Cert.Reference3Ideal.main_arg31))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4096x1024 : Shape := ⟨2, ![4096, 1024]⟩
abbrev S4096x256 : Shape := ⟨2, ![4096, 256]⟩
abbrev S1024x1024 : Shape := ⟨2, ![1024, 1024]⟩
abbrev S1x1024 : Shape := ⟨2, ![1, 1024]⟩
abbrev S1024x4096 : Shape := ⟨2, ![1024, 4096]⟩
abbrev S256x1024 : Shape := ⟨2, ![256, 1024]⟩
abbrev S1024x4x1024 : Shape := ⟨3, ![1024, 4, 1024]⟩
abbrev S4x1024x1024 : Shape := ⟨3, ![4, 1024, 1024]⟩
abbrev S256x4x256 : Shape := ⟨3, ![256, 4, 256]⟩
abbrev S4x256x256 : Shape := ⟨3, ![4, 256, 256]⟩
abbrev S512x1024 : Shape := ⟨2, ![512, 1024]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S8x128 : Shape := ⟨2, ![8, 128]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩
abbrev S1024x256 : Shape := ⟨2, ![1024, 256]⟩
abbrev S1024x512 : Shape := ⟨2, ![1024, 512]⟩
abbrev S4096x512 : Shape := ⟨2, ![4096, 512]⟩

abbrev nBuf : Space → Nat
  | .hbm => 58
  | .vmem => 131
  | .smem => 0
  | _ => 0

abbrev vmemTy0_0 (i : Nat) : BufTy := match i % 128 with
  | 0 => ⟨S512x1024, .f32⟩
  | 1 => ⟨S512x1024, .f32⟩
  | 2 => ⟨S512x1024, .bf16⟩
  | 3 => ⟨S512x1024, .bf16⟩
  | 4 => ⟨S512x1024, .bf16⟩
  | 5 => ⟨S512x1024, .bf16⟩
  | 6 => ⟨S512x1024, .f32⟩
  | 7 => ⟨S512x1024, .f32⟩
  | 8 => ⟨S512x1024, .f32⟩
  | 9 => ⟨S512x1024, .f32⟩
  | 10 => ⟨S1024x1024, .bf16⟩
  | 11 => ⟨S1024x1024, .bf16⟩
  | 12 => ⟨S1024x1024, .bf16⟩
  | 13 => ⟨S512x1024, .f32⟩
  | 14 => ⟨S512x1024, .f32⟩
  | 15 => ⟨S512x1024, .bf16⟩
  | 16 => ⟨S512x1024, .bf16⟩
  | 17 => ⟨S256x1024, .f32⟩
  | 18 => ⟨S256x1024, .f32⟩
  | 19 => ⟨S1x1024, .f32⟩
  | 20 => ⟨S4x1024x1024, .bf16⟩
  | 21 => ⟨S4096x1024, .bf16⟩
  | 22 => ⟨S256x1024, .f32⟩
  | 23 => ⟨S256x1024, .f32⟩
  | 24 => ⟨S256x1024, .bf16⟩
  | 25 => ⟨S256x1024, .bf16⟩
  | 26 => ⟨S256x4096, .f32⟩
  | 27 => ⟨S256x4096, .f32⟩
  | 28 => ⟨S256x4096, .bf16⟩
  | 29 => ⟨S256x4096, .bf16⟩
  | 30 => ⟨S512x1024, .f32⟩
  | 31 => ⟨S512x1024, .f32⟩
  | 32 => ⟨S512x256, .f32⟩
  | 33 => ⟨S512x256, .f32⟩
  | 34 => ⟨S512x1024, .f32⟩
  | 35 => ⟨S512x1024, .f32⟩
  | 36 => ⟨S1x1024, .f32⟩
  | 37 => ⟨S1024x1024, .bf16⟩
  | 38 => ⟨S4x256x256, .bf16⟩
  | 39 => ⟨S8x128, .f32⟩
  | 40 => ⟨S512x1024, .f32⟩
  | 41 => ⟨S512x1024, .f32⟩
  | 42 => ⟨S512x256, .bf16⟩
  | 43 => ⟨S512x256, .bf16⟩
  | 44 => ⟨S512x1024, .bf16⟩
  | 45 => ⟨S512x1024, .bf16⟩
  | 46 => ⟨S512x1024, .bf16⟩
  | 47 => ⟨S512x1024, .bf16⟩
  | 48 => ⟨S512x1024, .bf16⟩
  | 49 => ⟨S512x1024, .bf16⟩
  | 50 => ⟨S1x1024, .f32⟩
  | 51 => ⟨S1024x256, .bf16⟩
  | 52 => ⟨S1024x256, .bf16⟩
  | 53 => ⟨S1024x1024, .bf16⟩
  | 54 => ⟨S1024x1024, .bf16⟩
  | 55 => ⟨S256x1024, .f32⟩
  | 56 => ⟨S1024x1024, .bf16⟩
  | 57 => ⟨S1024x1024, .bf16⟩
  | 58 => ⟨S1024x1024, .bf16⟩
  | 59 => ⟨S1024x1024, .bf16⟩
  | 60 => ⟨S1024x1024, .f32⟩
  | 61 => ⟨S256x1024, .f32⟩
  | 62 => ⟨S256x1024, .f32⟩
  | 63 => ⟨S256x4096, .f32⟩
  | 64 => ⟨S256x4096, .f32⟩
  | 65 => ⟨S256x1024, .f32⟩
  | 66 => ⟨S256x1024, .f32⟩
  | 67 => ⟨S1x1024, .f32⟩
  | 68 => ⟨S4x1024x1024, .bf16⟩
  | 69 => ⟨S4096x1024, .bf16⟩
  | 70 => ⟨S256x1024, .f32⟩
  | 71 => ⟨S256x1024, .f32⟩
  | 72 => ⟨S256x4096, .bf16⟩
  | 73 => ⟨S256x4096, .bf16⟩
  | 74 => ⟨S1x1024, .f32⟩
  | 75 => ⟨S1024x4096, .bf16⟩
  | 76 => ⟨S1024x4096, .bf16⟩
  | 77 => ⟨S1024x512, .f32⟩
  | 78 => ⟨S1024x512, .f32⟩
  | 79 => ⟨S4096x512, .f32⟩
  | 80 => ⟨S4096x512, .f32⟩
  | 81 => ⟨S4096x512, .bf16⟩
  | 82 => ⟨S4096x512, .bf16⟩
  | 83 => ⟨S1024x1024, .bf16⟩
  | 84 => ⟨S1024x1024, .bf16⟩
  | 85 => ⟨S1024x1024, .bf16⟩
  | 86 => ⟨S1024x1024, .bf16⟩
  | 87 => ⟨S1x1024x1024, .f32⟩
  | 88 => ⟨S1x1024x1024, .f32⟩
  | 89 => ⟨S1x1024x1024, .bf16⟩
  | 90 => ⟨S1x1024x1024, .bf16⟩
  | 91 => ⟨S512x1024, .f32⟩
  | 92 => ⟨S512x1024, .f32⟩
  | 93 => ⟨S512x1024, .f32⟩
  | 94 => ⟨S512x1024, .f32⟩
  | 95 => ⟨S512x1024, .f32⟩
  | 96 => ⟨S512x1024, .f32⟩
  | 97 => ⟨S512x1024, .bf16⟩
  | 98 => ⟨S512x1024, .bf16⟩
  | 99 => ⟨S512x1024, .bf16⟩
  | 100 => ⟨S512x1024, .bf16⟩
  | 101 => ⟨S1024x1024, .bf16⟩
  | 102 => ⟨S1024x1024, .bf16⟩
  | 103 => ⟨S1024x1024, .bf16⟩
  | 104 => ⟨S512x1024, .bf16⟩
  | 105 => ⟨S512x1024, .bf16⟩
  | 106 => ⟨S512x1024, .bf16⟩
  | 107 => ⟨S512x1024, .bf16⟩
  | 108 => ⟨S512x1024, .bf16⟩
  | 109 => ⟨S512x1024, .bf16⟩
  | 110 => ⟨S512x1024, .bf16⟩
  | 111 => ⟨S512x1024, .bf16⟩
  | 112 => ⟨S512x1024, .f32⟩
  | 113 => ⟨S512x1024, .f32⟩
  | 114 => ⟨S512x1024, .f32⟩
  | 115 => ⟨S512x1024, .f32⟩
  | 116 => ⟨S1024x1024, .bf16⟩
  | 117 => ⟨S1024x1024, .bf16⟩
  | 118 => ⟨S1024x1024, .bf16⟩
  | 119 => ⟨S1024x1024, .bf16⟩
  | 120 => ⟨S1024x1024, .f32⟩
  | 121 => ⟨S1024x1024, .bf16⟩
  | 122 => ⟨S1024x1024, .bf16⟩
  | 123 => ⟨S1024x1024, .bf16⟩
  | 124 => ⟨S1024x1024, .bf16⟩
  | 125 => ⟨S1024x1024, .f32⟩
  | 126 => ⟨S1024x1024, .bf16⟩
  | 127 => ⟨S1024x1024, .bf16⟩
  | _ => ⟨S4096x1024, .f32⟩

abbrev vmemTy0_1 (i : Nat) : BufTy := match i % 128 with
  | 0 => ⟨S1024x1024, .f32⟩
  | 1 => ⟨S1024x1024, .f32⟩
  | 2 => ⟨S1024x1024, .f32⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x256, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1024x4096, .f32⟩
  | .hbm, ⟨12, _⟩ => ⟨S4096x1024, .f32⟩
  | .hbm, ⟨13, _⟩ => ⟨S1x1024, .f32⟩
  | .hbm, ⟨14, _⟩ => ⟨S1024x1024, .f32⟩
  | .hbm, ⟨15, _⟩ => ⟨S256x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S4096x1024, .bf16⟩
  | .hbm, ⟨20, _⟩ => ⟨S1024x1024, .bf16⟩
  | .hbm, ⟨21, _⟩ => ⟨S1024x4096, .bf16⟩
  | .hbm, ⟨22, _⟩ => ⟨S1024x4x1024, .bf16⟩
  | .hbm, ⟨23, _⟩ => ⟨S4x1024x1024, .bf16⟩
  | .hbm, ⟨24, _⟩ => ⟨S256x1024, .bf16⟩
  | .hbm, ⟨25, _⟩ => ⟨S256x4x256, .bf16⟩
  | .hbm, ⟨26, _⟩ => ⟨S4x256x256, .bf16⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S4096x1024, .bf16⟩
  | .hbm, ⟨31, _⟩ => ⟨S4096x4096, .f32⟩
  | .hbm, ⟨32, _⟩ => ⟨S4096x4096, .bf16⟩
  | .hbm, ⟨33, _⟩ => ⟨S8x128, .f32⟩
  | .hbm, ⟨34, _⟩ => ⟨S4096x1024, .f32⟩
  | .hbm, ⟨35, _⟩ => ⟨S4096x256, .bf16⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S1x1024, .f32⟩
  | .hbm, ⟨40, _⟩ => ⟨S256x1024, .f32⟩
  | .hbm, ⟨41, _⟩ => ⟨S1024x1024, .f32⟩
  | .hbm, ⟨42, _⟩ => ⟨S4096x1024, .f32⟩
  | .hbm, ⟨43, _⟩ => ⟨S4096x4096, .bf16⟩
  | .hbm, ⟨44, _⟩ => ⟨S1x1024, .f32⟩
  | .hbm, ⟨45, _⟩ => ⟨S4096x1024, .f32⟩
  | .hbm, ⟨46, _⟩ => ⟨S4096x1024, .bf16⟩
  | .hbm, ⟨47, _⟩ => ⟨S4x1024x1024, .f32⟩
  | .hbm, ⟨48, _⟩ => ⟨S4x1024x1024, .bf16⟩
  | .hbm, ⟨49, _⟩ => ⟨S4096x1024, .bf16⟩
  | .hbm, ⟨50, _⟩ => ⟨S4096x1024, .bf16⟩
  | .hbm, ⟨51, _⟩ => ⟨S4096x1024, .bf16⟩
  | .hbm, ⟨52, _⟩ => ⟨S4096x1024, .bf16⟩
  | .hbm, ⟨53, _⟩ => ⟨S4096x1024, .f32⟩
  | .hbm, ⟨54, _⟩ => ⟨S4096x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .local _ .vmem, ⟨i, _⟩ => vmemTy i
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 131 → Bool
  | ⟨i, _⟩ => dmaSemScopedAt i

abbrev sig : RefSig :=
  ofTc nBuf bufTy 0 131 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v12_3 : Ref sig .tc := ⟨.hbm, 32, rfl⟩
abbrev main_v13_0 : Ref sig .tc := ⟨.hbm, 33, rfl⟩
abbrev main_v13_1 : Ref sig .tc := ⟨.hbm, 34, rfl⟩
abbrev main_v13_2 : Ref sig .tc := ⟨.hbm, 35, rfl⟩
abbrev main_v13_3 : Ref sig .tc := ⟨.hbm, 36, rfl⟩
abbrev main_v13_4 : Ref sig .tc := ⟨.hbm, 37, rfl⟩
abbrev main_v13_5 : Ref sig .tc := ⟨.hbm, 38, rfl⟩
abbrev main_v13_6 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v17_0 : Ref sig .tc := ⟨.hbm, 45, rfl⟩
abbrev main_v17_1 : Ref sig .tc := ⟨.hbm, 46, rfl⟩
abbrev main_v18_0 : Ref sig .tc := ⟨.hbm, 47, rfl⟩
abbrev main_v18_1 : Ref sig .tc := ⟨.hbm, 48, rfl⟩
abbrev main_v19_0 : Ref sig .tc := ⟨.hbm, 49, rfl⟩
abbrev main_v19_1 : Ref sig .tc := ⟨.hbm, 50, rfl⟩
abbrev main_v19_2 : Ref sig .tc := ⟨.hbm, 51, rfl⟩
abbrev main_v19_3 : Ref sig .tc := ⟨.hbm, 52, rfl⟩
abbrev main_v19_4 : Ref sig .tc := ⟨.hbm, 53, rfl⟩
abbrev main_v19_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc2_stg10_0 : Ref sig .tc := ⟨.vmem, 46, rfl⟩
abbrev cc2_stg10_1 : Ref sig .tc := ⟨.vmem, 47, rfl⟩
abbrev cc2_stg11_0 : Ref sig .tc := ⟨.vmem, 48, rfl⟩
abbrev cc2_stg11_1 : Ref sig .tc := ⟨.vmem, 49, rfl⟩
abbrev cc2_stg12_0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg6_1 : Ref sig .tc := ⟨.vmem, 71, rfl⟩
abbrev cc5_stg7_0 : Ref sig .tc := ⟨.vmem, 72, rfl⟩
abbrev cc5_stg7_1 : Ref sig .tc := ⟨.vmem, 73, rfl⟩
abbrev cc5_stg8_0 : Ref sig .tc := ⟨.vmem, 74, rfl⟩
abbrev cc6_stg0_0 : Ref sig .tc := ⟨.vmem, 75, rfl⟩
abbrev cc6_stg0_1 : Ref sig .tc := ⟨.vmem, 76, rfl⟩
abbrev cc6_stg1_0 : Ref sig .tc := ⟨.vmem, 77, rfl⟩
abbrev cc6_stg1_1 : Ref sig .tc := ⟨.vmem, 78, rfl⟩
abbrev cc6_stg2_0 : Ref sig .tc := ⟨.vmem, 79, rfl⟩
abbrev cc6_stg2_1 : Ref sig .tc := ⟨.vmem, 80, rfl⟩
abbrev cc6_stg3_0 : Ref sig .tc := ⟨.vmem, 81, rfl⟩
abbrev cc6_stg3_1 : Ref sig .tc := ⟨.vmem, 82, rfl⟩
abbrev cc7_stg0_0 : Ref sig .tc := ⟨.vmem, 83, rfl⟩
abbrev cc7_stg0_1 : Ref sig .tc := ⟨.vmem, 84, rfl⟩
abbrev cc7_stg1_0 : Ref sig .tc := ⟨.vmem, 85, rfl⟩
abbrev cc7_stg1_1 : Ref sig .tc := ⟨.vmem, 86, rfl⟩
abbrev cc7_stg2_0 : Ref sig .tc := ⟨.vmem, 87, rfl⟩
abbrev cc7_stg2_1 : Ref sig .tc := ⟨.vmem, 88, rfl⟩
abbrev cc7_stg3_0 : Ref sig .tc := ⟨.vmem, 89, rfl⟩
abbrev cc7_stg3_1 : Ref sig .tc := ⟨.vmem, 90, rfl⟩
abbrev cc8_stg0_0 : Ref sig .tc := ⟨.vmem, 91, rfl⟩
abbrev cc8_stg0_1 : Ref sig .tc := ⟨.vmem, 92, rfl⟩
abbrev cc8_stg1_0 : Ref sig .tc := ⟨.vmem, 93, rfl⟩
abbrev cc8_stg1_1 : Ref sig .tc := ⟨.vmem, 94, rfl⟩
abbrev cc8_stg2_0 : Ref sig .tc := ⟨.vmem, 95, rfl⟩
abbrev cc8_stg2_1 : Ref sig .tc := ⟨.vmem, 96, rfl⟩
abbrev cc8_stg3_0 : Ref sig .tc := ⟨.vmem, 97, rfl⟩
abbrev cc8_stg3_1 : Ref sig .tc := ⟨.vmem, 98, rfl⟩
abbrev cc8_stg4_0 : Ref sig .tc := ⟨.vmem, 99, rfl⟩
abbrev cc8_stg4_1 : Ref sig .tc := ⟨.vmem, 100, rfl⟩
abbrev cc8_stg5_0 : Ref sig .tc := ⟨.vmem, 101, rfl⟩
abbrev cc8_stg6_0 : Ref sig .tc := ⟨.vmem, 102, rfl⟩
abbrev cc8_stg7_0 : Ref sig .tc := ⟨.vmem, 103, rfl⟩
abbrev cc8_stg8_0 : Ref sig .tc := ⟨.vmem, 104, rfl⟩
abbrev cc8_stg8_1 : Ref sig .tc := ⟨.vmem, 105, rfl⟩
abbrev cc8_stg9_0 : Ref sig .tc := ⟨.vmem, 106, rfl⟩
abbrev cc8_stg9_1 : Ref sig .tc := ⟨.vmem, 107, rfl⟩
abbrev cc8_stg10_0 : Ref sig .tc := ⟨.vmem, 108, rfl⟩
abbrev cc8_stg10_1 : Ref sig .tc := ⟨.vmem, 109, rfl⟩
abbrev cc8_stg11_0 : Ref sig .tc := ⟨.vmem, 110, rfl⟩
abbrev cc8_stg11_1 : Ref sig .tc := ⟨.vmem, 111, rfl⟩
abbrev cc8_stg12_0 : Ref sig .tc := ⟨.vmem, 112, rfl⟩
abbrev cc8_stg12_1 : Ref sig .tc := ⟨.vmem, 113, rfl⟩
abbrev cc8_stg13_0 : Ref sig .tc := ⟨.vmem, 114, rfl⟩
abbrev cc8_stg13_1 : Ref sig .tc := ⟨.vmem, 115, rfl⟩
abbrev cc9_stg0_0 : Ref sig .tc := ⟨.vmem, 116, rfl⟩
abbrev cc9_stg0_1 : Ref sig .tc := ⟨.vmem, 117, rfl⟩
abbrev cc9_stg1_0 : Ref sig .tc := ⟨.vmem, 118, rfl⟩
abbrev cc9_stg1_1 : Ref sig .tc := ⟨.vmem, 119, rfl⟩
abbrev cc9_stg2_0 : Ref sig .tc := ⟨.vmem, 120, rfl⟩
abbrev cc10_stg0_0 : Ref sig .tc := ⟨.vmem, 121, rfl⟩
abbrev cc10_stg0_1 : Ref sig .tc := ⟨.vmem, 122, rfl⟩
abbrev cc10_stg1_0 : Ref sig .tc := ⟨.vmem, 123, rfl⟩
abbrev cc10_stg1_1 : Ref sig .tc := ⟨.vmem, 124, rfl⟩
abbrev cc10_stg2_0 : Ref sig .tc := ⟨.vmem, 125, rfl⟩
abbrev cc11_stg0_0 : Ref sig .tc := ⟨.vmem, 126, rfl⟩
abbrev cc11_stg0_1 : Ref sig .tc := ⟨.vmem, 127, rfl⟩
abbrev cc11_stg1_0 : Ref sig .tc := ⟨.vmem, 128, rfl⟩
abbrev cc11_stg1_1 : Ref sig .tc := ⟨.vmem, 129, rfl⟩
abbrev cc11_stg2_0 : Ref sig .tc := ⟨.vmem, 130, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41
abbrev cc2_sem8_0 : DmaSem sig := 42
abbrev cc2_sem8_1 : DmaSem sig := 43
abbrev cc2_sem9_0 : DmaSem sig := 44
abbrev cc2_sem9_1 : DmaSem sig := 45
abbrev cc2_sem10_0 : DmaSem sig := 46
abbrev cc2_sem10_1 : DmaSem sig := 47
abbrev cc2_sem11_0 : DmaSem sig := 48
abbrev cc2_sem11_1 : DmaSem sig := 49
abbrev cc2_sem12_0 : DmaSem sig := 50
abbrev cc3_sem0_0 : DmaSem sig := 51
abbrev cc3_sem0_1 : DmaSem sig := 52
abbrev cc3_sem1_0 : DmaSem sig := 53
abbrev cc3_sem1_1 : DmaSem sig := 54
abbrev cc3_sem2_0 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem2_1 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem6_1 : DmaSem sig := 71
abbrev cc5_sem7_0 : DmaSem sig := 72
abbrev cc5_sem7_1 : DmaSem sig := 73
abbrev cc5_sem8_0 : DmaSem sig := 74
abbrev cc6_sem0_0 : DmaSem sig := 75
abbrev cc6_sem0_1 : DmaSem sig := 76
abbrev cc6_sem1_0 : DmaSem sig := 77
abbrev cc6_sem1_1 : DmaSem sig := 78
abbrev cc6_sem2_0 : DmaSem sig := 79
abbrev cc6_sem2_1 : DmaSem sig := 80
abbrev cc6_sem3_0 : DmaSem sig := 81
abbrev cc6_sem3_1 : DmaSem sig := 82
abbrev cc7_sem0_0 : DmaSem sig := 83
abbrev cc7_sem0_1 : DmaSem sig := 84
abbrev cc7_sem1_0 : DmaSem sig := 85
abbrev cc7_sem1_1 : DmaSem sig := 86
abbrev cc7_sem2_0 : DmaSem sig := 87
abbrev cc7_sem2_1 : DmaSem sig := 88
abbrev cc7_sem3_0 : DmaSem sig := 89
abbrev cc7_sem3_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem3_1 : DmaSem sig := 98
abbrev cc8_sem4_0 : DmaSem sig := 99
abbrev cc8_sem4_1 : DmaSem sig := 100
abbrev cc8_sem5_0 : DmaSem sig := 101
abbrev cc8_sem6_0 : DmaSem sig := 102
abbrev cc8_sem7_0 : DmaSem sig := 103
abbrev cc8_sem8_0 : DmaSem sig := 104
abbrev cc8_sem8_1 : DmaSem sig := 105
abbrev cc8_sem9_0 : DmaSem sig := 106
abbrev cc8_sem9_1 : DmaSem sig := 107
abbrev cc8_sem10_0 : DmaSem sig := 108
abbrev cc8_sem10_1 : DmaSem sig := 109
abbrev cc8_sem11_0 : DmaSem sig := 110
abbrev cc8_sem11_1 : DmaSem sig := 111
abbrev cc8_sem12_0 : DmaSem sig := 112
abbrev cc8_sem12_1 : DmaSem sig := 113
abbrev cc8_sem13_0 : DmaSem sig := 114
abbrev cc8_sem13_1 : DmaSem sig := 115
abbrev cc9_sem0_0 : DmaSem sig := 116
abbrev cc9_sem0_1 : DmaSem sig := 117
abbrev cc9_sem1_0 : DmaSem sig := 118
abbrev cc9_sem1_1 : DmaSem sig := 119
abbrev cc9_sem2_0 : DmaSem sig := 120
abbrev cc10_sem0_0 : DmaSem sig := 121
abbrev cc10_sem0_1 : DmaSem sig := 122
abbrev cc10_sem1_0 : DmaSem sig := 123
abbrev cc10_sem1_1 : DmaSem sig := 124
abbrev cc10_sem2_0 : DmaSem sig := 125
abbrev cc11_sem0_0 : DmaSem sig := 126
abbrev cc11_sem0_1 : DmaSem sig := 127
abbrev cc11_sem1_0 : DmaSem sig := 128
abbrev cc11_sem1_1 : DmaSem sig := 129
abbrev cc11_sem2_0 : DmaSem sig := 130

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x1024 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4x1024x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4096x1024 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S256x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x4096 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := ⟨2, ![2, 4], ![false, false]⟩

def k6_cond2 (i : grid6.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S4096x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S4096x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![4, 4], ![false, false]⟩

def k7_cond2 (i : grid7.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1024x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1x1024x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1024x1024 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1024x1024 .bf16 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1024x1024 .bf16 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S512x1024 .bf16 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 2 → Memref sig .tc .vmem S512x1024 .bf16 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S512x1024 .bf16 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S512x1024 .bf16 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev stage8_12 : Fin 2 → Memref sig .tc .vmem S512x1024 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

abbrev stage8_13 : Fin 2 → Memref sig .tc .vmem S512x1024 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

abbrev grid9 : Pipeline.Grid := ⟨2, ![1, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1024x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev grid10 : Pipeline.Grid := ⟨2, ![1, 4], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S1024x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S1024x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, false]

abbrev grid11 : Pipeline.Grid := ⟨2, ![1, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 2 → Memref sig .tc .vmem S1024x1024 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, true]

abbrev stage11_2 : Fin 1 → Memref sig .tc .vmem S1024x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, false]
-- ==== ReferenceIdeal.lean ====
abbrev S4096x1024 : Shape := ⟨2, ![4096, 1024]⟩
abbrev S4096x256 : Shape := ⟨2, ![4096, 256]⟩
abbrev S1024x1024 : Shape := ⟨2, ![1024, 1024]⟩
abbrev S1x1024 : Shape := ⟨2, ![1, 1024]⟩
abbrev S1024x4096 : Shape := ⟨2, ![1024, 4096]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1024x256 : Shape := ⟨2, ![1024, 256]⟩
abbrev S8x128 : Shape := ⟨2, ![8, 128]⟩
abbrev S1024x4x1024 : Shape := ⟨3, ![1024, 4, 1024]⟩
abbrev S4x1024x1024 : Shape := ⟨3, ![4, 1024, 1024]⟩

abbrev nBuf : Space → Nat
  | .hbm => 227
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x1024, .f32⟩
  | 4 => ⟨S4096x1024, .f32⟩
  | 5 => ⟨S4096x256, .f32⟩
  | 6 => ⟨S4096x1024, .f32⟩
  | 7 => ⟨S1024x1024, .f32⟩
  | 8 => ⟨S1024x1024, .f32⟩
  | 9 => ⟨S1024x1024, .f32⟩
  | 10 => ⟨S1x1024, .f32⟩
  | 11 => ⟨S1024x4096, .f32⟩
  | 12 => ⟨S4096x1024, .f32⟩
  | 13 => ⟨S1x1024, .f32⟩
  | 14 => ⟨S1024x1024, .f32⟩
  | 15 => ⟨S256x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S4096x1024, .f32⟩
  | 67 => ⟨S4096x1024, .f32⟩
  | 68 => ⟨S4096x4096, .f32⟩
  | 69 => ⟨S_, .f32⟩
  | 70 => ⟨S4096x4096, .f32⟩
  | 71 => ⟨S4096x4096, .f32⟩
  | 72 => ⟨S_, .f32⟩
  | 73 => ⟨S4096x4096, .f32⟩
  | 74 => ⟨S4096x4096, .i1⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S4096x1024, .f32⟩
  | 82 => ⟨S4096x1024, .f32⟩
  | 83 => ⟨S4096x1024, .f32⟩
  | 84 => ⟨S4096x1024, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096, .f32⟩
  | 125 => ⟨S_, .f32⟩
  | 126 => ⟨S4096, .f32⟩
  | 127 => ⟨S4096, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S4096, .f32⟩
  | 8 => ⟨S_, .f32⟩
  | 9 => ⟨S4096, .f32⟩
  | 10 => ⟨S4096, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S1024x1024, .f32⟩
  | 17 => ⟨S1024x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S4096x1024, .f32⟩
  | 30 => ⟨S4096x1024, .f32⟩
  | 31 => ⟨S4096x1024, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S1024x256, .f32⟩
  | 44 => ⟨S256x1024, .f32⟩
  | 45 => ⟨S1024x4096, .f32⟩
  | 46 => ⟨S4096x1024, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x1024, .f32⟩
  | 53 => ⟨S1024x4096, .f32⟩
  | 54 => ⟨S4096x1024, .f32⟩
  | 55 => ⟨S4096x1024, .f32⟩
  | 56 => ⟨S_, .f32⟩
  | 57 => ⟨S1024, .f32⟩
  | 58 => ⟨S1x1024, .f32⟩
  | 59 => ⟨S4096x1024, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S4096x1024, .f32⟩
  | 66 => ⟨S4096x1024, .f32⟩
  | 67 => ⟨S4096x1024, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S1024x1024, .f32⟩
  | 80 => ⟨S1024x1024, .f32⟩
  | 81 => ⟨S4096x1024, .f32⟩
  | 82 => ⟨S4096x1024, .f32⟩
  | 83 => ⟨S4096x1024, .f32⟩
  | 84 => ⟨S1024x1024, .f32⟩
  | 85 => ⟨S1024x1024, .f32⟩
  | 86 => ⟨S4096x1024, .f32⟩
  | 87 => ⟨S4096x1024, .f32⟩
  | 88 => ⟨S4096x1024, .f32⟩
  | 89 => ⟨S4096x1024, .f32⟩
  | 90 => ⟨S1024x1024, .f32⟩
  | 91 => ⟨S1024x1024, .f32⟩
  | 92 => ⟨S4096x1024, .f32⟩
  | 93 => ⟨S4096x1024, .f32⟩
  | 94 => ⟨S8x128, .f32⟩
  | 95 => ⟨S4096x1024, .bf16⟩
  | 96 => ⟨S4096x1024, .bf16⟩
  | 97 => ⟨S1024x4x1024, .f32⟩
  | 98 => ⟨S4x1024x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call0_cst : Ref sig .tc := ⟨.hbm, 69, rfl⟩
abbrev main_call0_v0 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_cst_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_cst_17 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_cst_20 : Ref sig .tc := ⟨.hbm, 123, rfl⟩
abbrev main_v84 : Ref sig .tc := ⟨.hbm, 124, rfl⟩
abbrev main_cst_21 : Ref sig .tc := ⟨.hbm, 125, rfl⟩
abbrev main_v85 : Ref sig .tc := ⟨.hbm, 126, rfl⟩
abbrev main_v86 : Ref sig .tc := ⟨.hbm, 127, rfl⟩
abbrev main_cst_22 : Ref sig .tc := ⟨.hbm, 128, rfl⟩
abbrev main_v87 : Ref sig .tc := ⟨.hbm, 129, rfl⟩
abbrev main_cst_23 : Ref sig .tc := ⟨.hbm, 130, rfl⟩
abbrev main_v88 : Ref sig .tc := ⟨.hbm, 131, rfl⟩
abbrev main_cst_24 : Ref sig .tc := ⟨.hbm, 132, rfl⟩
abbrev main_cst_25 : Ref sig .tc := ⟨.hbm, 133, rfl⟩
abbrev main_v89 : Ref sig .tc := ⟨.hbm, 134, rfl⟩
abbrev main_v90 : Ref sig .tc := ⟨.hbm, 135, rfl⟩
abbrev main_cst_26 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_27 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_28 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_29 : Ref sig .tc := ⟨.hbm, 161, rfl⟩
abbrev main_v113 : Ref sig .tc := ⟨.hbm, 162, rfl⟩
abbrev main_v114 : Ref sig .tc := ⟨.hbm, 163, rfl⟩
abbrev main_cst_30 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_31 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_32 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_33 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_34 : Ref sig .tc := ⟨.hbm, 197, rfl⟩
abbrev main_v144 : Ref sig .tc := ⟨.hbm, 198, rfl⟩
abbrev main_v145 : Ref sig .tc := ⟨.hbm, 199, rfl⟩
abbrev main_cst_35 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S4096x256 : Shape := ⟨2, ![4096, 256]⟩
abbrev S1024x4x1408 : Shape := ⟨3, ![1024, 4, 1408]⟩
abbrev S4x1024x1408 : Shape := ⟨3, ![4, 1024, 1408]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S512x384 : Shape := ⟨2, ![512, 384]⟩
abbrev S512x640 : Shape := ⟨2, ![512, 640]⟩
abbrev S512x768 : Shape := ⟨2, ![512, 768]⟩
abbrev S512x5632 : Shape := ⟨2, ![512, 5632]⟩
abbrev S1024 : Shape := ⟨1, ![1024]⟩

abbrev nBuf : Space → Nat
  | .hbm => 24
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x256, .bf16⟩
  | .hbm, ⟨8, _⟩ => ⟨S4096x256, .bf16⟩
  | .hbm, ⟨9, _⟩ => ⟨S4096x1024, .bf16⟩
  | .hbm, ⟨10, _⟩ => ⟨S4096x1024, .bf16⟩
  | .hbm, ⟨11, _⟩ => ⟨S1024x5632, .bf16⟩
  | .hbm, ⟨12, _⟩ => ⟨S1024x4x1408, .bf16⟩
  | .hbm, ⟨13, _⟩ => ⟨S4x1024x1408, .bf16⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x256, .f32⟩
  | .hbm, ⟨19, _⟩ => ⟨S4096x256, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S4x1024x1408, .bf16⟩
  | .local _ .vmem, ⟨35, _⟩ => ⟨S512x1024, .f32⟩
  | .local _ .vmem, ⟨36, _⟩ => ⟨S512x1024, .f32⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1x1024, .f32⟩
  | .local _ .vmem, ⟨43, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v4_0 : Ref sig .tc := ⟨.hbm, 22, rfl⟩
abbrev main_v4_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem8_0 : DmaSem sig := 35
abbrev cc1_sem8_1 : DmaSem sig := 36
abbrev cc1_sem9_0 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x1024x1408 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x256, .bf16⟩
  | .hbm, ⟨8, _⟩ => ⟨S4096x256, .bf16⟩
  | .hbm, ⟨9, _⟩ => ⟨S4096x1024, .bf16⟩
  | .hbm, ⟨10, _⟩ => ⟨S4096x1024, .bf16⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x256, .f32⟩
  | .hbm, ⟨35, _⟩ => ⟨S4096x256, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x256, .f32⟩
  | .hbm, ⟨42, _⟩ => ⟨S4096x256, .f32⟩
  | .hbm, ⟨43, _⟩ => ⟨S4096x1024, .f32⟩
  | .hbm, ⟨44, _⟩ => ⟨S4096x1024, .f32⟩
  | .hbm, ⟨45, _⟩ => ⟨S4096x5632, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel3.lean ====
abbrev S1x1024x1408 : Shape := ⟨3, ![1, 1024, 1408]⟩
abbrev S1x256x1024 : Shape := ⟨3, ![1, 256, 1024]⟩
abbrev S1x1024x1024 : Shape := ⟨3, ![1, 1024, 1024]⟩
abbrev S1x256x256 : Shape := ⟨3, ![1, 256, 256]⟩
abbrev S1024x1408 : Shape := ⟨2, ![1024, 1408]⟩
abbrev S256x1408 : Shape := ⟨2, ![256, 1408]⟩
abbrev S256x1024 : Shape := ⟨2, ![256, 1024]⟩
abbrev S128x1024 : Shape := ⟨2, ![128, 1024]⟩
abbrev S1024x1024 : Shape := ⟨2, ![1024, 1024]⟩
abbrev S256x256 : Shape := ⟨2, ![256, 256]⟩
abbrev S128x256 : Shape := ⟨2, ![128, 256]⟩

abbrev nBuf : Space → Nat
  | .hbm => 128
  | .vmem => 128
  | .smem => 0
  | _ => 0

abbrev bufTy : (tb : Table) → Fin (tcTables nBuf tb) → BufTy
  | .hbm, ⟨0, _⟩ => ⟨S1x1024x1408, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x1024x1024, .f32⟩
  | .hbm, ⟨5, _⟩ => ⟨S1x1024x1024, .f32⟩
  | .hbm, ⟨6, _⟩ => ⟨S1x256x1024, .f32⟩
  | .hbm, ⟨7, _⟩ => ⟨S1x256x256, .f32⟩
  | .hbm, ⟨8, _⟩ => ⟨S1x1024x1408, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S1x1024x1024, .f32⟩
  | .hbm, ⟨13, _⟩ => ⟨S1x1024x1024, .f32⟩
  | .hbm, ⟨14, _⟩ => ⟨S1x256x1024, .f32⟩
  | .hbm, ⟨15, _⟩ => ⟨S1x256x256, .f32⟩
  | .hbm, ⟨16, _⟩ => ⟨S1x1024x1408, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S1x1024x1024, .f32⟩
  | .hbm, ⟨21, _⟩ => ⟨S1x1024x1024, .f32⟩
  | .hbm, ⟨22, _⟩ => ⟨S1x256x1024, .f32⟩
  | .hbm, ⟨23, _⟩ => ⟨S1x256x256, .f32⟩
  | .hbm, ⟨24, _⟩ => ⟨S1x1024x1408, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S1x1024x1024, .f32⟩
  | .hbm, ⟨29, _⟩ => ⟨S1x1024x1024, .f32⟩
  | .hbm, ⟨30, _⟩ => ⟨S1x256x1024, .f32⟩
  | .hbm, ⟨31, _⟩ => ⟨S1x256x256, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S1x1024x1408, .f32⟩
  | .hbm, ⟨41, _⟩ => ⟨S1x1024x1408, .f32⟩
  | .hbm, ⟨42, _⟩ => ⟨S1x1024x1408, .f32⟩
  | .hbm, ⟨43, _⟩ => ⟨S1x1024x1408, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S1x256x1024, .f32⟩
  | .hbm, ⟨53, _⟩ => ⟨S1x256x1024, .f32⟩
  | .hbm, ⟨54, _⟩ => ⟨S1x256x1024, .f32⟩
  | .hbm, ⟨55, _⟩ => ⟨S1x256x1024, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S1x256x1024, .f32⟩
  | .hbm, ⟨65, _⟩ => ⟨S1x256x1024, .f32⟩
  | .hbm, ⟨66, _⟩ => ⟨S1x256x1024, .f32⟩
  | .hbm, ⟨67, _⟩ => ⟨S1x256x1024, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S256x1024, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S256x1024, .f32⟩
  | .hbm, ⟨76, _⟩ => ⟨S1x256x1024, .f32⟩
  | .hbm, ⟨77, _⟩ => ⟨S1x256x1024, .f32⟩
  | .hbm, ⟨78, _⟩ => ⟨S1x256x1024, .f32⟩
  | .hbm, ⟨79, _⟩ => ⟨S1x256x1024, .f32⟩
  | .hbm, ⟨80, _⟩ => ⟨S1024x1024, .f32⟩
  | .hbm, ⟨81, _⟩ => ⟨S1024x1024, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S1x1024x1024, .f32⟩
  | .hbm, ⟨89, _⟩ => ⟨S1x1024x1024, .f32⟩
  | .hbm, ⟨90, _⟩ => ⟨S1x1024x1024, .f32⟩
  | .hbm, ⟨91, _⟩ => ⟨S1x1024x1024, .f32⟩
  | .hbm, ⟨92, _⟩ => ⟨S1024x1024, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S1024x1024, .f32⟩
  | .hbm, ⟨99, _⟩ => ⟨S1024x1024, .f32⟩
  | .hbm, ⟨100, _⟩ => ⟨S1x1024x1024, .f32⟩
  | .hbm, ⟨101, _⟩ => ⟨S1x1024x1024, .f32⟩
  | .hbm, ⟨102, _⟩ => ⟨S1x1024x1024, .f32⟩
  | .hbm, ⟨103, _⟩ => ⟨S1x1024x1024, .f32⟩
  | .hbm, ⟨104, _⟩ => ⟨S256x1024, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S256x1024, .f32⟩
  | .hbm, ⟨109, _⟩ => ⟨S256x1024, .f32⟩
  | .hbm, ⟨110, _⟩ => ⟨S256x1024, .f32⟩
  | .hbm, ⟨111, _⟩ => ⟨S256x1024, .f32⟩
  | .hbm, ⟨112, _⟩ => ⟨S1x256x1024, .f32⟩
  | .hbm, ⟨113, _⟩ => ⟨S1x256x1024, .f32⟩
  | .hbm, ⟨114, _⟩ => ⟨S1x256x1024, .f32⟩
  | .hbm, ⟨115, _⟩ => ⟨S1x256x1024, .f32⟩
  | .hbm, ⟨116, _⟩ => ⟨S256x256, .f32⟩
  | .hbm, ⟨117, _⟩ => ⟨S256x256, .f32⟩
  | .hbm, ⟨118, _⟩ => ⟨S256x256, .f32⟩
  | .hbm, ⟨119, _⟩ => ⟨S256x256, .f32⟩
  | .hbm, ⟨120, _⟩ => ⟨S256x256, .f32⟩
  | .hbm, ⟨121, _⟩ => ⟨S256x256, .f32⟩
  | .hbm, ⟨122, _⟩ => ⟨S256x256, .f32⟩
  | .hbm, ⟨123, _⟩ => ⟨S256x256, .f32⟩
  | .hbm, ⟨124, _⟩ => ⟨S1x256x256, .f32⟩
  | .hbm, ⟨125, _⟩ => ⟨S1x256x256, .f32⟩
  | .hbm, ⟨126, _⟩ => ⟨S1x256x256, .f32⟩
  | .hbm, ⟨127, _⟩ => ⟨S1x256x256, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S128x1024, .f32⟩
  | .local _ .vmem, ⟨49, _⟩ => ⟨S128x1024, .f32⟩
  | .local _ .vmem, ⟨50, _⟩ => ⟨S128x1024, .f32⟩
  | .local _ .vmem, ⟨51, _⟩ => ⟨S128x1024, .f32⟩
  | .local _ .vmem, ⟨52, _⟩ => ⟨S128x1024, .f32⟩
  | .local _ .vmem, ⟨53, _⟩ => ⟨S128x1024, .f32⟩
  | .local _ .vmem, ⟨54, _⟩ => ⟨S128x1024, .f32⟩
  | .local _ .vmem, ⟨55, _⟩ => ⟨S128x1024, .f32⟩
  | .local _ .vmem, ⟨56, _⟩ => ⟨S128x1024, .f32⟩
  | .local _ .vmem, ⟨57, _⟩ => ⟨S128x1024, .f32⟩
  | .local _ .vmem, ⟨58, _⟩ => ⟨S128x1024, .f32⟩
  | .local _ .vmem, ⟨59, _⟩ => ⟨S128x1024, .f32⟩
  | .local _ .vmem, ⟨60, _⟩ => ⟨S128x1024, .f32⟩
  | .local _ .vmem, ⟨61, _⟩ => ⟨S128x1024, .f32⟩
  | .local _ .vmem, ⟨62, _⟩ => ⟨S128x1024, .f32⟩
  | .local _ .vmem, ⟨63, _⟩ => ⟨S128x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S256x1024, .f32⟩
  | .local _ .vmem, ⟨68, _⟩ => ⟨S256x1024, .f32⟩
  | .local _ .vmem, ⟨69, _⟩ => ⟨S256x1024, .f32⟩
  | .local _ .vmem, ⟨70, _⟩ => ⟨S256x1024, .f32⟩
  | .local _ .vmem, ⟨71, _⟩ => ⟨S256x1024, .f32⟩
  | .local _ .vmem, ⟨72, _⟩ => ⟨S256x1024, .f32⟩
  | .local _ .vmem, ⟨73, _⟩ => ⟨S256x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .f32⟩
  | .local _ .vmem, ⟨77, _⟩ => ⟨S256x1024, .f32⟩
  | .local _ .vmem, ⟨78, _⟩ => ⟨S256x1024, .f32⟩
  | .local _ .vmem, ⟨79, _⟩ => ⟨S256x1024, .f32⟩
  | .local _ .vmem, ⟨80, _⟩ => ⟨S256x1024, .f32⟩
  | .local _ .vmem, ⟨81, _⟩ => ⟨S256x1024, .f32⟩
  | .local _ .vmem, ⟨82, _⟩ => ⟨S256x1024, .f32⟩
  | .local _ .vmem, ⟨83, _⟩ => ⟨S256x1024, .f32⟩
  | .local _ .vmem, ⟨84, _⟩ => ⟨S256x1024, .f32⟩
  | .local _ .vmem, ⟨85, _⟩ => ⟨S256x1024, .f32⟩
  | .local _ .vmem, ⟨86, _⟩ => ⟨S256x1024, .f32⟩
  | .local _ .vmem, ⟨87, _⟩ => ⟨S256x1024, .f32⟩
  | .local _ .vmem, ⟨88, _⟩ => ⟨S256x1024, .f32⟩
  | .local _ .vmem, ⟨89, _⟩ => ⟨S256x1024, .f32⟩
  | .local _ .vmem, ⟨90, _⟩ => ⟨S256x1024, .f32⟩
  | .local _ .vmem, ⟨91, _⟩ => ⟨S256x1024, .f32⟩
  | .local _ .vmem, ⟨92, _⟩ => ⟨S256x1024, .f32⟩
  | .local _ .vmem, ⟨93, _⟩ => ⟨S256x1024, .f32⟩
  | .local _ .vmem, ⟨94, _⟩ => ⟨S256x1024, .f32⟩
  | .local _ .vmem, ⟨95, _⟩ => ⟨S256x1024, .f32⟩
  | .local _ .vmem, ⟨96, _⟩ => ⟨S128x1024, .f32⟩
  | .local _ .vmem, ⟨97, _⟩ => ⟨S128x1024, .f32⟩
  | .local _ .vmem, ⟨98, _⟩ => ⟨S128x1024, .f32⟩
  | .local _ .vmem, ⟨99, _⟩ => ⟨S128x1024, .f32⟩
  | .local _ .vmem, ⟨100, _⟩ => ⟨S128x1024, .f32⟩
  | .local _ .vmem, ⟨101, _⟩ => ⟨S128x1024, .f32⟩
  | .local _ .vmem, ⟨102, _⟩ => ⟨S128x1024, .f32⟩
  | .local _ .vmem, ⟨103, _⟩ => ⟨S128x1024, .f32⟩
  | .local _ .vmem, ⟨104, _⟩ => ⟨S128x1024, .f32⟩
  | .local _ .vmem, ⟨105, _⟩ => ⟨S128x1024, .f32⟩
  | .local _ .vmem, ⟨106, _⟩ => ⟨S128x1024, .f32⟩
  | .local _ .vmem, ⟨107, _⟩ => ⟨S128x1024, .f32⟩
  | .local _ .vmem, ⟨108, _⟩ => ⟨S128x1024, .f32⟩
  | .local _ .vmem, ⟨109, _⟩ => ⟨S128x1024, .f32⟩
  | .local _ .vmem, ⟨110, _⟩ => ⟨S128x1024, .f32⟩
  | .local _ .vmem, ⟨111, _⟩ => ⟨S128x1024, .f32⟩
  | .local _ .vmem, ⟨112, _⟩ => ⟨S128x256, .f32⟩
  | .local _ .vmem, ⟨113, _⟩ => ⟨S128x256, .f32⟩
  | .local _ .vmem, ⟨114, _⟩ => ⟨S128x256, .f32⟩
  | .local _ .vmem, ⟨115, _⟩ => ⟨S128x256, .f32⟩
  | .local _ .vmem, ⟨116, _⟩ => ⟨S128x256, .f32⟩
  | .local _ .vmem, ⟨117, _⟩ => ⟨S128x256, .f32⟩
  | .local _ .vmem, ⟨118, _⟩ => ⟨S128x256, .f32⟩
  | .local _ .vmem, ⟨119, _⟩ => ⟨S128x256, .f32⟩
  | .local _ .vmem, ⟨120, _⟩ => ⟨S128x256, .f32⟩
  | .local _ .vmem, ⟨121, _⟩ => ⟨S128x256, .f32⟩
  | .local _ .vmem, ⟨122, _⟩ => ⟨S128x256, .f32⟩
  | .local _ .vmem, ⟨123, _⟩ => ⟨S128x256, .f32⟩
  | .local _ .vmem, ⟨124, _⟩ => ⟨S128x256, .f32⟩
  | .local _ .vmem, ⟨125, _⟩ => ⟨S128x256, .f32⟩
  | .local _ .vmem, ⟨126, _⟩ => ⟨S128x256, .f32⟩
  | .local _ .vmem, ⟨127, _⟩ => ⟨S128x256, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13_0 : Ref sig .tc := ⟨.hbm, 48, rfl⟩
abbrev main_v13_1 : Ref sig .tc := ⟨.hbm, 49, rfl⟩
abbrev main_v13_2 : Ref sig .tc := ⟨.hbm, 50, rfl⟩
abbrev main_v13_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22_0 : Ref sig .tc := ⟨.hbm, 60, rfl⟩
abbrev main_v22_1 : Ref sig .tc := ⟨.hbm, 61, rfl⟩
abbrev main_v22_2 : Ref sig .tc := ⟨.hbm, 62, rfl⟩
abbrev main_v22_3 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_v31_3 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40_0 : Ref sig .tc := ⟨.hbm, 84, rfl⟩
abbrev main_v40_1 : Ref sig .tc := ⟨.hbm, 85, rfl⟩
abbrev main_v40_2 : Ref sig .tc := ⟨.hbm, 86, rfl⟩
abbrev main_v40_3 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49_0 : Ref sig .tc := ⟨.hbm, 96, rfl⟩
abbrev main_v49_1 : Ref sig .tc := ⟨.hbm, 97, rfl⟩
abbrev main_v49_2 : Ref sig .tc := ⟨.hbm, 98, rfl⟩
abbrev main_v49_3 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58_0 : Ref sig .tc := ⟨.hbm, 108, rfl⟩
abbrev main_v58_1 : Ref sig .tc := ⟨.hbm, 109, rfl⟩
abbrev main_v58_2 : Ref sig .tc := ⟨.hbm, 110, rfl⟩
abbrev main_v58_3 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67_0 : Ref sig .tc := ⟨.hbm, 120, rfl⟩
abbrev main_v67_1 : Ref sig .tc := ⟨.hbm, 121, rfl⟩
abbrev main_v67_2 : Ref sig .tc := ⟨.hbm, 122, rfl⟩
abbrev main_v67_3 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg4_1 : Ref sig .tc := ⟨.vmem, 89, rfl⟩
abbrev cc5_stg5_0 : Ref sig .tc := ⟨.vmem, 90, rfl⟩
abbrev cc5_stg5_1 : Ref sig .tc := ⟨.vmem, 91, rfl⟩
abbrev cc5_stg6_0 : Ref sig .tc := ⟨.vmem, 92, rfl⟩
abbrev cc5_stg6_1 : Ref sig .tc := ⟨.vmem, 93, rfl⟩
abbrev cc5_stg7_0 : Ref sig .tc := ⟨.vmem, 94, rfl⟩
abbrev cc5_stg7_1 : Ref sig .tc := ⟨.vmem, 95, rfl⟩
abbrev cc6_stg0_0 : Ref sig .tc := ⟨.vmem, 96, rfl⟩
abbrev cc6_stg0_1 : Ref sig .tc := ⟨.vmem, 97, rfl⟩
abbrev cc6_stg1_0 : Ref sig .tc := ⟨.vmem, 98, rfl⟩
abbrev cc6_stg1_1 : Ref sig .tc := ⟨.vmem, 99, rfl⟩
abbrev cc6_stg2_0 : Ref sig .tc := ⟨.vmem, 100, rfl⟩
abbrev cc6_stg2_1 : Ref sig .tc := ⟨.vmem, 101, rfl⟩
abbrev cc6_stg3_0 : Ref sig .tc := ⟨.vmem, 102, rfl⟩
abbrev cc6_stg3_1 : Ref sig .tc := ⟨.vmem, 103, rfl⟩
abbrev cc6_stg4_0 : Ref sig .tc := ⟨.vmem, 104, rfl⟩
abbrev cc6_stg4_1 : Ref sig .tc := ⟨.vmem, 105, rfl⟩
abbrev cc6_stg5_0 : Ref sig .tc := ⟨.vmem, 106, rfl⟩
abbrev cc6_stg5_1 : Ref sig .tc := ⟨.vmem, 107, rfl⟩
abbrev cc6_stg6_0 : Ref sig .tc := ⟨.vmem, 108, rfl⟩
abbrev cc6_stg6_1 : Ref sig .tc := ⟨.vmem, 109, rfl⟩
abbrev cc6_stg7_0 : Ref sig .tc := ⟨.vmem, 110, rfl⟩
abbrev cc6_stg7_1 : Ref sig .tc := ⟨.vmem, 111, rfl⟩
abbrev cc7_stg0_0 : Ref sig .tc := ⟨.vmem, 112, rfl⟩
abbrev cc7_stg0_1 : Ref sig .tc := ⟨.vmem, 113, rfl⟩
abbrev cc7_stg1_0 : Ref sig .tc := ⟨.vmem, 114, rfl⟩
abbrev cc7_stg1_1 : Ref sig .tc := ⟨.vmem, 115, rfl⟩
abbrev cc7_stg2_0 : Ref sig .tc := ⟨.vmem, 116, rfl⟩
abbrev cc7_stg2_1 : Ref sig .tc := ⟨.vmem, 117, rfl⟩
abbrev cc7_stg3_0 : Ref sig .tc := ⟨.vmem, 118, rfl⟩
abbrev cc7_stg3_1 : Ref sig .tc := ⟨.vmem, 119, rfl⟩
abbrev cc7_stg4_0 : Ref sig .tc := ⟨.vmem, 120, rfl⟩
abbrev cc7_stg4_1 : Ref sig .tc := ⟨.vmem, 121, rfl⟩
abbrev cc7_stg5_0 : Ref sig .tc := ⟨.vmem, 122, rfl⟩
abbrev cc7_stg5_1 : Ref sig .tc := ⟨.vmem, 123, rfl⟩
abbrev cc7_stg6_0 : Ref sig .tc := ⟨.vmem, 124, rfl⟩
abbrev cc7_stg6_1 : Ref sig .tc := ⟨.vmem, 125, rfl⟩
abbrev cc7_stg7_0 : Ref sig .tc := ⟨.vmem, 126, rfl⟩
abbrev cc7_stg7_1 : Ref sig .tc := ⟨.vmem, 127, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem3_1 : DmaSem sig := 87
abbrev cc5_sem4_0 : DmaSem sig := 88
abbrev cc5_sem4_1 : DmaSem sig := 89
abbrev cc5_sem5_0 : DmaSem sig := 90
abbrev cc5_sem5_1 : DmaSem sig := 91
abbrev cc5_sem6_0 : DmaSem sig := 92
abbrev cc5_sem6_1 : DmaSem sig := 93
abbrev cc5_sem7_0 : DmaSem sig := 94
abbrev cc5_sem7_1 : DmaSem sig := 95
abbrev cc6_sem0_0 : DmaSem sig := 96
abbrev cc6_sem0_1 : DmaSem sig := 97
abbrev cc6_sem1_0 : DmaSem sig := 98
abbrev cc6_sem1_1 : DmaSem sig := 99
abbrev cc6_sem2_0 : DmaSem sig := 100
abbrev cc6_sem2_1 : DmaSem sig := 101
abbrev cc6_sem3_0 : DmaSem sig := 102
abbrev cc6_sem3_1 : DmaSem sig := 103
abbrev cc6_sem4_0 : DmaSem sig := 104
abbrev cc6_sem4_1 : DmaSem sig := 105
abbrev cc6_sem5_0 : DmaSem sig := 106
abbrev cc6_sem5_1 : DmaSem sig := 107
abbrev cc6_sem6_0 : DmaSem sig := 108
abbrev cc6_sem6_1 : DmaSem sig := 109
abbrev cc6_sem7_0 : DmaSem sig := 110
abbrev cc6_sem7_1 : DmaSem sig := 111
abbrev cc7_sem0_0 : DmaSem sig := 112
abbrev cc7_sem0_1 : DmaSem sig := 113
abbrev cc7_sem1_0 : DmaSem sig := 114
abbrev cc7_sem1_1 : DmaSem sig := 115
abbrev cc7_sem2_0 : DmaSem sig := 116
abbrev cc7_sem2_1 : DmaSem sig := 117
abbrev cc7_sem3_0 : DmaSem sig := 118
abbrev cc7_sem3_1 : DmaSem sig := 119
abbrev cc7_sem4_0 : DmaSem sig := 120
abbrev cc7_sem4_1 : DmaSem sig := 121
abbrev cc7_sem5_0 : DmaSem sig := 122
abbrev cc7_sem5_1 : DmaSem sig := 123
abbrev cc7_sem6_0 : DmaSem sig := 124
abbrev cc7_sem6_1 : DmaSem sig := 125
abbrev cc7_sem7_0 : DmaSem sig := 126
abbrev cc7_sem7_1 : DmaSem sig := 127

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S128x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S128x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S128x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S128x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S128x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S128x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S128x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S128x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S128x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S128x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S128x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S128x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]
-- ==== Kernel3Ideal.lean ====
variable {F : FTy → Type} [FloatOps F] [Named F]
def κ : String → Option EReal := fun
  | "inv_m" => some ((8388608 / 5463681 : ℝ) : EReal)
  | "inv_v" => some ((268435456 / 2672307 : ℝ) : EReal)
  | _ => none
-- ==== Reference3Ideal.lean ====
abbrev S1x1024x1408 : Shape := ⟨3, ![1, 1024, 1408]⟩
abbrev S1x256x1024 : Shape := ⟨3, ![1, 256, 1024]⟩
abbrev S1x1024x1024 : Shape := ⟨3, ![1, 1024, 1024]⟩
abbrev S1x256x256 : Shape := ⟨3, ![1, 256, 256]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1x1024x1408, .f32⟩
  | 1 => ⟨S1x256x1024, .f32⟩
  | 2 => ⟨S1x256x1024, .f32⟩
  | 3 => ⟨S1x256x1024, .f32⟩
  | 4 => ⟨S1x1024x1024, .f32⟩
  | 5 => ⟨S1x1024x1024, .f32⟩
  | 6 => ⟨S1x256x1024, .f32⟩
  | 7 => ⟨S1x256x256, .f32⟩
  | 8 => ⟨S1x1024x1408, .f32⟩
  | 9 => ⟨S1x256x1024, .f32⟩
  | 10 => ⟨S1x256x1024, .f32⟩
  | 11 => ⟨S1x256x1024, .f32⟩
  | 12 => ⟨S1x1024x1024, .f32⟩
  | 13 => ⟨S1x1024x1024, .f32⟩
  | 14 => ⟨S1x256x1024, .f32⟩
  | 15 => ⟨S1x256x256, .f32⟩
  | 16 => ⟨S1x1024x1408, .f32⟩
  | 17 => ⟨S1x256x1024, .f32⟩
  | 18 => ⟨S1x256x1024, .f32⟩
  | 19 => ⟨S1x256x1024, .f32⟩
  | 20 => ⟨S1x1024x1024, .f32⟩
  | 21 => ⟨S1x1024x1024, .f32⟩
  | 22 => ⟨S1x256x1024, .f32⟩
  | 23 => ⟨S1x256x256, .f32⟩
  | 24 => ⟨S1x1024x1408, .f32⟩
  | 25 => ⟨S1x256x1024, .f32⟩
  | 26 => ⟨S1x256x1024, .f32⟩
  | 27 => ⟨S1x256x1024, .f32⟩
  | 28 => ⟨S1x1024x1024, .f32⟩
  | 29 => ⟨S1x1024x1024, .f32⟩
  | 30 => ⟨S1x256x1024, .f32⟩
  | 31 => ⟨S1x256x256, .f32⟩
  | 32 => ⟨S_, .f32⟩
  | 33 => ⟨S1x1024x1408, .f32⟩
  | 34 => ⟨S1x1024x1408, .f32⟩
  | 35 => ⟨S_, .f32⟩
  | 36 => ⟨S1x1024x1408, .f32⟩
  | 37 => ⟨S1x1024x1408, .f32⟩
  | 38 => ⟨S1x1024x1408, .f32⟩
  | 39 => ⟨S_, .f32⟩
  | 40 => ⟨S1x1024x1408, .f32⟩
  | 41 => ⟨S1x1024x1408, .f32⟩
  | 42 => ⟨S1x1024x1408, .f32⟩
  | 43 => ⟨S_, .f32⟩
  | 44 => ⟨S1x1024x1408, .f32⟩
  | 45 => ⟨S1x1024x1408, .f32⟩
  | 46 => ⟨S1x1024x1408, .f32⟩
  | 47 => ⟨S_, .f32⟩
  | 48 => ⟨S1x1024x1408, .f32⟩
  | 49 => ⟨S1x1024x1408, .f32⟩
  | 50 => ⟨S_, .f32⟩
  | 51 => ⟨S1x1024x1408, .f32⟩
  | 52 => ⟨S1x1024x1408, .f32⟩
  | 53 => ⟨S1x1024x1408, .f32⟩
  | 54 => ⟨S_, .f32⟩
  | 55 => ⟨S1x1024x1408, .f32⟩
  | 56 => ⟨S1x1024x1408, .f32⟩
  | 57 => ⟨S1x1024x1408, .f32⟩
  | 58 => ⟨S_, .f32⟩
  | 59 => ⟨S1x1024x1408, .f32⟩
  | 60 => ⟨S1x1024x1408, .f32⟩
  | 61 => ⟨S1x1024x1408, .f32⟩
  | 62 => ⟨S_, .f32⟩
  | 63 => ⟨S1x1024x1408, .f32⟩
  | 64 => ⟨S1x1024x1408, .f32⟩
  | 65 => ⟨S_, .f32⟩
  | 66 => ⟨S1x256x1024, .f32⟩
  | 67 => ⟨S1x256x1024, .f32⟩
  | 68 => ⟨S_, .f32⟩
  | 69 => ⟨S1x256x1024, .f32⟩
  | 70 => ⟨S1x256x1024, .f32⟩
  | 71 => ⟨S1x256x1024, .f32⟩
  | 72 => ⟨S_, .f32⟩
  | 73 => ⟨S1x256x1024, .f32⟩
  | 74 => ⟨S1x256x1024, .f32⟩
  | 75 => ⟨S1x256x1024, .f32⟩
  | 76 => ⟨S_, .f32⟩
  | 77 => ⟨S1x256x1024, .f32⟩
  | 78 => ⟨S1x256x1024, .f32⟩
  | 79 => ⟨S1x256x1024, .f32⟩
  | 80 => ⟨S_, .f32⟩
  | 81 => ⟨S1x256x1024, .f32⟩
  | 82 => ⟨S1x256x1024, .f32⟩
  | 83 => ⟨S_, .f32⟩
  | 84 => ⟨S1x256x1024, .f32⟩
  | 85 => ⟨S1x256x1024, .f32⟩
  | 86 => ⟨S1x256x1024, .f32⟩
  | 87 => ⟨S_, .f32⟩
  | 88 => ⟨S1x256x1024, .f32⟩
  | 89 => ⟨S1x256x1024, .f32⟩
  | 90 => ⟨S1x256x1024, .f32⟩
  | 91 => ⟨S_, .f32⟩
  | 92 => ⟨S1x256x1024, .f32⟩
  | 93 => ⟨S1x256x1024, .f32⟩
  | 94 => ⟨S1x256x1024, .f32⟩
  | 95 => ⟨S_, .f32⟩
  | 96 => ⟨S1x256x1024, .f32⟩
  | 97 => ⟨S1x256x1024, .f32⟩
  | 98 => ⟨S_, .f32⟩
  | 99 => ⟨S1x256x1024, .f32⟩
  | 100 => ⟨S1x256x1024, .f32⟩
  | 101 => ⟨S_, .f32⟩
  | 102 => ⟨S1x256x1024, .f32⟩
  | 103 => ⟨S1x256x1024, .f32⟩
  | 104 => ⟨S1x256x1024, .f32⟩
  | 105 => ⟨S_, .f32⟩
  | 106 => ⟨S1x256x1024, .f32⟩
  | 107 => ⟨S1x256x1024, .f32⟩
  | 108 => ⟨S1x256x1024, .f32⟩
  | 109 => ⟨S_, .f32⟩
  | 110 => ⟨S1x256x1024, .f32⟩
  | 111 => ⟨S1x256x1024, .f32⟩
  | 112 => ⟨S1x256x1024, .f32⟩
  | 113 => ⟨S_, .f32⟩
  | 114 => ⟨S1x256x1024, .f32⟩
  | 115 => ⟨S1x256x1024, .f32⟩
  | 116 => ⟨S_, .f32⟩
  | 117 => ⟨S1x256x1024, .f32⟩
  | 118 => ⟨S1x256x1024, .f32⟩
  | 119 => ⟨S1x256x1024, .f32⟩
  | 120 => ⟨S_, .f32⟩
  | 121 => ⟨S1x256x1024, .f32⟩
  | 122 => ⟨S1x256x1024, .f32⟩
  | 123 => ⟨S1x256x1024, .f32⟩
  | 124 => ⟨S_, .f32⟩
  | 125 => ⟨S1x256x1024, .f32⟩
  | 126 => ⟨S1x256x1024, .f32⟩
  | 127 => ⟨S1x256x1024, .f32⟩
  | _ => ⟨S1x1024x1408, .f32⟩

abbrev hbmTy0_1 (i : Nat) : BufTy := match i % 128 with
  | 0 => ⟨S_, .f32⟩
  | 1 => ⟨S1x256x1024, .f32⟩
  | 2 => ⟨S1x256x1024, .f32⟩
  | 3 => ⟨S_, .f32⟩
  | 4 => ⟨S1x256x1024, .f32⟩
  | 5 => ⟨S1x256x1024, .f32⟩
  | 6 => ⟨S_, .f32⟩
  | 7 => ⟨S1x256x1024, .f32⟩
  | 8 => ⟨S1x256x1024, .f32⟩
  | 9 => ⟨S1x256x1024, .f32⟩
  | 10 => ⟨S_, .f32⟩
  | 11 => ⟨S1x256x1024, .f32⟩
  | 12 => ⟨S1x256x1024, .f32⟩
  | 13 => ⟨S1x256x1024, .f32⟩
  | 14 => ⟨S_, .f32⟩
  | 15 => ⟨S1x256x1024, .f32⟩
  | 16 => ⟨S1x256x1024, .f32⟩
  | 17 => ⟨S1x256x1024, .f32⟩
  | 18 => ⟨S_, .f32⟩
  | 19 => ⟨S1x256x1024, .f32⟩
  | 20 => ⟨S1x256x1024, .f32⟩
  | 21 => ⟨S_, .f32⟩
  | 22 => ⟨S1x256x1024, .f32⟩
  | 23 => ⟨S1x256x1024, .f32⟩
  | 24 => ⟨S1x256x1024, .f32⟩
  | 25 => ⟨S_, .f32⟩
  | 26 => ⟨S1x256x1024, .f32⟩
  | 27 => ⟨S1x256x1024, .f32⟩
  | 28 => ⟨S1x256x1024, .f32⟩
  | 29 => ⟨S_, .f32⟩
  | 30 => ⟨S1x256x1024, .f32⟩
  | 31 => ⟨S1x256x1024, .f32⟩
  | 32 => ⟨S1x256x1024, .f32⟩
  | 33 => ⟨S_, .f32⟩
  | 34 => ⟨S1x256x1024, .f32⟩
  | 35 => ⟨S1x256x1024, .f32⟩
  | 36 => ⟨S_, .f32⟩
  | 37 => ⟨S1x1024x1024, .f32⟩
  | 38 => ⟨S1x1024x1024, .f32⟩
  | 39 => ⟨S_, .f32⟩
  | 40 => ⟨S1x1024x1024, .f32⟩
  | 41 => ⟨S1x1024x1024, .f32⟩
  | 42 => ⟨S1x1024x1024, .f32⟩
  | 43 => ⟨S_, .f32⟩
  | 44 => ⟨S1x1024x1024, .f32⟩
  | 45 => ⟨S1x1024x1024, .f32⟩
  | 46 => ⟨S1x1024x1024, .f32⟩
  | 47 => ⟨S_, .f32⟩
  | 48 => ⟨S1x1024x1024, .f32⟩
  | 49 => ⟨S1x1024x1024, .f32⟩
  | 50 => ⟨S1x1024x1024, .f32⟩
  | 51 => ⟨S_, .f32⟩
  | 52 => ⟨S1x1024x1024, .f32⟩
  | 53 => ⟨S1x1024x1024, .f32⟩
  | 54 => ⟨S_, .f32⟩
  | 55 => ⟨S1x1024x1024, .f32⟩
  | 56 => ⟨S1x1024x1024, .f32⟩
  | 57 => ⟨S1x1024x1024, .f32⟩
  | 58 => ⟨S_, .f32⟩
  | 59 => ⟨S1x1024x1024, .f32⟩
  | 60 => ⟨S1x1024x1024, .f32⟩
  | 61 => ⟨S1x1024x1024, .f32⟩
  | 62 => ⟨S_, .f32⟩
  | 63 => ⟨S1x1024x1024, .f32⟩
  | 64 => ⟨S1x1024x1024, .f32⟩
  | 65 => ⟨S1x1024x1024, .f32⟩
  | 66 => ⟨S_, .f32⟩
  | 67 => ⟨S1x1024x1024, .f32⟩
  | 68 => ⟨S1x1024x1024, .f32⟩
  | 69 => ⟨S_, .f32⟩
  | 70 => ⟨S1x1024x1024, .f32⟩
  | 71 => ⟨S1x1024x1024, .f32⟩
  | 72 => ⟨S_, .f32⟩
  | 73 => ⟨S1x1024x1024, .f32⟩
  | 74 => ⟨S1x1024x1024, .f32⟩
  | 75 => ⟨S1x1024x1024, .f32⟩
  | 76 => ⟨S_, .f32⟩
  | 77 => ⟨S1x1024x1024, .f32⟩
  | 78 => ⟨S1x1024x1024, .f32⟩
  | 79 => ⟨S1x1024x1024, .f32⟩
  | 80 => ⟨S_, .f32⟩
  | 81 => ⟨S1x1024x1024, .f32⟩
  | 82 => ⟨S1x1024x1024, .f32⟩
  | 83 => ⟨S1x1024x1024, .f32⟩
  | 84 => ⟨S_, .f32⟩
  | 85 => ⟨S1x1024x1024, .f32⟩
  | 86 => ⟨S1x1024x1024, .f32⟩
  | 87 => ⟨S_, .f32⟩
  | 88 => ⟨S1x1024x1024, .f32⟩
  | 89 => ⟨S1x1024x1024, .f32⟩
  | 90 => ⟨S1x1024x1024, .f32⟩
  | 91 => ⟨S_, .f32⟩
  | 92 => ⟨S1x1024x1024, .f32⟩
  | 93 => ⟨S1x1024x1024, .f32⟩
  | 94 => ⟨S1x1024x1024, .f32⟩
  | 95 => ⟨S_, .f32⟩
  | 96 => ⟨S1x1024x1024, .f32⟩
  | 97 => ⟨S1x1024x1024, .f32⟩
  | 98 => ⟨S1x1024x1024, .f32⟩
  | 99 => ⟨S_, .f32⟩
  | 100 => ⟨S1x1024x1024, .f32⟩
  | 101 => ⟨S1x1024x1024, .f32⟩
  | 102 => ⟨S_, .f32⟩
  | 103 => ⟨S1x256x1024, .f32⟩
  | 104 => ⟨S1x256x1024, .f32⟩
  | 105 => ⟨S_, .f32⟩
  | 106 => ⟨S1x256x1024, .f32⟩
  | 107 => ⟨S1x256x1024, .f32⟩
  | 108 => ⟨S1x256x1024, .f32⟩
  | 109 => ⟨S_, .f32⟩
  | 110 => ⟨S1x256x1024, .f32⟩
  | 111 => ⟨S1x256x1024, .f32⟩
  | 112 => ⟨S1x256x1024, .f32⟩
  | 113 => ⟨S_, .f32⟩
  | 114 => ⟨S1x256x1024, .f32⟩
  | 115 => ⟨S1x256x1024, .f32⟩
  | 116 => ⟨S1x256x1024, .f32⟩
  | 117 => ⟨S_, .f32⟩
  | 118 => ⟨S1x256x1024, .f32⟩
  | 119 => ⟨S1x256x1024, .f32⟩
  | 120 => ⟨S_, .f32⟩
  | 121 => ⟨S1x256x1024, .f32⟩
  | 122 => ⟨S1x256x1024, .f32⟩
  | 123 => ⟨S1x256x1024, .f32⟩
  | 124 => ⟨S_, .f32⟩
  | 125 => ⟨S1x256x1024, .f32⟩
  | 126 => ⟨S1x256x1024, .f32⟩
  | 127 => ⟨S1x256x1024, .f32⟩
  | _ => ⟨S1x1024x1408, .f32⟩

abbrev hbmTy0_2 (i : Nat) : BufTy := match i % 128 with
  | 0 => ⟨S_, .f32⟩
  | 1 => ⟨S1x256x1024, .f32⟩
  | 2 => ⟨S1x256x1024, .f32⟩
  | 3 => ⟨S1x256x1024, .f32⟩
  | 4 => ⟨S_, .f32⟩
  | 5 => ⟨S1x256x1024, .f32⟩
  | 6 => ⟨S1x256x1024, .f32⟩
  | 7 => ⟨S_, .f32⟩
  | 8 => ⟨S1x256x256, .f32⟩
  | 9 => ⟨S1x256x256, .f32⟩
  | 10 => ⟨S_, .f32⟩
  | 11 => ⟨S1x256x256, .f32⟩
  | 12 => ⟨S1x256x256, .f32⟩
  | 13 => ⟨S1x256x256, .f32⟩
  | 14 => ⟨S_, .f32⟩
  | 15 => ⟨S1x256x256, .f32⟩
  | 16 => ⟨S1x256x256, .f32⟩
  | 17 => ⟨S1x256x256, .f32⟩
  | 18 => ⟨S_, .f32⟩
  | 19 => ⟨S1x256x256, .f32⟩
  | 20 => ⟨S1x256x256, .f32⟩
  | 21 => ⟨S1x256x256, .f32⟩
  | 22 => ⟨S_, .f32⟩
  | 23 => ⟨S1x256x256, .f32⟩
  | 24 => ⟨S1x256x256, .f32⟩
  | 25 => ⟨S_, .f32⟩
  | 26 => ⟨S1x256x256, .f32⟩
  | 27 => ⟨S1x256x256, .f32⟩
  | 28 => ⟨S1x256x256, .f32⟩
  | 29 => ⟨S_, .f32⟩
  | 30 => ⟨S1x256x256, .f32⟩
  | 31 => ⟨S1x256x256, .f32⟩
  | 32 => ⟨S1x256x256, .f32⟩
  | 33 => ⟨S_, .f32⟩
  | 34 => ⟨S1x256x256, .f32⟩
  | 35 => ⟨S1x256x256, .f32⟩
  | 36 => ⟨S1x256x256, .f32⟩
  | 37 => ⟨S_, .f32⟩
  | 38 => ⟨S1x256x256, .f32⟩
  | 39 => ⟨S1x256x256, .f32⟩
  | _ => ⟨S1x1024x1408, .f32⟩

abbrev hbmTy (i : Nat) : BufTy := match i / 128 with
  | 0 => hbmTy0_0 i
  | 1 => hbmTy0_1 i
  | 2 => hbmTy0_2 i
  | _ => ⟨S1x1024x1408, .f32⟩

abbrev bufTy : (tb : Table) → Fin (tcTables nBuf tb) → BufTy
  | .hbm, ⟨i, _⟩ => hbmTy i
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Proof.StepRef.lean ====
/- What the reference computes between the two mixers' outputs and the loss, and back: each value and each
   cotangent as a term of the values it is computed from. `X` is a residual stream, `g` a norm's gain, `d` a
   cotangent. -/
module

public import proofs.«01_k».proof.Proof.Gen.ReferenceIdeal
public import Idealize.ShloMosaic.Lib.Pipeline.ValueKit

@[expose] public section

set_option maxRecDepth 16384

noncomputable section

namespace Cert.StepRef

open Cert.ReferenceIdeal Cert.ReferenceIdeal.Gen Idealize.ShloMosaic Idealize.ShloMosaic.TcCoe Idealize.SL.Sem

abbrev Rows : Type := FVec Ideal S4096x1024 .f32
abbrev RowsB : Type := FVec Ideal S4096x1024 .bf16
abbrev Wide : Type := FVec Ideal S4096x4096 .f32
abbrev Col : Type := FVec Ideal S4096x1 .f32
abbrev Sq : Type := FVec Ideal S1024x1024 .f32
abbrev Gain : Type := FVec Ideal S1x1024 .f32

/-- The constant one in every element. -/
abbrev Ones : Rows := broadcastInDim S4096x1024 ![] bcast_S_S4096x1024 (constant S_ .f32 0x3F800000#32)

/-- The logistic function of a gate. -/
def Sig (g : Rows) : Rows := Host.divf Ones (addf Ones (Host.exp (Host.negf g)))

/-- Rows through a square weight, -/
def Dot (y : Rows) (w : Sq) : Rows := Host.dotGeneral dot_S4096x1024_S1024x1024_S4096x1024_1_0_0_1_n_n none y w

/-- a cotangent back through it, -/
def DotT (d : Rows) (w : Sq) : Rows := Host.dotGeneral dot_S4096x1024_S1024x1024_S4096x1024_1_1_0_0_n_n none d w

/-- and the weight's gradient. -/
def Grad (d y : Rows) : Sq :=
  transpose S1024x1024 [1, 0] (Host.dotGeneral dot_S4096x1024_S4096x1024_S1024x1024_0_0_1_1_n_n none d y) transposes_S1024x1024_S1024x1024_1_0

/-- The two gated branches, added. -/
def Merged (ga gb ya yb : Rows) (wr wa : Sq) : Rows := addf (mulf (Sig ga) (Dot ya wr)) (mulf (Sig gb) (Dot yb wa))

/-- The residual stream after the merge. -/
def X1 (X M : Rows) (wo : Sq) : Rows := addf X (Dot M wo)

/-- The mean square of a row, with the norm's epsilon, -/
def Ms (X : Rows) : Col :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- its inverse root, -/
def Rs (X : Rows) : Col := Host.rsqrt (Ms X)

/-- the row divided by its root mean square, -/
def Xn (X : Rows) : Rows := mulf X (broadcastInDim S4096x1024 ![0, 1] bcast_S4096x1_S4096x1024_0_1 (Rs X))

/-- a row times a gain, -/
def Gn (X : Rows) (g : Gain) : Rows := mulf X (broadcastInDim S4096x1024 ![0, 1] bcast_S1x1024_S4096x1024_0_1 g)

/-- and the normalised row. -/
def Nrm (X : Rows) (g : Gain) : Rows := Gn (Xn X) g

/-- What the mean square sends back to each element of a row, before the two factors of the square. -/
def NBack (X dn : Rows) : Rows :=
  broadcastInDim S4096x1024 ![0] bcast_S4096_S4096x1024_0 (Host.reduceAdd (Host.divf (mulf (shapeCast _ (Host.reduceAdd (mulf X dn) (constant S_ .f32 0x00000000#32) reducesTo_S4096x1024_S4096_d1 h_S_) shapeCasts_S4096_S4096x1) (mulf (broadcastInDim S4096x1 ![] bcast_S_S4096x1 (constant S_ .f32 0xBF000000#32)) (Host.divf (Rs X) (Ms X)))) (broadcastInDim S4096x1 ![] bcast_S_S4096x1 (constant S_ .f32 0x44800000#32))) (constant S_ .f32 0x00000000#32) reducesTo_S4096x1_S4096_d1 h_S_)

/-- A residual stream's cotangent: what passes by the norm, `d`, and what comes back through it, `dn` being the
    cotangent of the normalised row times the gain. -/
def DX (d X dn : Rows) : Rows :=
  addf (addf (addf d (mulf dn (broadcastInDim S4096x1024 ![0, 1] bcast_S4096x1_S4096x1024_0_1 (Rs X)))) (mulf X (NBack X dn))) (mulf (NBack X dn) X)

/-- The gradient of a norm's gain. -/
def DGain (X d : Rows) : Gain :=
  shapeCast _ (Host.reduceAdd (mulf (Xn X) d) (constant S_ .f32 0x00000000#32) reducesTo_S4096x1024_S1024_d0 h_S_) shapeCasts_S1024_S1x1024

/-- The wide layer before its activation, -/
def Up (hm : Rows) (wu : FVec Ideal S1024x4096 .f32) : Wide := Host.dotGeneral dot_S4096x1024_S1024x4096_S4096x4096_1_0_0_1_n_n none hm wu

/-- the positive part, -/
def Pos (u : Wide) : Wide := maximumf u (broadcastInDim S4096x4096 ![] bcast_S_S4096x4096 (constant S_ .f32 0x00000000#32))

/-- its square, -/
def Sqr (u : Wide) : Wide := mulf (Pos u) (Pos u)

/-- and the residual stream after the wide layer. -/
def X2 (X : Rows) (a : Wide) (wd : Rows) : Rows := addf X (Host.dotGeneral dot_S4096x4096_S4096x1024_S4096x1024_1_0_0_1_n_n none a wd)

/-- The cotangent of the wide layer before its activation, -/
def DU (d : Rows) (wd : Rows) (u : Wide) : Wide :=
  select (cmpf .ogt u (broadcastInDim S4096x4096 ![] bcast_S_S4096x4096 (constant S_ .f32 0x00000000#32))) (mulf (Host.dotGeneral dot_S4096x1024_S4096x1024_S4096x4096_1_1_0_0_n_n none d wd) (mulf (broadcastInDim S4096x4096 ![] bcast_S_S4096x4096 (constant S_ .f32 0x40000000#32)) (Pos u))) (broadcastInDim S4096x4096 ![] bcast_S_S4096x4096 (constant S_ .f32 0x00000000#32))

/-- of its normalised input, -/
def DHm (du : Wide) (wu : FVec Ideal S1024x4096 .f32) : Rows := Host.dotGeneral dot_S4096x4096_S1024x4096_S4096x1024_1_1_0_0_n_n none du wu

/-- the gradient of its first weight, -/
def DWu (du : Wide) (hm : Rows) : FVec Ideal S4x1024x1024 .f32 :=
  transpose S4x1024x1024 [1, 0, 2] (shapeCast _ (transpose S1024x4096 [1, 0] (Host.dotGeneral dot_S4096x4096_S4096x1024_S4096x1024_0_0_1_1_n_n none du hm) transposes_S4096x1024_S1024x4096_1_0) shapeCasts_S1024x4096_S1024x4x1024) transposes_S1024x4x1024_S4x1024x1024_1_0_2

/-- and of its second. -/
def DWd (d : Rows) (a : Wide) : Rows :=
  transpose S4096x1024 [1, 0] (Host.dotGeneral dot_S4096x1024_S4096x4096_S1024x4096_0_0_1_1_n_n none d a) transposes_S1024x4096_S4096x1024_1_0

/-- The per-layer embedding, projected, -/
def Emb (p : FVec Ideal S4096x256 .f32) (wp : FVec Ideal S256x1024 .f32) : Rows :=
  Host.dotGeneral dot_S4096x256_S256x1024_S4096x1024_1_0_0_1_n_n none p wp

/-- the error of the last residual stream, -/
def Err (X e s t : Rows) : Rows := subf (addf X (mulf e s)) t

/-- the loss, -/
def Loss (r : Rows) : FVec Ideal S8x128 .f32 :=
  broadcastInDim S8x128 ![] bcast_S_S8x128 (mulf (constant S_ .f32 0x3F000000#32) (Host.reduceAdd (Host.divf (Host.reduceAdd (mulf r r) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- the last stream's cotangent, -/
def D3 (r : Rows) : Rows :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) r)

/-- a gate's cotangent, `s` being its logistic value and `y` what it gates, -/
def DGate (a s : Rows) : Rows := mulf a (mulf s (subf Ones s))

/-- and the gradient of the embedding's projection. -/
def DWp (d : Rows) (p : FVec Ideal S4096x256 .f32) : FVec Ideal S256x1024 .f32 :=
  transpose S256x1024 [1, 0] (Host.dotGeneral dot_S4096x1024_S4096x256_S1024x256_0_0_1_1_n_n none d p) transposes_S1024x256_S256x1024_1_0

/-- An array rounded to bf16: over the reals, the array. -/
abbrev B {s : Shape} (X : FVec Ideal s .f32) : FVec Ideal s .bf16 := truncf .bf16 X bitsLt_bf16_f32

/-- A bf16 array widened: over the reals, the array. -/
abbrev Ext {s : Shape} (X : FVec Ideal s .bf16) : FVec Ideal s .f32 := extf .f32 X bitsLt_bf16_f32

/-- The wide layer's first weight, cut into four column blocks, put back in one piece. -/
def Flat (w : FVec Ideal S4x1024x1024 .bf16) : FVec Ideal S1024x4096 .f32 :=
  fun i => Ext w (ix3 ⟨(i 1 : ℕ) / 1024, by have h : (i 1 : ℕ) < 4096 := (i 1).isLt; omega⟩ (i 0) ⟨(i 1 : ℕ) % 1024, Nat.mod_lt _ (by decide)⟩)

/-- The same of the embedding's projection. -/
def FlatP (w : FVec Ideal ⟨3, ![4, 256, 256]⟩ .bf16) : FVec Ideal S256x1024 .f32 :=
  fun i => Ext w (ix3 ⟨(i 1 : ℕ) / 256, by have h : (i 1 : ℕ) < 1024 := (i 1).isLt; omega⟩ (i 0) ⟨(i 1 : ℕ) % 256, Nat.mod_lt _ (by decide)⟩)

end Cert.StepRef

end
-- ==== Proof.StepArgs.lean ====
/- The step from the two mixers' outputs to the loss and back, as one term per value of the sixteen arguments. -/
module

public import proofs.«01_k».proof.Proof.StepRef

@[expose] public section

set_option maxRecDepth 16384

noncomputable section

namespace Cert.StepArgs

open Cert.ReferenceIdeal Cert.ReferenceIdeal.Gen Idealize.ShloMosaic Idealize.ShloMosaic.TcCoe Idealize.SL.Sem
open Cert.StepRef

/-- The arguments: the residual stream, the mixers' outputs, their gates, the per-layer embedding, the target, and the
    weights. -/
structure Args where
  x : Rows
  ya : RowsB
  o : RowsB
  ga : Rows
  gb : Rows
  p : FVec Ideal S4096x256 .f32
  target : Rows
  wr : Sq
  wa : Sq
  wo : Sq
  gm : Gain
  wu : FVec Ideal S1024x4096 .f32
  wd : Rows
  gp : Gain
  wg : Sq
  wp : FVec Ideal S256x1024 .f32

variable (a : Args)

/-- The gated branches, added. -/
def merged : Rows := Merged a.ga a.gb (Ext a.ya) (Ext a.o) a.wr a.wa

/-- The residual stream after the merge. -/
def x1 : Rows := X1 a.x (merged a) a.wo

/-- The wide layer's normalised input. -/
def n1 : Rows := Nrm (x1 a) a.gm

/-- The wide layer before its activation, -/
def up : Wide := Up (n1 a) a.wu

/-- and after it. -/
def act : Wide := Sqr (up a)

/-- The residual stream after the wide layer. -/
def x2 : Rows := X2 (x1 a) (act a) a.wd

/-- The projected embedding, -/
def emb : Rows := Emb a.p a.wp

/-- the normalised rows its gate is computed from, -/
def n2 : Rows := Nrm (x2 a) a.gp

/-- and the gate. -/
def gate : Rows := Sig (Dot (n2 a) a.wg)

/-- The error against the target. -/
def err : Rows := Err (x2 a) (emb a) (gate a) a.target

/-- The loss. -/
def loss : FVec Ideal S8x128 .f32 := Loss (err a)

/-- The last stream's cotangent. -/
def d3 : Rows := D3 (err a)

/-- The embedding's gate's cotangent. -/
def dgate : Rows := DGate (mulf (emb a) (d3 a)) (gate a)

/-- The cotangent of the gate's normalised rows. -/
def dn2 : Rows := DotT (dgate a) a.wg

/-- The cotangent of the stream after the wide layer. -/
def dx2 : Rows := DX (d3 a) (x2 a) (Gn (dn2 a) a.gp)

/-- The cotangent of the projected embedding. -/
def demb : Rows := mulf (d3 a) (gate a)

/-- The cotangent of the wide layer before its activation. -/
def dup : Wide := DU (dx2 a) a.wd (up a)

/-- The cotangent of the wide layer's normalised input. -/
def dn1 : Rows := DHm (dup a) a.wu

/-- The cotangent of the stream after the merge. -/
def dx1 : Rows := DX (dx2 a) (x1 a) (Gn (dn1 a) a.gm)

/-- The merged branches' cotangent, -/
def dm : Rows := DotT (dx1 a) a.wo

/-- and each branch's. -/
def dr : Rows := mulf (Sig a.ga) (dm a)

/-- The second branch's. -/
def da : Rows := mulf (Sig a.gb) (dm a)

/-- The cotangents of the mixers' outputs: -/
def dya : Rows := DotT (dr a) a.wr

/-- the second. -/
def do_ : Rows := DotT (da a) a.wa

/-- The gates' cotangents: -/
def dga : RowsB := B (DGate (mulf (dm a) (Dot (Ext a.ya) a.wr)) (Sig a.ga))

/-- the second. -/
def dgb : RowsB := B (DGate (mulf (dm a) (Dot (Ext a.o) a.wa)) (Sig a.gb))

/-- The gradients of the weights: the first branch's projection, -/
def dwr : Sq := Grad (dr a) (Ext a.ya)

/-- the second branch's, -/
def dwa : Sq := Grad (da a) (Ext a.o)

/-- the merge's projection, -/
def dwo : Sq := Grad (dx1 a) (merged a)

/-- the wide layer's gain, -/
def dgm : Gain := DGain (x1 a) (dn1 a)

/-- its first weight, -/
def dwu : FVec Ideal S4x1024x1024 .f32 := DWu (dup a) (n1 a)

/-- its second weight, -/
def dwd : Rows := DWd (dx2 a) (act a)

/-- the embedding's gain, -/
def dgp : Gain := DGain (x2 a) (dn2 a)

/-- its gate's weight, -/
def dwg : Sq := Grad (dgate a) (n2 a)

/-- and its projection. -/
def dwp : FVec Ideal S256x1024 .f32 := DWp (demb a) a.p

end Cert.StepArgs

end
-- ==== Proof.StepRefRun.lean ====
/- The reference's run: each result is the step's term of the arguments. Its shared terms are met in the order the
   reference computes them. -/
module

public import proofs.«01_k».proof.Proof.Gen.ReferenceIdeal.Run
public import proofs.«01_k».proof.Proof.StepArgs

@[expose] public section

set_option maxRecDepth 16384

noncomputable section

namespace Cert.StepRefRun

open Cert.ReferenceIdeal Cert.ReferenceIdeal.Gen Cert.ReferenceIdeal.Value Idealize.ShloMosaic Idealize.ShloMosaic.TcCoe Idealize.SL.Sem
open Cert.StepRef Cert.StepArgs
open Idealize.ShloMosaic.StableHlo (launchContents)

variable (V0 : Valuation τ sig (Elt Ideal))

/-- The reference's arguments. -/
def args : Args := ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15)⟩

theorem v0 : res_main_v0 (F := Ideal) V0 = Ext (args V0).ya := by unfold res_main_v0; rfl

theorem v1 : res_main_v1 (F := Ideal) V0 = Ext (args V0).o := by unfold res_main_v1; rfl

theorem v7 : res_main_v7 (F := Ideal) V0 = Sig (args V0).ga := by unfold res_main_v7; rfl

theorem v11 : res_main_v11 (F := Ideal) V0 = Dot (Ext (args V0).ya) (args V0).wr := by unfold res_main_v11; rw [v0]; rfl

theorem v18 : res_main_v18 (F := Ideal) V0 = Sig (args V0).gb := by unfold res_main_v18; rfl

theorem v22 : res_main_v22 (F := Ideal) V0 = Dot (Ext (args V0).o) (args V0).wa := by unfold res_main_v22; rw [v1]; rfl

theorem v24 : res_main_v24 (F := Ideal) V0 = merged (args V0) := by unfold res_main_v24; rw [v7, v11, v18, v22]; rfl

theorem v26 : res_main_v26 (F := Ideal) V0 = x1 (args V0) := by unfold res_main_v26; rw [v24]; rfl

theorem v33 : res_main_v33 (F := Ideal) V0 = Ms (x1 (args V0)) := by unfold res_main_v33; rw [v26]; rfl

theorem v34 : res_main_v34 (F := Ideal) V0 = Rs (x1 (args V0)) := by unfold res_main_v34; rw [v33]; rfl

theorem v39 : res_main_v39 (F := Ideal) V0 = Xn (x1 (args V0)) := by unfold res_main_v39; rw [v26, v34]; rfl

theorem v41 : res_main_v41 (F := Ideal) V0 = n1 (args V0) := by unfold res_main_v41; rw [v39]; rfl

theorem v42 : res_main_v42 (F := Ideal) V0 = up (args V0) := by unfold res_main_v42; rw [v41]; rfl

theorem v43 : res_main_v43 (F := Ideal) V0 = Pos (up (args V0)) := by unfold res_main_v43; rw [v42]; rfl

theorem v47 : res_main_v47 (F := Ideal) V0 = act (args V0) := by unfold res_main_v47; rw [v43]; rfl

theorem v51 : res_main_v51 (F := Ideal) V0 = x2 (args V0) := by unfold res_main_v51; rw [v26, v47]; rfl

theorem v52 : res_main_v52 (F := Ideal) V0 = emb (args V0) := by unfold res_main_v52; rfl

theorem v59 : res_main_v59 (F := Ideal) V0 = Ms (x2 (args V0)) := by unfold res_main_v59; rw [v51]; rfl

theorem v60 : res_main_v60 (F := Ideal) V0 = Rs (x2 (args V0)) := by unfold res_main_v60; rw [v59]; rfl

theorem v65 : res_main_v65 (F := Ideal) V0 = Xn (x2 (args V0)) := by unfold res_main_v65; rw [v51, v60]; rfl

theorem v67 : res_main_v67 (F := Ideal) V0 = n2 (args V0) := by unfold res_main_v67; rw [v65]; rfl

theorem v74 : res_main_v74 (F := Ideal) V0 = gate (args V0) := by unfold res_main_v74; rw [v67]; rfl

theorem v80 : res_main_v80 (F := Ideal) V0 = err (args V0) := by unfold res_main_v80; rw [v51, v52, v74]; rfl

theorem v94 : res_main_v94 (F := Ideal) V0 = d3 (args V0) := by unfold res_main_v94; rw [v80]; rfl

theorem v97 : res_main_v97 (F := Ideal) V0 = dgate (args V0) := by unfold res_main_v97; rw [v52, v94, v74]; rfl

theorem v100 : res_main_v100 (F := Ideal) V0 = dn2 (args V0) := by unfold res_main_v100; rw [v97]; rfl

theorem v105 : res_main_v105 (F := Ideal) V0 = Gn (dn2 (args V0)) (args V0).gp := by unfold res_main_v105; rw [v100]; rfl

theorem v116 : res_main_v116 (F := Ideal) V0 = NBack (x2 (args V0)) (Gn (dn2 (args V0)) (args V0).gp) := by unfold res_main_v116; rw [v51, v105, v60, v59]; rfl

theorem v120 : res_main_v120 (F := Ideal) V0 = dx2 (args V0) := by unfold res_main_v120; rw [v94, v105, v60, v51, v116]; rfl

theorem v128 : res_main_v128 (F := Ideal) V0 = dup (args V0) := by unfold res_main_v128; rw [v42, v120, v43]; rfl

theorem v131 : res_main_v131 (F := Ideal) V0 = dn1 (args V0) := by unfold res_main_v131; rw [v128]; rfl

theorem v136 : res_main_v136 (F := Ideal) V0 = Gn (dn1 (args V0)) (args V0).gm := by unfold res_main_v136; rw [v131]; rfl

theorem v147 : res_main_v147 (F := Ideal) V0 = NBack (x1 (args V0)) (Gn (dn1 (args V0)) (args V0).gm) := by unfold res_main_v147; rw [v26, v136, v34, v33]; rfl

theorem v151 : res_main_v151 (F := Ideal) V0 = dx1 (args V0) := by unfold res_main_v151; rw [v120, v136, v34, v26, v147]; rfl

theorem v154 : res_main_v154 (F := Ideal) V0 = dm (args V0) := by unfold res_main_v154; rw [v151]; rfl

theorem v155 : res_main_v155 (F := Ideal) V0 = da (args V0) := by unfold res_main_v155; rw [v18, v154]; rfl

theorem v161 : res_main_v161 (F := Ideal) V0 = dr (args V0) := by unfold res_main_v161; rw [v7, v154]; rfl

/-- The run, its results at the step's terms. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v167) = loss (args (launchContents m c))
      ∧ r.2.mem ((c.tc : Thread nD τ).loc main_v151) = dx1 (args (launchContents m c))
      ∧ r.2.mem ((c.tc : Thread nD τ).loc main_v165) = dya (args (launchContents m c))
      ∧ r.2.mem ((c.tc : Thread nD τ).loc main_v159) = do_ (args (launchContents m c))
      ∧ r.2.mem ((c.tc : Thread nD τ).loc main_v168) = dga (args (launchContents m c))
      ∧ r.2.mem ((c.tc : Thread nD τ).loc main_v169) = dgb (args (launchContents m c))
      ∧ r.2.mem ((c.tc : Thread nD τ).loc main_v164) = dwr (args (launchContents m c))
      ∧ r.2.mem ((c.tc : Thread nD τ).loc main_v158) = dwa (args (launchContents m c))
      ∧ r.2.mem ((c.tc : Thread nD τ).loc main_v153) = dwo (args (launchContents m c))
      ∧ r.2.mem ((c.tc : Thread nD τ).loc main_v134) = dgm (args (launchContents m c))
      ∧ r.2.mem ((c.tc : Thread nD τ).loc main_v171) = dwu (args (launchContents m c))
      ∧ r.2.mem ((c.tc : Thread nD τ).loc main_v124) = dwd (args (launchContents m c))
      ∧ r.2.mem ((c.tc : Thread nD τ).loc main_v103) = dgp (args (launchContents m c))
      ∧ r.2.mem ((c.tc : Thread nD τ).loc main_v99) = dwg (args (launchContents m c))
      ∧ r.2.mem ((c.tc : Thread nD τ).loc main_v122) = dwp (args (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run _ _ _).mono (fun r h c => ?_) (Cert.ReferenceIdeal.Value.run (F := Ideal) m ρ)
  obtain ⟨h0, h1, h2, h3, h4, h5, h6, h7, h8, h9, h10, h11, h12, h13, h14, hargs⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, hargs⟩
  · rw [v80]; rfl
  · rw [v151]
  · rw [v161]; rfl
  · rw [v155]; rfl
  · rw [v154, v11, v7]; rfl
  · rw [v154, v22, v18]; rfl
  · rw [v161, v0]; rfl
  · rw [v155, v1]; rfl
  · rw [v151, v24]; rfl
  · rw [v39, v131]; rfl
  · rw [v128, v41]; rfl
  · rw [v120, v47]; rfl
  · rw [v65, v100]; rfl
  · rw [v97, v67]; rfl
  · rw [v94, v74]; rfl

end Cert.StepRefRun

end
-- ==== Proof.StepRun.lean ====
/- The twelve kernels of the step, run one after the other: what each result array holds at the end. -/
module

public import proofs.«01_k».proof.Proof.Gen.KernelIdeal.Frame

@[expose] public section

set_option maxRecDepth 16384

noncomputable section

namespace Cert.StepRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The whole step's run: every result array ends at what the fold of the twelve kernels' arrays holds, the arguments
    end as they began. -/
theorem run : θ_run defs (onTc (τ := τ) (main (F := F))) ⟨m, fun _ => 0, ρ⟩ (fun r => ∀ c : Dev nD,
      r.2.mem ((c.tc : Thread nD τ).loc main_v13_0) = W13 m ρ c main_v13_0
      ∧ r.2.mem ((c.tc : Thread nD τ).loc main_v16_0) = W13 m ρ c main_v16_0
      ∧ r.2.mem ((c.tc : Thread nD τ).loc main_v19_4) = W13 m ρ c main_v19_4
      ∧ r.2.mem ((c.tc : Thread nD τ).loc main_v19_5) = W13 m ρ c main_v19_5
      ∧ r.2.mem ((c.tc : Thread nD τ).loc main_v19_0) = W13 m ρ c main_v19_0
      ∧ r.2.mem ((c.tc : Thread nD τ).loc main_v19_1) = W13 m ρ c main_v19_1
      ∧ r.2.mem ((c.tc : Thread nD τ).loc main_v20) = W13 m ρ c main_v20
      ∧ r.2.mem ((c.tc : Thread nD τ).loc main_v21) = W13 m ρ c main_v21
      ∧ r.2.mem ((c.tc : Thread nD τ).loc main_v22) = W13 m ρ c main_v22
      ∧ r.2.mem ((c.tc : Thread nD τ).loc main_v16_2) = W13 m ρ c main_v16_2
      ∧ r.2.mem ((c.tc : Thread nD τ).loc main_v18_0) = W13 m ρ c main_v18_0
      ∧ r.2.mem ((c.tc : Thread nD τ).loc main_v17_0) = W13 m ρ c main_v17_0
      ∧ r.2.mem ((c.tc : Thread nD τ).loc main_v13_6) = W13 m ρ c main_v13_6
      ∧ r.2.mem ((c.tc : Thread nD τ).loc main_v15) = W13 m ρ c main_v15
      ∧ r.2.mem ((c.tc : Thread nD τ).loc main_v14) = W13 m ρ c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => fun c =>
      ⟨h c _ (mem_uc main_v13_0 (by decide)),
       h c _ (mem_uc main_v16_0 (by decide)),
       h c _ (mem_uc main_v19_4 (by decide)),
       h c _ (mem_uc main_v19_5 (by decide)),
       h c _ (mem_uc main_v19_0 (by decide)),
       h c _ (mem_uc main_v19_1 (by decide)),
       h c _ (mem_uc main_v20 (by decide)),
       h c _ (mem_uc main_v21 (by decide)),
       h c _ (mem_uc main_v22 (by decide)),
       h c _ (mem_uc main_v16_2 (by decide)),
       h c _ (mem_uc main_v18_0 (by decide)),
       h c _ (mem_uc main_v17_0 (by decide)),
       h c _ (mem_uc main_v13_6 (by decide)),
       h c _ (mem_uc main_v15 (by decide)),
       h c _ (mem_uc main_v14 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.StepRun

end
-- ==== Proof.StepHost.lean ====
/- What the kernels find in the arrays the host prepares: the weights rounded, two of them cut into column blocks. -/
module

public import proofs.«01_k».proof.Proof.Gen.KernelIdeal.Frame.Fold0
public import proofs.«01_k».proof.Proof.StepArgs
public import Idealize.ShloMosaic.Lib.Pipeline.ValueKit
public import Idealize.ShloMosaic.Lib.Claim

@[expose] public section

set_option maxRecDepth 16384

noncomputable section

namespace Cert.StepHost

open Cert.KernelIdeal Cert.KernelIdeal.Gen Idealize.ShloMosaic Idealize.ShloMosaic.TcCoe Idealize.SL.Sem
open Idealize.ShloMosaic.Pipeline (Dat)
open Cert.StepRef (B Ext Sig Dot DotT Grad Merged X1 Ms Rs Xn Gn Nrm NBack DX DGain Up Pos Sqr X2 DU DHm DWu DWd Emb Err Loss D3 DGate DWp Flat FlatP Ones)
open Cert.StepArgs

variable (m : (ℓ : Loc nD τ sig) → Buf (Elt Ideal) ℓ) (ρ : Dev nD → PrngReg) (c : Dev nD)

/-- The kernel's arguments. -/
def args : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

theorem ext_b {s : Shape} (X : FVec Ideal s .f32) : Ext (B X) = X := rfl

theorem a0 : V1 m ρ c main_arg0 = (args m c).x := W1_args m ρ c main_arg0 (by decide)

theorem a1 : V1 m ρ c main_arg1 = (args m c).ya := W1_args m ρ c main_arg1 (by decide)

theorem a2 : V1 m ρ c main_arg2 = (args m c).o := W1_args m ρ c main_arg2 (by decide)

theorem a3 : V1 m ρ c main_arg3 = (args m c).ga := W1_args m ρ c main_arg3 (by decide)

theorem a4 : V1 m ρ c main_arg4 = (args m c).gb := W1_args m ρ c main_arg4 (by decide)

theorem a5 : V1 m ρ c main_arg5 = (args m c).p := W1_args m ρ c main_arg5 (by decide)

theorem a6 : V1 m ρ c main_arg6 = (args m c).target := W1_args m ρ c main_arg6 (by decide)

theorem a7 : V1 m ρ c main_arg7 = (args m c).wr := W1_args m ρ c main_arg7 (by decide)

theorem a8 : V1 m ρ c main_arg8 = (args m c).wa := W1_args m ρ c main_arg8 (by decide)

theorem a9 : V1 m ρ c main_arg9 = (args m c).wo := W1_args m ρ c main_arg9 (by decide)

theorem a10 : V1 m ρ c main_arg10 = (args m c).gm := W1_args m ρ c main_arg10 (by decide)

theorem a11 : V1 m ρ c main_arg11 = (args m c).wu := W1_args m ρ c main_arg11 (by decide)

theorem a12 : V1 m ρ c main_arg12 = (args m c).wd := W1_args m ρ c main_arg12 (by decide)

theorem a13 : V1 m ρ c main_arg13 = (args m c).gp := W1_args m ρ c main_arg13 (by decide)

theorem a14 : V1 m ρ c main_arg14 = (args m c).wg := W1_args m ρ c main_arg14 (by decide)

theorem a15 : V1 m ρ c main_arg15 = (args m c).wp := W1_args m ρ c main_arg15 (by decide)

theorem v0 : Ext (V1 m ρ c main_v0) = (args m c).wr := by
  have h : V1 m ρ c main_v0 = B (args m c).wr := by
    unfold_abbrev_sides; after_results; try rfl
  rw [h]; exact ext_b _

theorem v1 : Ext (V1 m ρ c main_v1) = (args m c).wa := by
  have h : V1 m ρ c main_v1 = B (args m c).wa := by
    unfold_abbrev_sides; after_results; try rfl
  rw [h]; exact ext_b _

theorem v2 : Ext (V1 m ρ c main_v2) = (args m c).wo := by
  have h : V1 m ρ c main_v2 = B (args m c).wo := by
    unfold_abbrev_sides; after_results; try rfl
  rw [h]; exact ext_b _

theorem v3 : Ext (V1 m ρ c main_v3) = (args m c).wd := by
  have h : V1 m ρ c main_v3 = B (args m c).wd := by
    unfold_abbrev_sides; after_results; try rfl
  rw [h]; exact ext_b _

theorem v4 : Ext (V1 m ρ c main_v4) = (args m c).wg := by
  have h : V1 m ρ c main_v4 = B (args m c).wg := by
    unfold_abbrev_sides; after_results; try rfl
  rw [h]; exact ext_b _

theorem v7 : Flat (V1 m ρ c main_v7) = (args m c).wu := by
  have h : V1 m ρ c main_v7 = transpose S4x1024x1024 [1, 0, 2] (shapeCast _ (B (args m c).wu) shapeCasts_S1024x4096_S1024x4x1024) transposes_S1024x4x1024_S4x1024x1024_1_0_2 := by
    unfold_abbrev_sides; after_results; try rfl
  rw [h]
  funext i
  pointwise [Flat]

theorem v10 : FlatP (V1 m ρ c main_v10) = (args m c).wp := by
  have h : V1 m ρ c main_v10 = transpose S4x256x256 [1, 0, 2] (shapeCast _ (B (args m c).wp) shapeCasts_S256x1024_S256x4x256) transposes_S256x4x256_S4x256x256_1_0_2 := by
    unfold_abbrev_sides; after_results; try rfl
  rw [h]
  funext i
  pointwise [FlatP]

end Cert.StepHost

end
-- ==== Proof.StepMerge.lean ====
/- What the merge's forward and backward kernels leave in their result arrays: each grid point writes 512 rows, and
   those rows are the reference's. -/
module

public import proofs.«01_k».proof.Proof.Gen.KernelIdeal.Frame
public import proofs.«01_k».proof.Proof.StepRef
public import Idealize.ShloMosaic.Lib.Pipeline.ValueKit

@[expose] public section

set_option maxRecDepth 16384

noncomputable section

namespace Cert.StepMerge

open Cert.KernelIdeal Cert.KernelIdeal.Gen Idealize.ShloMosaic Idealize.ShloMosaic.TcCoe Idealize.SL.Sem
open Idealize.ShloMosaic.Pipeline (Dat)
open Cert.StepRef (B Ext Sig Dot DotT Grad Merged X1 Ms Rs Xn Gn Nrm NBack DX DGain Up Pos Sqr X2 DU DHm DWu DWd Emb Err Loss D3 DGate DWp Flat FlatP Ones)

variable (V : (c : Dev nD) → (b : Ref sig .tc) → Buf (Elt Ideal) ((c : Thread nD τ).loc b))

/-- The forward kernel's windows walk the rows; the weights stay. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![t.val, 0] ∧ win0_9.index t = ![t.val, 0] :=
  (by decide +kernel : ∀ t : Fin grid0.N, _)

/-- The backward kernel's windows likewise. -/
theorem idx8 : ∀ t : Fin cfg8.N, win8_0.index t = ![t.val, 0] ∧ win8_1.index t = ![t.val, 0] ∧ win8_2.index t = ![t.val, 0] ∧ win8_3.index t = ![t.val, 0] ∧ win8_4.index t = ![t.val, 0] ∧ win8_5.index t = ![0, 0] ∧ win8_6.index t = ![0, 0] ∧ win8_7.index t = ![0, 0] ∧ win8_8.index t = ![t.val, 0] ∧ win8_9.index t = ![t.val, 0] ∧ win8_10.index t = ![t.val, 0] ∧ win8_11.index t = ![t.val, 0] ∧ win8_12.index t = ![t.val, 0] ∧ win8_13.index t = ![t.val, 0] :=
  (by decide +kernel : ∀ t : Fin grid8.N, _)

/-- The residual stream after the merge. -/
theorem out0_8 (c : Dev nD) : (dat0 V c).arrAt 8 cfg0.N = X1 (V c main_arg0) (Merged (V c main_arg3) (V c main_arg4) (Ext (V c main_arg1)) (Ext (V c main_arg2)) (Ext (V c main_v0)) (Ext (V c main_v1))) (Ext (V c main_v2)) := by
  refine (dat0 V c).arrAt_eq_of_covers 8 _ (by decide +kernel) fun t _ y => ?_
  blk_simp
  rw [after0_8]; frame_out
  unfold_payloads
  pointwise [Merged, X1, Dot, DotT, Sig, Ones, Ext, B, DGate]
  simp only [zero_sub]
  blk_point [iblk0, idx0 t]

/-- The merged branches. -/
theorem out0_9 (c : Dev nD) : (dat0 V c).arrAt 9 cfg0.N = B (Merged (V c main_arg3) (V c main_arg4) (Ext (V c main_arg1)) (Ext (V c main_arg2)) (Ext (V c main_v0)) (Ext (V c main_v1))) := by
  refine (dat0 V c).arrAt_eq_of_covers 9 _ (by decide +kernel) fun t _ y => ?_
  blk_simp
  rw [after0_9]; frame_out
  unfold_payloads
  pointwise [Merged, X1, Dot, DotT, Sig, Ones, Ext, B, DGate]
  simp only [zero_sub]
  blk_point [iblk0, idx0 t]

/-- The gradient of the first gate. -/
theorem out8_8 (c : Dev nD) : (dat8 V c).arrAt 8 cfg8.N = B (DGate (mulf (DotT (V c main_v16_0) (Ext (V c main_v2))) (Dot (Ext (V c main_arg1)) (Ext (V c main_v0)))) (Sig (V c main_arg3))) := by
  refine (dat8 V c).arrAt_eq_of_covers 8 _ (by decide +kernel) fun t _ y => ?_
  blk_simp
  rw [after8_8]; frame_out
  unfold_payloads
  pointwise [Merged, X1, Dot, DotT, Sig, Ones, Ext, B, DGate]
  simp only [zero_sub]
  blk_point [iblk8, idx8 t]

/-- The gradient of the second gate. -/
theorem out8_9 (c : Dev nD) : (dat8 V c).arrAt 9 cfg8.N = B (DGate (mulf (DotT (V c main_v16_0) (Ext (V c main_v2))) (Dot (Ext (V c main_arg2)) (Ext (V c main_v1)))) (Sig (V c main_arg4))) := by
  refine (dat8 V c).arrAt_eq_of_covers 9 _ (by decide +kernel) fun t _ y => ?_
  blk_simp
  rw [after8_9]; frame_out
  unfold_payloads
  pointwise [Merged, X1, Dot, DotT, Sig, Ones, Ext, B, DGate]
  simp only [zero_sub]
  blk_point [iblk8, idx8 t]

/-- The cotangent of the first branch after its projection. -/
theorem out8_10 (c : Dev nD) : (dat8 V c).arrAt 10 cfg8.N = B (mulf (Sig (V c main_arg3)) (DotT (V c main_v16_0) (Ext (V c main_v2)))) := by
  refine (dat8 V c).arrAt_eq_of_covers 10 _ (by decide +kernel) fun t _ y => ?_
  blk_simp
  rw [after8_10]; frame_out
  unfold_payloads
  pointwise [Merged, X1, Dot, DotT, Sig, Ones, Ext, B, DGate]
  simp only [zero_sub]
  blk_point [iblk8, idx8 t]

/-- The cotangent of the second branch after its projection. -/
theorem out8_11 (c : Dev nD) : (dat8 V c).arrAt 11 cfg8.N = B (mulf (Sig (V c main_arg4)) (DotT (V c main_v16_0) (Ext (V c main_v2)))) := by
  refine (dat8 V c).arrAt_eq_of_covers 11 _ (by decide +kernel) fun t _ y => ?_
  blk_simp
  rw [after8_11]; frame_out
  unfold_payloads
  pointwise [Merged, X1, Dot, DotT, Sig, Ones, Ext, B, DGate]
  simp only [zero_sub]
  blk_point [iblk8, idx8 t]

/-- The cotangent of the first branch. -/
theorem out8_12 (c : Dev nD) : (dat8 V c).arrAt 12 cfg8.N = DotT (mulf (Sig (V c main_arg3)) (DotT (V c main_v16_0) (Ext (V c main_v2)))) (Ext (V c main_v0)) := by
  refine (dat8 V c).arrAt_eq_of_covers 12 _ (by decide +kernel) fun t _ y => ?_
  blk_simp
  rw [after8_12]; frame_out
  unfold_payloads
  pointwise [Merged, X1, Dot, DotT, Sig, Ones, Ext, B, DGate]
  simp only [zero_sub]
  blk_point [iblk8, idx8 t]

/-- The cotangent of the second branch. -/
theorem out8_13 (c : Dev nD) : (dat8 V c).arrAt 13 cfg8.N = DotT (mulf (Sig (V c main_arg4)) (DotT (V c main_v16_0) (Ext (V c main_v2)))) (Ext (V c main_v1)) := by
  refine (dat8 V c).arrAt_eq_of_covers 13 _ (by decide +kernel) fun t _ y => ?_
  blk_simp
  rw [after8_13]; frame_out
  unfold_payloads
  pointwise [Merged, X1, Dot, DotT, Sig, Ones, Ext, B, DGate]
  simp only [zero_sub]
  blk_point [iblk8, idx8 t]

end Cert.StepMerge

end
-- ==== Proof.StepMlp.lean ====
/- What the wide layer's forward kernel leaves: each grid point writes 256 rows of the normalised input, of the layer
   before and after its activation (in four column blocks), and of the residual stream. -/
module

public import proofs.«01_k».proof.Proof.Gen.KernelIdeal.Frame.Region1
public import proofs.«01_k».proof.Proof.StepRef
public import Idealize.ShloMosaic.Lib.Pipeline.ValueKit

@[expose] public section

set_option maxRecDepth 16384

noncomputable section

namespace Cert.StepMlp

open Cert.KernelIdeal Cert.KernelIdeal.Gen Idealize.ShloMosaic Idealize.ShloMosaic.TcCoe Idealize.SL.Sem
open Idealize.ShloMosaic.Pipeline (Dat)
open Cert.StepRef (B Ext Sig Dot DotT Grad Merged X1 Ms Rs Xn Gn Nrm NBack DX DGain Up Pos Sqr X2 DU DHm DWu DWd Emb Err Loss D3 DGate DWp Flat FlatP Ones)

variable (V : (c : Dev nD) → (b : Ref sig .tc) → Buf (Elt Ideal) ((c : Thread nD τ).loc b))

theorem idx1 : ∀ t : Fin cfg1.N, win1_0.index t = ![t.val, 0] ∧ win1_1.index t = ![0, 0] ∧ win1_2.index t = ![0, 0, 0] ∧ win1_3.index t = ![0, 0]
    ∧ win1_4.index t = ![t.val, 0] ∧ win1_5.index t = ![t.val, 0] ∧ win1_6.index t = ![t.val, 0] ∧ win1_7.index t = ![t.val, 0] :=
  (by decide +kernel : ∀ t : Fin grid1.N, _)

/-- A block's normalised rows, -/
theorem nrm_at (c : Dev nD) (t : Fin cfg1.N) (r : Fin 256) (l : Fin 1024) (R : Fin 4096) (hR : (R : ℕ) = t.val * 256 + r) :
    k1_pay2 (F := Ideal) (iblk1 V c 0 t) (iblk1 V c 1 t) (ix2 r l) = Nrm (V c main_v11_0) (V c main_arg10) (ix2 R l) := by
  pointwise [k1_pay2, k1_pay1, Nrm, Xn, Gn, Rs, Ms]
  blk_point [iblk1, idx1 t]

/-- The normalised rows. -/
theorem out1_5 (c : Dev nD) : (dat1 V c).arrAt 5 cfg1.N = B (Nrm (V c main_v11_0) (V c main_arg10)) := by
  refine (dat1 V c).arrAt_eq_of_covers 5 _ (by decide +kernel) fun t _ y => ?_
  blk_simp
  rw [after1_5]; unfold outsAt1; frame_out
  unfold_payloads
  pointwise [Nrm, Xn, Gn, Rs, Ms]
  blk_point [iblk1, idx1 t]

/-- and the wide layer before its activation. -/
theorem up_at (c : Dev nD) (t : Fin cfg1.N) (r : Fin 256) (q : Fin 4) (l : Fin 1024) (i : S4096x4096.Idx)
    (h0 : (i 0 : ℕ) = t.val * 256 + r) (h1 : (i 1 : ℕ) = q * 1024 + l) :
    (∑ k : Fin 1024, k1_pay2 (F := Ideal) (iblk1 V c 0 t) (iblk1 V c 1 t) (ix2 r k) * (show EReal from iblk1 V c 2 t (ix3 q k l)))
      = Up (Nrm (V c main_v11_0) (V c main_arg10)) (Flat (V c main_v7)) i := by
  pointwise [Up, Flat]
  refine Finset.sum_congr rfl fun k _ => Ideal.mul_congr (nrm_at V c t r k _ h0) ?_
  blk_point [iblk1, idx1 t]

/-- The wide layer before its activation: four column blocks, one store each. -/
theorem out1_6 (c : Dev nD) : (dat1 V c).arrAt 6 cfg1.N = Up (Nrm (V c main_v11_0) (V c main_arg10)) (Flat (V c main_v7)) := by
  refine (dat1 V c).arrAt_eq_of_covers 6 _ (by decide +kernel) fun t _ y => ?_
  blk_simp
  rw [after1_6]; unfold outsAt1; frame_out
  canon_tiles x h
  case piece0 => pointwise [k1_pay9]; refine up_at V c t (x 0) 3 (x 1) _ ?_ ?_ <;> blk_simp [idx1 t] <;> omega
  case piece1 => pointwise [k1_pay7]; refine up_at V c t (x 0) 2 (x 1) _ ?_ ?_ <;> blk_simp [idx1 t] <;> omega
  case piece2 => pointwise [k1_pay5]; refine up_at V c t (x 0) 1 (x 1) _ ?_ ?_ <;> blk_simp [idx1 t] <;> omega
  case piece3 => pointwise [k1_pay3]; refine up_at V c t (x 0) 0 (x 1) _ ?_ ?_ <;> blk_simp [idx1 t] <;> omega

/-- A square of a positive part, from what it is the square of. -/
theorem sqr_at (u : FVec Ideal S4096x4096 .f32) (a : EReal) (i : S4096x4096.Idx) (h : a = u i) : max a 0 * max a 0 = Sqr u i := by
  pointwise [Sqr, Pos]
  rw [h]

/-- The same after the activation. -/
theorem out1_7 (c : Dev nD) : (dat1 V c).arrAt 7 cfg1.N = B (Sqr (Up (Nrm (V c main_v11_0) (V c main_arg10)) (Flat (V c main_v7)))) := by
  refine (dat1 V c).arrAt_eq_of_covers 7 _ (by decide +kernel) fun t _ y => ?_
  blk_simp
  rw [after1_7]; unfold outsAt1; frame_out
  canon_tiles x h
  case piece0 => pointwise [k1_pay10, k1_pay9]; refine sqr_at _ _ _ (up_at V c t (x 0) 3 (x 1) _ ?_ ?_) <;> blk_simp [idx1 t] <;> omega
  case piece1 => pointwise [k1_pay8, k1_pay7]; refine sqr_at _ _ _ (up_at V c t (x 0) 2 (x 1) _ ?_ ?_) <;> blk_simp [idx1 t] <;> omega
  case piece2 => pointwise [k1_pay6, k1_pay5]; refine sqr_at _ _ _ (up_at V c t (x 0) 1 (x 1) _ ?_ ?_) <;> blk_simp [idx1 t] <;> omega
  case piece3 => pointwise [k1_pay4, k1_pay3]; refine sqr_at _ _ _ (up_at V c t (x 0) 0 (x 1) _ ?_ ?_) <;> blk_simp [idx1 t] <;> omega

/-- A load of a whole block reads it where it stands. -/
theorem whole_at (z : S256x4096.Idx) : (Rect.unit (s := S256x4096) ![0, 0] ![256, 4096] inb_S256x4096_S256x4096_0_0).toLoadRect.idx z = z := by
  funext a; apply Fin.ext; fin_cases a
  · show 0 + 1 * (z 0 : ℕ) = z 0; omega
  · show 0 + 1 * (z 1 : ℕ) = z 1; omega

/-- The residual stream. -/
theorem out1_4 (c : Dev nD) : (dat1 V c).arrAt 4 cfg1.N = X2 (V c main_v11_0) (Sqr (Up (Nrm (V c main_v11_0) (V c main_arg10)) (Flat (V c main_v7)))) (Ext (V c main_v3)) := by
  refine (dat1 V c).arrAt_eq_of_covers 4 _ (by decide +kernel) fun t _ y => ?_
  blk_simp
  rw [after1_4]; unfold outsAt1; frame_out
  pointwise [k1_pay11, k1_pay1, X2]
  refine Ideal.add_congr ?_ (Finset.sum_congr rfl fun k _ => Ideal.mul_congr ?_ ?_)
  · blk_point [iblk1, idx1 t]
  · rw [View.readCov_eq_canon']
    beta_reduce
    rw [whole_at]
    obtain ⟨z, hz⟩ : ∃ z : S256x4096.Idx, z = ix2 (y 0) k := ⟨_, rfl⟩
    have hz0 : (z 0 : ℕ) = (y 0 : ℕ) := by rw [hz]; rfl
    have hz1 : (z 1 : ℕ) = (k : ℕ) := by rw [hz]; rfl
    set_option backward.isDefEq.respectTransparency false in rw [← hz]
    clear hz
    canon_tiles x h
    case piece0 => pointwise [k1_pay10, k1_pay9]; refine sqr_at _ _ _ (up_at V c t (x 0) 3 (x 1) _ ?_ ?_) <;> blk_simp [idx1 t] <;> omega
    case piece1 => pointwise [k1_pay8, k1_pay7]; refine sqr_at _ _ _ (up_at V c t (x 0) 2 (x 1) _ ?_ ?_) <;> blk_simp [idx1 t] <;> omega
    case piece2 => pointwise [k1_pay6, k1_pay5]; refine sqr_at _ _ _ (up_at V c t (x 0) 1 (x 1) _ ?_ ?_) <;> blk_simp [idx1 t] <;> omega
    case piece3 => pointwise [k1_pay4, k1_pay3]; refine sqr_at _ _ _ (up_at V c t (x 0) 0 (x 1) _ ?_ ?_) <;> blk_simp [idx1 t] <;> omega
  · blk_point [iblk1, idx1 t]

end Cert.StepMlp

end
-- ==== Proof.StepScalar.lean ====
/- The extended-real facts the step's kernels need: the constants, the norm's backward formula in its two spellings,
   the squared activation's slope, and the loss's factors under its sums. -/
module

public import Idealize.ShloMosaic.Lib.Pipeline.ValueKit
public import Idealize.ShloMosaic.Lib.Pointwise

@[expose] public section

noncomputable section

namespace Cert.StepScalar

open Idealize.ShloMosaic

theorem c1024 : Ideal.ofBits .f32 0x44800000#32 = ((1024 : ℝ) : EReal) := by
  simp [Ideal.ofBits, Ideal.ieee, -EReal.coe_mul]; norm_num

theorem cInv : Ideal.ofBits .f32 0x3A800000#32 = ((1 / 1024 : ℝ) : EReal) := by
  simp [Ideal.ofBits, Ideal.ieee, -EReal.coe_mul]; norm_num

theorem cInvHalf : Ideal.ofBits .f32 0x3A000000#32 = ((1 / 2048 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul, -EReal.coe_neg]; norm_num

theorem cTwo : Ideal.ofBits .f32 0x40000000#32 = ((2 : ℝ) : EReal) := by
  simp [Ideal.ofBits, Ideal.ieee, -EReal.coe_mul]; norm_num

theorem cEps : ∃ e : ℝ, 0 < e ∧ Ideal.ofBits .f32 0x358637BD#32 = (e : EReal) := by
  refine ⟨_, ?_, by simp [Ideal.ofBits, Ideal.ieee, -EReal.coe_mul]; rfl⟩
  positivity

/-- A square is not negative. -/
theorem sq_nonneg (x : EReal) : 0 ≤ x * x := by
  induction x using EReal.rec with
  | bot => simp
  | top => simp
  | coe r => rw [← EReal.coe_mul]; exact_mod_cast mul_self_nonneg r

theorem add_self (a : EReal) : a + a = ((2 : ℝ) : EReal) * a := by
  induction a using EReal.rec with
  | bot => rw [EReal.coe_mul_bot_of_pos (by norm_num)]; rfl
  | top => rw [EReal.coe_mul_top_of_pos (by norm_num)]; rfl
  | coe r => rw [← EReal.coe_add, ← EReal.coe_mul]; congr 1; ring

/-- The mean square and its epsilon are positive. -/
theorem ms_pos (q : EReal) (hq : 0 ≤ q) : 0 < Ideal.div q (Ideal.ofBits .f32 0x44800000#32) + Ideal.ofBits .f32 0x358637BD#32 := by
  obtain ⟨e, he, h⟩ := cEps
  rw [h, c1024, Ideal.div_coe (by norm_num)]
  refine lt_of_lt_of_le (EReal.coe_pos.2 he) (le_add_of_nonneg_left (mul_nonneg hq ?_))
  exact EReal.coe_nonneg.2 (by norm_num)

/-- The cube of an inverse root is the inverse root over the argument. -/
theorem cube (a : EReal) (ha : 0 < a) : Ideal.rsqrt a * Ideal.rsqrt a * Ideal.rsqrt a = Ideal.div (Ideal.rsqrt a) a := by
  induction a using EReal.rec with
  | bot => exact absurd ha (by simp)
  | top => simp [Ideal.div]
  | coe r =>
    have hr : 0 < r := EReal.coe_pos.1 ha
    rw [Ideal.rsqrt_coe, if_neg (not_lt.2 hr.le), if_neg hr.ne', Ideal.div_coe hr.ne', ← EReal.coe_mul, ← EReal.coe_mul, ← EReal.coe_mul]
    congr 1
    have hs : Real.sqrt r * Real.sqrt r = r := Real.mul_self_sqrt hr.le
    have h0 : Real.sqrt r ≠ 0 := (Real.sqrt_pos.2 hr).ne'
    rw [← mul_inv, hs, one_div, mul_comm]

/-- The norm's backward pass: the kernel's spelling, with the cube of the inverse root, and the reference's, where the
    square sends the mean's cotangent back twice. -/
theorem norm_back (d x dn q S : EReal) (hq : 0 ≤ q) :
    d + (Ideal.rsqrt (Ideal.div q (Ideal.ofBits .f32 0x44800000#32) + Ideal.ofBits .f32 0x358637BD#32) * dn
        - x * (Ideal.rsqrt (Ideal.div q (Ideal.ofBits .f32 0x44800000#32) + Ideal.ofBits .f32 0x358637BD#32)
            * Ideal.rsqrt (Ideal.div q (Ideal.ofBits .f32 0x44800000#32) + Ideal.ofBits .f32 0x358637BD#32)
            * Ideal.rsqrt (Ideal.div q (Ideal.ofBits .f32 0x44800000#32) + Ideal.ofBits .f32 0x358637BD#32)
            * Ideal.div S (Ideal.ofBits .f32 0x44800000#32)))
    = d + dn * Ideal.rsqrt (Ideal.div q (Ideal.ofBits .f32 0x44800000#32) + Ideal.ofBits .f32 0x358637BD#32)
        + x * Ideal.div (S * (Ideal.ofBits .f32 0xBF000000#32 * Ideal.div (Ideal.rsqrt (Ideal.div q (Ideal.ofBits .f32 0x44800000#32) + Ideal.ofBits .f32 0x358637BD#32)) (Ideal.div q (Ideal.ofBits .f32 0x44800000#32) + Ideal.ofBits .f32 0x358637BD#32))) (Ideal.ofBits .f32 0x44800000#32)
        + Ideal.div (S * (Ideal.ofBits .f32 0xBF000000#32 * Ideal.div (Ideal.rsqrt (Ideal.div q (Ideal.ofBits .f32 0x44800000#32) + Ideal.ofBits .f32 0x358637BD#32)) (Ideal.div q (Ideal.ofBits .f32 0x44800000#32) + Ideal.ofBits .f32 0x358637BD#32))) (Ideal.ofBits .f32 0x44800000#32) * x := by
  rw [cube _ (ms_pos q hq)]
  generalize Ideal.div q (Ideal.ofBits .f32 0x44800000#32) + Ideal.ofBits .f32 0x358637BD#32 = ms
  generalize Ideal.div (Ideal.rsqrt ms) ms = r3
  generalize Ideal.rsqrt ms = r
  rw [c1024, cNegHalf, Ideal.div_coe (by norm_num), Ideal.div_coe (by norm_num)]
  generalize ((1 / 1024 : ℝ) : EReal) = k
  rw [add_assoc (d + dn * r), mul_comm (S * _ * k) x, add_self, sub_eq_add_neg, ← add_assoc, mul_comm r dn]
  congr 1
  rw [show ((2 : ℝ) : EReal) * (x * (S * (((-(1 / 2) : ℝ) : EReal) * r3) * k)) = (((2 : ℝ) : EReal) * ((-(1 / 2) : ℝ) : EReal)) * (x * (r3 * (S * k))) by ac_rfl,
    ← EReal.coe_mul, show (2 * (-(1 / 2)) : ℝ) = -1 by norm_num, EReal.coe_neg, EReal.neg_mul, EReal.coe_one, one_mul]

/-- The slope of the squared positive part needs no comparison. -/
theorem slope (a u : EReal) : (if 0 < u then a * (Ideal.ofBits .f32 0x40000000#32 * max u 0) else 0) = a * (Ideal.ofBits .f32 0x40000000#32 * max u 0) := by
  split
  · rfl
  · rename_i h
    rw [max_eq_right (not_lt.1 h), mul_zero, mul_zero]

/-- The last cotangent's two spellings. -/
theorem err_scale (e : EReal) : e * Ideal.ofBits .f32 0x3A800000#32 = Ideal.div (Ideal.ofBits .f32 0x3F000000#32) (Ideal.ofBits .f32 0x44800000#32) * (Ideal.ofBits .f32 0x40000000#32 * e) := by
  rw [cInv, cHalf, c1024, cTwo, Ideal.div_coe (by norm_num), ← mul_assoc, ← EReal.coe_mul, ← EReal.coe_mul, mul_comm]
  congr 2; norm_num

/-- A positive real passes under a sum. -/
theorem mul_sum {ι : Type} [Fintype ι] (k : ℝ) (hk : 0 < k) (f : ι → EReal) : (∑ i, f i) * (k : EReal) = ∑ i, f i * (k : EReal) := by
  classical
  induction (Finset.univ : Finset ι) using Finset.induction_on with
  | empty => simp
  | insert a s ha ih =>
    rw [Finset.sum_insert ha, Finset.sum_insert ha, ← ih, EReal.right_distrib_of_nonneg_of_ne_top (EReal.coe_nonneg.2 hk.le) (EReal.coe_ne_top k)]

end Cert.StepScalar

end
-- ==== Proof.StepNorm.lean ====
/- The norm's backward pass at one element, in the kernels' spelling and the reference's; and the slope of the squared
   activation. Everything is stated of the values an element is computed from, so that either norm's kernel can use it. -/
module

public import proofs.«01_k».proof.Proof.StepRef
public import proofs.«01_k».proof.Proof.StepScalar

@[expose] public section

set_option maxRecDepth 16384

noncomputable section

namespace Cert.StepNorm

open Cert.ReferenceIdeal Cert.ReferenceIdeal.Gen Idealize.ShloMosaic Idealize.ShloMosaic.TcCoe Idealize.SL.Sem
open Cert.StepRef Cert.StepScalar

/-- The inverse root a row's kernel computes. -/
def Inv (xk : Fin 1024 → EReal) : EReal :=
  Ideal.rsqrt (Ideal.div (∑ k, xk k * xk k) (Ideal.ofBits .f32 0x44800000#32) + Ideal.ofBits .f32 0x358637BD#32)

/-- A residual stream's cotangent from its row `xk`, the cotangent `dk` of the row's normalised value times the gain,
    and the values at the element. -/
theorem dx_at (X dn d : Rows) (i : S4096x1024.Idx) (xk dk : Fin 1024 → EReal) (x y e : EReal)
    (hX : ∀ k, xk k = X (ix2 (i 0) k)) (hd : ∀ k, dk k = dn (ix2 (i 0) k)) (hx : x = X i) (hy : y = dn i) (he : e = d i) :
    e + (Inv xk * y - x * (Inv xk * Inv xk * Inv xk * Ideal.div (∑ k, dk k * xk k) (Ideal.ofBits .f32 0x44800000#32))) = DX d X dn i := by
  obtain rfl : xk = fun k => X (ix2 (i 0) k) := funext hX
  obtain rfl : dk = fun k => dn (ix2 (i 0) k) := funext hd
  subst hx hy he
  pointwise [DX, NBack, Rs, Ms]
  have hq : 0 ≤ ∑ k : Fin 1024, (show EReal from X (ix2 (i 0) k)) * X (ix2 (i 0) k) := Finset.sum_nonneg fun k _ => sq_nonneg _
  have h := norm_back (d i) (X i) (dn i) _ (∑ k : Fin 1024, (show EReal from dn (ix2 (i 0) k)) * X (ix2 (i 0) k)) hq
  rw [Finset.sum_congr (g := fun k : Fin 1024 => (show EReal from X (ix2 (i 0) k)) * dn (ix2 (i 0) k)) rfl fun k _ => mul_comm (show EReal from dn (ix2 (i 0) k)) (show EReal from X (ix2 (i 0) k))] at h
  rw [Finset.sum_congr (g := fun k : Fin 1024 => (show EReal from X (ix2 (i 0) k)) * dn (ix2 (i 0) k)) rfl fun k _ => mul_comm (show EReal from dn (ix2 (i 0) k)) (show EReal from X (ix2 (i 0) k))]
  simp only [Fin.sum_univ_one]
  exact h

/-- One row's part of a gain's gradient. -/
theorem gain_at (X d : Rows) (i : S4096x1024.Idx) (xk : Fin 1024 → EReal) (x y : EReal)
    (hX : ∀ k, xk k = X (ix2 (i 0) k)) (hx : x = X i) (hy : y = d i) : y * (x * Inv xk) = Xn X i * d i := by
  obtain rfl : xk = fun k => X (ix2 (i 0) k) := funext hX
  subst hx hy
  pointwise [Xn, Rs, Ms]
  exact mul_comm (show EReal from _) (show EReal from _)

theorem DGain_at (X d : Rows) (j) : DGain X d j = ∑ l : Fin 4096, (show EReal from Xn X (ix2 l (j 1))) * d (ix2 l (j 1)) := by
  pointwise [DGain]

/-- The cotangent of the wide layer before its activation. -/
theorem du_at (d wd : Rows) (u : Wide) (i : S4096x4096.Idx) (a b : Fin 1024 → EReal) (c : EReal)
    (ha : ∀ k, a k = d (ix2 (i 0) k)) (hb : ∀ k, b k = wd (ix2 (i 1) k)) (hc : c = u i) :
    (∑ k, a k * b k) * (Ideal.ofBits .f32 0x40000000#32 * max c 0) = DU d wd u i := by
  obtain rfl : a = fun k => d (ix2 (i 0) k) := funext ha
  obtain rfl : b = fun k => wd (ix2 (i 1) k) := funext hb
  subst hc
  pointwise [DU, Pos]
  exact (slope _ _).symm

end Cert.StepNorm

end
-- ==== Proof.StepPle.lean ====
/- The last kernel of the forward pass, which is the first of the backward pass: the gated embedding, the loss, and their
   cotangents. Each grid point has 512 rows. -/
module

public import proofs.«01_k».proof.Proof.Gen.KernelIdeal.Frame.Region2
public import proofs.«01_k».proof.Proof.StepRef
public import proofs.«01_k».proof.Proof.StepNorm
public import Idealize.ShloMosaic.Lib.Pipeline.ValueKit

@[expose] public section

set_option maxRecDepth 16384

noncomputable section

namespace Cert.StepPle

open Cert.KernelIdeal Cert.KernelIdeal.Gen Idealize.ShloMosaic Idealize.ShloMosaic.TcCoe Idealize.SL.Sem
open Idealize.ShloMosaic.Pipeline (Dat)
open Cert.StepNorm Cert.StepScalar
open Cert.StepRef (B Ext Sig Dot DotT Grad Merged X1 Ms Rs Xn Gn Nrm NBack DX DGain Up Pos Sqr X2 DU DHm DWu DWd Emb Err Loss D3 DGate DWp Flat FlatP Ones)

variable (V : (c : Dev nD) → (b : Ref sig .tc) → Buf (Elt Ideal) ((c : Thread nD τ).loc b))

theorem idx2 : ∀ t : Fin cfg2.N, win2_0.index t = ![t.val, 0] ∧ win2_1.index t = ![t.val, 0] ∧ win2_2.index t = ![t.val, 0] ∧ win2_3.index t = ![0, 0]
    ∧ win2_4.index t = ![0, 0] ∧ win2_5.index t = ![0, 0, 0] ∧ win2_6.index t = ![0, 0] ∧ win2_7.index t = ![t.val, 0] ∧ win2_8.index t = ![t.val, 0]
    ∧ win2_9.index t = ![t.val, 0] ∧ win2_10.index t = ![t.val, 0] ∧ win2_11.index t = ![t.val, 0] ∧ win2_12.index t = ![0, 0] :=
  (by decide +kernel : ∀ t : Fin grid2.N, _)

/-- A block's rows through the embedding's projection, -/
def eK (c : Dev nD) (t : Fin cfg2.N) : FVec Ideal S512x1024 .f32 := (k2_pay9 (iblk2 V c 1 t) (View.ld (iblk2 V c 5 t) (Rect.unit ![0, 0, 0] ![1, 256, 256] inb_S4x256x256_S1x256x256_0_0_0)) (View.ld (iblk2 V c 5 t) (Rect.unit ![1, 0, 0] ![1, 256, 256] inb_S4x256x256_S1x256x256_1_0_0)) (View.ld (iblk2 V c 5 t) (Rect.unit ![2, 0, 0] ![1, 256, 256] inb_S4x256x256_S1x256x256_2_0_0)) (View.ld (iblk2 V c 5 t) (Rect.unit ![3, 0, 0] ![1, 256, 256] inb_S4x256x256_S1x256x256_3_0_0)))

/-- its gate, -/
def sK (c : Dev nD) (t : Fin cfg2.N) : FVec Ideal S512x1024 .f32 := (k2_pay14 (k2_pay7 (iblk2 V c 0 t)) (iblk2 V c 3 t) (k2_pay10 (iblk2 V c 0 t)) k2_pay11 (iblk2 V c 4 t))

/-- and the cotangent of its last stream. -/
def dK (c : Dev nD) (t : Fin cfg2.N) : FVec Ideal S512x1024 .f32 := (k2_pay17 (k2_pay7 (iblk2 V c 0 t)) (iblk2 V c 3 t) (eK V c t) (k2_pay10 (iblk2 V c 0 t)) k2_pay11 (iblk2 V c 4 t) (iblk2 V c 2 t))

theorem e_at (c : Dev nD) (t : Fin cfg2.N) (y : S512x1024.Idx) (i : S4096x1024.Idx) (h0 : (i 0 : ℕ) = t.val * 512 + (y 0 : ℕ)) (h1 : (i 1 : ℕ) = (y 1 : ℕ)) :
    eK V c t y = (Emb (V c main_arg5) (FlatP (V c main_v10))) i := by
  unfold eK
  pointwise [k2_pay9, k2_pay8, Emb, FlatP]
  split_ifs <;> refine Finset.sum_congr rfl fun k _ => Ideal.mul_congr ?_ ?_
  all_goals blk_point [iblk2, idx2 t]

theorem hp_at (c : Dev nD) (t : Fin cfg2.N) (y : S512x1024.Idx) (i : S4096x1024.Idx) (h0 : (i 0 : ℕ) = t.val * 512 + (y 0 : ℕ)) (h1 : (i 1 : ℕ) = (y 1 : ℕ)) :
    k2_pay13 (F := Ideal) (k2_pay7 (iblk2 V c 0 t)) (iblk2 V c 3 t) (k2_pay10 (iblk2 V c 0 t)) k2_pay11 y = Nrm (V c main_v12_0) (V c main_arg13) i := by
  pointwise [k2_pay13, k2_pay12, k2_pay11, k2_pay10, k2_pay7, Nrm, Xn, Gn, Rs, Ms]
  blk_point [iblk2, idx2 t]

theorem s_at (c : Dev nD) (t : Fin cfg2.N) (y : S512x1024.Idx) (i : S4096x1024.Idx) (h0 : (i 0 : ℕ) = t.val * 512 + (y 0 : ℕ)) (h1 : (i 1 : ℕ) = (y 1 : ℕ)) :
    sK V c t y = (Sig (Dot (Nrm (V c main_v12_0) (V c main_arg13)) (Ext (V c main_v4)))) i := by
  unfold sK k2_pay14
  have hh := hp_at V c t
  generalize k2_pay13 (F := Ideal) (k2_pay7 (iblk2 V c 0 t)) (iblk2 V c 3 t) (k2_pay10 (iblk2 V c 0 t)) k2_pay11 = P at hh ⊢
  generalize Nrm (V c main_v12_0) (V c main_arg13) = N at hh ⊢
  pointwise [Sig, Dot]
  simp only [zero_sub]
  refine congrArg (fun z => Ideal.div 1 (1 + Ideal.exp (-z))) (Finset.sum_congr rfl fun k _ => Ideal.mul_congr (hh _ _ ?_ rfl) ?_)
  all_goals first | (blk_simp [idx2 t]; omega) | blk_point [iblk2, idx2 t]

theorem r_at (c : Dev nD) (t : Fin cfg2.N) (y : S512x1024.Idx) (i : S4096x1024.Idx) (h0 : (i 0 : ℕ) = t.val * 512 + (y 0 : ℕ)) (h1 : (i 1 : ℕ) = (y 1 : ℕ)) :
    k2_pay15 (k2_pay7 (iblk2 V c 0 t)) (iblk2 V c 3 t) (eK V c t) (k2_pay10 (iblk2 V c 0 t)) k2_pay11 (iblk2 V c 4 t) (iblk2 V c 2 t) y = (Err (V c main_v12_0) (Emb (V c main_arg5) (FlatP (V c main_v10))) (Sig (Dot (Nrm (V c main_v12_0) (V c main_arg13)) (Ext (V c main_v4)))) (V c main_arg6)) i := by
  unfold k2_pay15
  rw [← sK]
  have hs := s_at V c t y i h0 h1
  have he := e_at V c t y i h0 h1
  generalize sK V c t = s at hs ⊢
  generalize eK V c t = e at he ⊢
  generalize (Sig (Dot (Nrm (V c main_v12_0) (V c main_arg13)) (Ext (V c main_v4)))) = s' at hs ⊢
  generalize (Emb (V c main_arg5) (FlatP (V c main_v10))) = e' at he ⊢
  pointwise [k2_pay7, Err]
  rw [he, hs]
  blk_point [iblk2, idx2 t]

theorem d_at (c : Dev nD) (t : Fin cfg2.N) (y : S512x1024.Idx) (i : S4096x1024.Idx) (h0 : (i 0 : ℕ) = t.val * 512 + (y 0 : ℕ)) (h1 : (i 1 : ℕ) = (y 1 : ℕ)) :
    dK V c t y = (D3 (Err (V c main_v12_0) (Emb (V c main_arg5) (FlatP (V c main_v10))) (Sig (Dot (Nrm (V c main_v12_0) (V c main_arg13)) (Ext (V c main_v4)))) (V c main_arg6))) i := by
  unfold dK k2_pay17
  have hr := r_at V c t y i h0 h1
  generalize k2_pay15 (k2_pay7 (iblk2 V c 0 t)) (iblk2 V c 3 t) (eK V c t) (k2_pay10 (iblk2 V c 0 t)) k2_pay11 (iblk2 V c 4 t) (iblk2 V c 2 t) = r at hr ⊢
  generalize (Err (V c main_v12_0) (Emb (V c main_arg5) (FlatP (V c main_v10))) (Sig (Dot (Nrm (V c main_v12_0) (V c main_arg13)) (Ext (V c main_v4)))) (V c main_arg6)) = r' at hr ⊢
  pointwise [D3]
  rw [hr]
  exact err_scale _

theorem q_at (c : Dev nD) (t : Fin cfg2.N) (y : S512x1024.Idx) (i : S4096x1024.Idx) (h0 : (i 0 : ℕ) = t.val * 512 + (y 0 : ℕ)) (h1 : (i 1 : ℕ) = (y 1 : ℕ)) :
    k2_pay1 (eK V c t) (sK V c t) (dK V c t) y = (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) i := by
  have hs := s_at V c t y i h0 h1
  have he := e_at V c t y i h0 h1
  have hd := d_at V c t y i h0 h1
  generalize sK V c t = s at hs ⊢
  generalize eK V c t = e at he ⊢
  generalize dK V c t = d at hd ⊢
  generalize (D3 (Err (V c main_v12_0) (Emb (V c main_arg5) (FlatP (V c main_v10))) (Sig (Dot (Nrm (V c main_v12_0) (V c main_arg13)) (Ext (V c main_v4)))) (V c main_arg6))) = d' at hd ⊢
  generalize (Sig (Dot (Nrm (V c main_v12_0) (V c main_arg13)) (Ext (V c main_v4)))) = s' at hs ⊢
  generalize (Emb (V c main_arg5) (FlatP (V c main_v10))) = e' at he ⊢
  pointwise [k2_pay1, DGate]
  rw [he, hs, hd]
  rw [mul_comm (d' i) (e' i)]

theorem h_at (c : Dev nD) (t : Fin cfg2.N) (y : S512x1024.Idx) (i : S4096x1024.Idx) (h0 : (i 0 : ℕ) = t.val * 512 + (y 0 : ℕ)) (h1 : (i 1 : ℕ) = (y 1 : ℕ)) :
    k2_pay2 (eK V c t) (sK V c t) (dK V c t) (iblk2 V c 4 t) y = (DotT (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) (Ext (V c main_v4))) i := by
  unfold k2_pay2
  have hq := q_at V c t
  generalize k2_pay1 (eK V c t) (sK V c t) (dK V c t) = q at hq ⊢
  generalize (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) = q' at hq ⊢
  pointwise [DotT]
  refine Finset.sum_congr rfl fun k _ => Ideal.mul_congr (hq _ _ ?_ rfl) ?_
  all_goals first | (blk_simp [idx2 t]; omega) | (blk_simp [idx2 t]; rfl) | blk_point [iblk2, idx2 t]

/-- The embedding's input. -/
theorem out2_8 (c : Dev nD) : (dat2 V c).arrAt 8 cfg2.N = B (V c main_arg5) := by
  refine (dat2 V c).arrAt_eq_of_covers 8 _ (by decide +kernel) fun t _ y => ?_
  blk_simp
  rw [after2_8]
  have h : (outsAt2 V c t.val t.isLt).2.2.1 y = k2_pay8 (iblk2 V c 1 t) y := by
    by_cases h0 : t.val % 8 = 0
    · rw [outsAt2_A V c t h0]; frame_out; all_goals rfl
    · rw [outsAt2_B V c t h0]; frame_out; all_goals rfl
  rw [h]; clear h
  pointwise [k2_pay8]
  blk_point [iblk2, idx2 t]

/-- The normalised rows. -/
theorem out2_10 (c : Dev nD) : (dat2 V c).arrAt 10 cfg2.N = B (Nrm (V c main_v12_0) (V c main_arg13)) := by
  refine (dat2 V c).arrAt_eq_of_covers 10 _ (by decide +kernel) fun t _ y => ?_
  blk_simp
  rw [after2_10]
  have h : (outsAt2 V c t.val t.isLt).2.2.2.2.1 y = k2_pay13 (k2_pay7 (iblk2 V c 0 t)) (iblk2 V c 3 t) (k2_pay10 (iblk2 V c 0 t)) k2_pay11 y := by
    by_cases h0 : t.val % 8 = 0
    · rw [outsAt2_A V c t h0]; frame_out; all_goals rfl
    · rw [outsAt2_B V c t h0]; frame_out; all_goals rfl
  rw [h]; clear h
  refine hp_at V c t y _ ?_ ?_ <;> blk_simp [idx2 t] <;> omega

/-- The gate's cotangent. -/
theorem out2_11 (c : Dev nD) : (dat2 V c).arrAt 11 cfg2.N = B (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) := by
  refine (dat2 V c).arrAt_eq_of_covers 11 _ (by decide +kernel) fun t _ y => ?_
  blk_simp
  rw [after2_11]
  have h : (outsAt2 V c t.val t.isLt).2.2.2.2.2.1 y = k2_pay1 (eK V c t) (sK V c t) (dK V c t) y := by
    by_cases h0 : t.val % 8 = 0
    · rw [outsAt2_A V c t h0]; frame_out; all_goals rfl
    · rw [outsAt2_B V c t h0]; frame_out; all_goals rfl
  rw [h]; clear h
  refine q_at V c t y _ ?_ ?_ <;> blk_simp [idx2 t] <;> omega

/-- The cotangent of the projected embedding. -/
theorem out2_9 (c : Dev nD) : (dat2 V c).arrAt 9 cfg2.N = B (mulf (D3 (Err (V c main_v12_0) (Emb (V c main_arg5) (FlatP (V c main_v10))) (Sig (Dot (Nrm (V c main_v12_0) (V c main_arg13)) (Ext (V c main_v4)))) (V c main_arg6))) (Sig (Dot (Nrm (V c main_v12_0) (V c main_arg13)) (Ext (V c main_v4))))) := by
  refine (dat2 V c).arrAt_eq_of_covers 9 _ (by decide +kernel) fun t _ y => ?_
  blk_simp
  rw [after2_9]
  have h : (outsAt2 V c t.val t.isLt).2.2.2.1 y = k2_pay18 (k2_pay7 (iblk2 V c 0 t)) (iblk2 V c 3 t) (eK V c t) (k2_pay10 (iblk2 V c 0 t)) k2_pay11 (iblk2 V c 4 t) (iblk2 V c 2 t) y := by
    by_cases h0 : t.val % 8 = 0
    · rw [outsAt2_A V c t h0]; frame_out; all_goals rfl
    · rw [outsAt2_B V c t h0]; frame_out; all_goals rfl
  rw [h]; clear h
  unfold k2_pay18
  rw [← dK, ← sK]
  have hs := s_at V c t y
  have hd := d_at V c t y
  generalize sK V c t = s at hs ⊢
  generalize dK V c t = d at hd ⊢
  generalize (D3 (Err (V c main_v12_0) (Emb (V c main_arg5) (FlatP (V c main_v10))) (Sig (Dot (Nrm (V c main_v12_0) (V c main_arg13)) (Ext (V c main_v4)))) (V c main_arg6))) = d' at hd ⊢
  generalize (Sig (Dot (Nrm (V c main_v12_0) (V c main_arg13)) (Ext (V c main_v4)))) = s' at hs ⊢
  pointwise []
  refine Ideal.mul_congr (hd _ ?_ ?_) (hs _ ?_ ?_) <;> (first | (blk_simp [idx2 t]; done) | (blk_simp [idx2 t]; omega))

/-- The cotangent of the residual stream before the embedding. -/
theorem out2_7 (c : Dev nD) : (dat2 V c).arrAt 7 cfg2.N = DX (D3 (Err (V c main_v12_0) (Emb (V c main_arg5) (FlatP (V c main_v10))) (Sig (Dot (Nrm (V c main_v12_0) (V c main_arg13)) (Ext (V c main_v4)))) (V c main_arg6))) (V c main_v12_0) (Gn (DotT (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) (Ext (V c main_v4))) (V c main_arg13)) := by
  refine (dat2 V c).arrAt_eq_of_covers 7 _ (by decide +kernel) fun t _ y => ?_
  blk_simp
  rw [after2_7]
  have h : (outsAt2 V c t.val t.isLt).2.1 y = k2_pay3 (k2_pay7 (iblk2 V c 0 t)) (iblk2 V c 3 t) (eK V c t) (k2_pay12 (k2_pay10 (iblk2 V c 0 t)) k2_pay11) (sK V c t) (dK V c t) (iblk2 V c 4 t) y := by
    by_cases h0 : t.val % 8 = 0
    · rw [outsAt2_A V c t h0]; frame_out; all_goals rfl
    · rw [outsAt2_B V c t h0]; frame_out; all_goals rfl
  rw [h]; clear h
  unfold k2_pay3
  have hh := h_at V c t
  have hd := d_at V c t
  generalize k2_pay2 (eK V c t) (sK V c t) (dK V c t) (iblk2 V c 4 t) = h at hh ⊢
  generalize (DotT (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) (Ext (V c main_v4))) = h' at hh ⊢
  generalize dK V c t = d at hd ⊢
  generalize (D3 (Err (V c main_v12_0) (Emb (V c main_arg5) (FlatP (V c main_v10))) (Sig (Dot (Nrm (V c main_v12_0) (V c main_arg13)) (Ext (V c main_v4)))) (V c main_arg6))) = d' at hd ⊢
  pointwise [k2_pay7, k2_pay10, k2_pay11, k2_pay12]
  refine dx_at _ _ _ _ _ _ _ _ _ (fun k => ?_) (fun k => ?_) ?_ ?_ (hd _ _ ?_ ?_)
  all_goals (try beta_reduce)
  · blk_point [iblk2, idx2 t]
  · pointwise [Gn]
    refine Ideal.mul_congr (hh _ _ ?_ rfl) ?_
    all_goals first | (blk_simp [idx2 t]; omega) | blk_point [iblk2, idx2 t]
  · blk_point [iblk2, idx2 t]
  · pointwise [Gn]
    refine Ideal.mul_congr (hh _ _ ?_ ?_) ?_
    all_goals first | (blk_simp [idx2 t]; omega) | blk_point [iblk2, idx2 t]
  all_goals (first | (blk_simp [idx2 t]; done) | (blk_simp [idx2 t]; omega))

/-- The gain's gradient, added up from zero. -/
theorem zero2 (j) : k2_pay5 (F := Ideal) j = 0 := by pointwise [k2_pay5]

theorem add2 (x e r s d w acc j) : k2_pay4 (F := Ideal) x e r s d w acc j
    = acc j + ∑ l : Fin 512, k2_pay2 e s d w (ix2 l (j 1)) * (x (ix2 l (j 1)) * r (ix2 l 0)) := by
  pointwise [k2_pay4]

theorem out2_12 (c : Dev nD) : (dat2 V c).arrAt 12 cfg2.N = DGain (V c main_v12_0) (DotT (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) (Ext (V c main_v4))) := by
  refine (dat2 V c).arrAt_eq_of_after_last 12 t2_7 (by decide +kernel) _ fun j => ?_
  blk_simp
  rw [after2_12, Pipeline.eq_sum_fin_of_reset_step_apply_last (fun n h => (outsAt2 V c n h).2.2.2.2.2.2) 8 (fun _ => 0)
    (fun t j => ∑ l : Fin 512, (show EReal from k2_pay2 (eK V c t) (sK V c t) (dK V c t) (iblk2 V c 4 t) (ix2 l (j 1))) * ((show EReal from (k2_pay7 (iblk2 V c 0 t)) (ix2 l (j 1))) * (show EReal from k2_pay12 (k2_pay10 (iblk2 V c 0 t)) k2_pay11 (ix2 l 0))))
    (fun t h j => by beta_reduce; rw [outsAt2_A V c t h]; frame_out; rw [add2, zero2]; rfl)
    (fun t h j => by beta_reduce; rw [outsAt2_B V c t h]; frame_out; rw [add2]; rfl)
    (le_of_eq N_2) t2_7 rfl j, zero_add, DGain_at]
  refine Fin.sum_mul_add_congr fun t k hl => ?_
  have hh := h_at V c t
  beta_reduce
  generalize k2_pay2 (eK V c t) (sK V c t) (dK V c t) (iblk2 V c 4 t) = h at hh ⊢
  generalize (DotT (DGate (mulf (Emb (V c main_arg5) (FlatP (V c main_v10))) (D3 (Err (V c main_v12_0) (Emb (V c main_arg5) (FlatP (V c main_v10))) (Sig (Dot (Nrm (V c main_v12_0) (V c main_arg13)) (Ext (V c main_v4)))) (V c main_arg6)))) (Sig (Dot (Nrm (V c main_v12_0) (V c main_arg13)) (Ext (V c main_v4))))) (Ext (V c main_v4))) = h' at hh ⊢
  pointwise [k2_pay7, k2_pay10, k2_pay11, k2_pay12]
  refine gain_at _ _ _ _ _ _ (fun k => ?_) ?_ (hh _ _ ?_ rfl)
  all_goals (try beta_reduce)
  all_goals first | (blk_simp [idx2 t]; omega) | blk_point [iblk2, idx2 t]

/-- The loss, added up from zero. -/
theorem zero2l (j) : k2_pay6 (F := Ideal) j = 0 := by pointwise [k2_pay6]

theorem add2l (x g e q ep w tg acc j) : k2_pay16 (F := Ideal) x g e q ep w tg acc j
    = acc j + (∑ l : Fin 512, ∑ k : Fin 1024, k2_pay15 x g e q ep w tg (ix2 l k) * k2_pay15 x g e q ep w tg (ix2 l k)) * Ideal.ofBits .f32 0x3A000000#32 := by
  pointwise [k2_pay16]

theorem Loss_at (r : StepRef.Rows) (j) : Loss r j = ∑ l : Fin 4096, (∑ k : Fin 1024, (show EReal from r (ix2 l k)) * r (ix2 l k)) * Ideal.ofBits .f32 0x3A000000#32 := by
  pointwise [Loss]
  rw [cHalf, cInvHalf, mul_comm, mul_sum (1 / 2) (by norm_num)]
  refine Finset.sum_congr rfl fun l _ => ?_
  rw [c1024, Ideal.div_coe (by norm_num), mul_assoc, ← EReal.coe_mul]
  congr 2; norm_num

/-- A factor under the rows' sum. -/
theorem loss_sum (F : Fin 8 → Fin 512 → EReal) (f : Fin 4096 → EReal)
    (h : ∀ (t : Fin 8) (k : Fin 512) (hl : t.val * 512 + k.val < 4096), F t k = f ⟨t.val * 512 + k.val, hl⟩) :
    ∑ t, (∑ l, F t l) * Ideal.ofBits .f32 0x3A000000#32 = ∑ l, f l * Ideal.ofBits .f32 0x3A000000#32 := by
  rw [cInvHalf, ← mul_sum (1 / 2048) (by norm_num), ← mul_sum (1 / 2048) (by norm_num), Fin.sum_mul_add_congr h]

theorem out2_6 (c : Dev nD) : (dat2 V c).arrAt 6 cfg2.N = Loss (Err (V c main_v12_0) (Emb (V c main_arg5) (FlatP (V c main_v10))) (Sig (Dot (Nrm (V c main_v12_0) (V c main_arg13)) (Ext (V c main_v4)))) (V c main_arg6)) := by
  refine (dat2 V c).arrAt_eq_of_after_last 6 t2_7 (by decide +kernel) _ fun j => ?_
  blk_simp
  rw [after2_6, Pipeline.eq_sum_fin_of_reset_step_apply_last (fun n h => (outsAt2 V c n h).1) 8 (fun _ => 0)
    (fun t j => (∑ l : Fin 512, ∑ k : Fin 1024, (show EReal from k2_pay15 (k2_pay7 (iblk2 V c 0 t)) (iblk2 V c 3 t) (eK V c t) (k2_pay10 (iblk2 V c 0 t)) k2_pay11 (iblk2 V c 4 t) (iblk2 V c 2 t) (ix2 l k)) * (show EReal from k2_pay15 (k2_pay7 (iblk2 V c 0 t)) (iblk2 V c 3 t) (eK V c t) (k2_pay10 (iblk2 V c 0 t)) k2_pay11 (iblk2 V c 4 t) (iblk2 V c 2 t) (ix2 l k))) * Ideal.ofBits .f32 0x3A000000#32)
    (fun t h j => by beta_reduce; rw [outsAt2_A V c t h]; frame_out; rw [add2l, zero2l]; rfl)
    (fun t h j => by beta_reduce; rw [outsAt2_B V c t h]; frame_out; rw [add2l]; rfl)
    (le_of_eq N_2) t2_7 rfl j, zero_add, Loss_at]
  have hr := r_at V c
  generalize (Err (V c main_v12_0) (Emb (V c main_arg5) (FlatP (V c main_v10))) (Sig (Dot (Nrm (V c main_v12_0) (V c main_arg13)) (Ext (V c main_v4)))) (V c main_arg6)) = r' at hr ⊢
  refine loss_sum (fun t l => ∑ k : Fin 1024, (show EReal from k2_pay15 (k2_pay7 (iblk2 V c 0 t)) (iblk2 V c 3 t) (eK V c t) (k2_pay10 (iblk2 V c 0 t)) k2_pay11 (iblk2 V c 4 t) (iblk2 V c 2 t) (ix2 l k)) * (show EReal from k2_pay15 (k2_pay7 (iblk2 V c 0 t)) (iblk2 V c 3 t) (eK V c t) (k2_pay10 (iblk2 V c 0 t)) k2_pay11 (iblk2 V c 4 t) (iblk2 V c 2 t) (ix2 l k)))
    (fun l => ∑ k : Fin 1024, (show EReal from r' (ix2 l k)) * (show EReal from r' (ix2 l k))) fun t k hl => ?_
  exact Finset.sum_congr rfl fun x _ => Ideal.mul_congr (hr t _ _ rfl rfl) (hr t _ _ rfl rfl)
end Cert.StepPle

end
-- ==== Proof.StepGrads.lean ====
/- What the weight gradients' kernels leave: each adds, block after block of rows, the products the reference sums
   over all the rows. -/
module

public import proofs.«01_k».proof.Proof.Gen.KernelIdeal.Frame
public import proofs.«01_k».proof.Proof.StepRef
public import Idealize.ShloMosaic.Lib.Pipeline.ValueKit

@[expose] public section

set_option maxRecDepth 16384

noncomputable section

namespace Cert.StepGrads

open Cert.KernelIdeal Cert.KernelIdeal.Gen Idealize.ShloMosaic Idealize.ShloMosaic.TcCoe Idealize.SL.Sem
open Idealize.ShloMosaic.Pipeline (Dat)
open Cert.StepRef (B Ext Sig Dot DotT Grad Merged X1 Ms Rs Xn Gn Nrm NBack DX DGain Up Pos Sqr X2 DU DHm DWu DWd Emb Err Loss D3 DGate DWp Flat FlatP Ones)

variable (V : (c : Dev nD) → (b : Ref sig .tc) → Buf (Elt Ideal) ((c : Thread nD τ).loc b))

theorem Grad_at (d y j) : Grad d y j = ∑ l : Fin 4096, y (ix2 l (j 0)) * d (ix2 l (j 1)) := by
  pointwise [Grad]
  exact Finset.sum_congr rfl fun _ _ => mul_comm _ _

theorem DWp_at (d p j) : DWp d p j = ∑ l : Fin 4096, p (ix2 l (j 0)) * d (ix2 l (j 1)) := by
  pointwise [DWp]
  exact Finset.sum_congr rfl fun _ _ => mul_comm _ _

theorem DWd_at (d a j) : DWd d a j = ∑ l : Fin 4096, a (ix2 l (j 0)) * d (ix2 l (j 1)) := by
  pointwise [DWd]
  exact Finset.sum_congr rfl fun _ _ => mul_comm _ _

theorem DWu_at (u y j) : DWu u y j = ∑ l : Fin 4096, y (ix2 l (j 1)) * u (ix2 l ⟨(j 0 : ℕ) * 1024 + (j 2 : ℕ), by
    have h0 : (j 0 : ℕ) < 4 := (j 0).isLt; have h2 : (j 2 : ℕ) < 1024 := (j 2).isLt; omega⟩) := by
  pointwise [DWu]
  show (_ : EReal) = _
  refine Finset.sum_congr rfl fun l _ => ?_
  exact mul_comm (show EReal from _) (show EReal from _)

/-- The embedding projection's gradient: the products added, from zero. -/
theorem zero3 (j) : k3_pay1 (F := Ideal) j = 0 := by pointwise [k3_pay1]

theorem add3 (acc a b j) : k3_pay2 (F := Ideal) acc a b j = acc j + ∑ k : Fin 1024, a (ix2 k (j 0)) * b (ix2 k (j 1)) := by
  pointwise [k3_pay2]

theorem idx3 : ∀ t : Fin cfg3.N, win3_0.index t = ![t.val, 0] ∧ win3_1.index t = ![t.val, 0] ∧ win3_2.index t = ![0, 0] :=
  (by decide +kernel : ∀ t : Fin grid3.N, _)

theorem out3_2 (c : Dev nD) : (dat3 V c).arrAt 2 cfg3.N = DWp (Ext (V c main_v13_3)) (Ext (V c main_v13_2)) := by
  refine (dat3 V c).arrAt_eq_of_after_last 2 t3_3 (by decide +kernel) _ fun j => ?_
  blk_simp
  rw [after3_2, Pipeline.eq_sum_fin_of_reset_step_apply_last (fun n h => outsAt3 V c n h) 4 (fun _ => 0) _
    (fun t h j => by rw [outsAt3_A V c t h]; frame_out; rw [add3, zero3])
    (fun t h j => by rw [outsAt3_B V c t h]; frame_out; rw [add3])
    (le_of_eq N_3) t3_3 rfl j, zero_add, DWp_at]
  refine Fin.sum_mul_add_congr fun t k hl => ?_
  blk_point [iblk3, idx3 t]

/-- The last gate's weight. -/
theorem zero4 (j) : k4_pay1 (F := Ideal) j = 0 := by pointwise [k4_pay1]

theorem add4 (acc a b j) : k4_pay2 (F := Ideal) acc a b j = acc j + ∑ k : Fin 1024, a (ix2 k (j 0)) * b (ix2 k (j 1)) := by
  pointwise [k4_pay2]

theorem idx4 : ∀ t : Fin cfg4.N, win4_0.index t = ![t.val, 0] ∧ win4_1.index t = ![t.val, 0] ∧ win4_2.index t = ![0, 0] :=
  (by decide +kernel : ∀ t : Fin grid4.N, _)

theorem out4_2 (c : Dev nD) : (dat4 V c).arrAt 2 cfg4.N = Grad (Ext (V c main_v13_5)) (Ext (V c main_v13_4)) := by
  refine (dat4 V c).arrAt_eq_of_after_last 2 t4_3 (by decide +kernel) _ fun j => ?_
  blk_simp
  rw [after4_2, Pipeline.eq_sum_fin_of_reset_step_apply_last (fun n h => outsAt4 V c n h) 4 (fun _ => 0) _
    (fun t h j => by rw [outsAt4_A V c t h]; frame_out; rw [add4, zero4])
    (fun t h j => by rw [outsAt4_B V c t h]; frame_out; rw [add4])
    (le_of_eq N_4) t4_3 rfl j, zero_add, Grad_at]
  refine Fin.sum_mul_add_congr fun t k hl => ?_
  blk_point [iblk4, idx4 t]

/-- The first branch's projection. -/
theorem zero9 (j) : k9_pay1 (F := Ideal) j = 0 := by pointwise [k9_pay1]

theorem add9 (acc a b j) : k9_pay2 (F := Ideal) acc a b j = acc j + ∑ k : Fin 1024, a (ix2 k (j 0)) * b (ix2 k (j 1)) := by
  pointwise [k9_pay2]

theorem idx9 : ∀ t : Fin cfg9.N, win9_0.index t = ![t.val, 0] ∧ win9_1.index t = ![t.val, 0] ∧ win9_2.index t = ![0, 0] :=
  (by decide +kernel : ∀ t : Fin grid9.N, _)

theorem out9_2 (c : Dev nD) : (dat9 V c).arrAt 2 cfg9.N = Grad (Ext (V c main_v19_2)) (Ext (V c main_arg1)) := by
  refine (dat9 V c).arrAt_eq_of_after_last 2 t9_3 (by decide +kernel) _ fun j => ?_
  blk_simp
  rw [after9_2, Pipeline.eq_sum_fin_of_reset_step_apply_last (fun n h => outsAt9 V c n h) 4 (fun _ => 0) _
    (fun t h j => by rw [outsAt9_A V c t h]; frame_out; rw [add9, zero9])
    (fun t h j => by rw [outsAt9_B V c t h]; frame_out; rw [add9])
    (le_of_eq N_9) t9_3 rfl j, zero_add, Grad_at]
  refine Fin.sum_mul_add_congr fun t k hl => ?_
  blk_point [iblk9, idx9 t]

/-- The second branch's projection. -/
theorem zero10 (j) : k10_pay1 (F := Ideal) j = 0 := by pointwise [k10_pay1]

theorem add10 (acc a b j) : k10_pay2 (F := Ideal) acc a b j = acc j + ∑ k : Fin 1024, a (ix2 k (j 0)) * b (ix2 k (j 1)) := by
  pointwise [k10_pay2]

theorem idx10 : ∀ t : Fin cfg10.N, win10_0.index t = ![t.val, 0] ∧ win10_1.index t = ![t.val, 0] ∧ win10_2.index t = ![0, 0] :=
  (by decide +kernel : ∀ t : Fin grid10.N, _)

theorem out10_2 (c : Dev nD) : (dat10 V c).arrAt 2 cfg10.N = Grad (Ext (V c main_v19_3)) (Ext (V c main_arg2)) := by
  refine (dat10 V c).arrAt_eq_of_after_last 2 t10_3 (by decide +kernel) _ fun j => ?_
  blk_simp
  rw [after10_2, Pipeline.eq_sum_fin_of_reset_step_apply_last (fun n h => outsAt10 V c n h) 4 (fun _ => 0) _
    (fun t h j => by rw [outsAt10_A V c t h]; frame_out; rw [add10, zero10])
    (fun t h j => by rw [outsAt10_B V c t h]; frame_out; rw [add10])
    (le_of_eq N_10) t10_3 rfl j, zero_add, Grad_at]
  refine Fin.sum_mul_add_congr fun t k hl => ?_
  blk_point [iblk10, idx10 t]

/-- The output projection. -/
theorem zero11 (j) : k11_pay1 (F := Ideal) j = 0 := by pointwise [k11_pay1]

theorem add11 (acc a b j) : k11_pay2 (F := Ideal) acc a b j = acc j + ∑ k : Fin 1024, a (ix2 k (j 0)) * b (ix2 k (j 1)) := by
  pointwise [k11_pay2]

theorem idx11 : ∀ t : Fin cfg11.N, win11_0.index t = ![t.val, 0] ∧ win11_1.index t = ![t.val, 0] ∧ win11_2.index t = ![0, 0] :=
  (by decide +kernel : ∀ t : Fin grid11.N, _)

theorem out11_2 (c : Dev nD) : (dat11 V c).arrAt 2 cfg11.N = Grad (V c main_v16_0) (Ext (V c main_v11_1)) := by
  refine (dat11 V c).arrAt_eq_of_after_last 2 t11_3 (by decide +kernel) _ fun j => ?_
  blk_simp
  rw [after11_2, Pipeline.eq_sum_fin_of_reset_step_apply_last (fun n h => outsAt11 V c n h) 4 (fun _ => 0) _
    (fun t h j => by rw [outsAt11_A V c t h]; frame_out; rw [add11, zero11])
    (fun t h j => by rw [outsAt11_B V c t h]; frame_out; rw [add11])
    (le_of_eq N_11) t11_3 rfl j, zero_add, Grad_at]
  refine Fin.sum_mul_add_congr fun t k hl => ?_
  blk_point [iblk11, idx11 t]

/-- The wide layer's second weight, in two column blocks. -/
theorem zero6 (j) : k6_pay1 (F := Ideal) j = 0 := by pointwise [k6_pay1]

theorem add6 (acc a b j) : k6_pay2 (F := Ideal) acc a b j = acc j + ∑ k : Fin 1024, a (ix2 k (j 0)) * b (ix2 k (j 1)) := by
  pointwise [k6_pay2]

theorem idx6 : ∀ t : Fin cfg6.N, win6_0.index t = ![t.val % 4, 0] ∧ win6_1.index t = ![t.val % 4, t.val / 4] ∧ win6_2.index t = ![0, t.val / 4] :=
  (by decide +kernel : ∀ t : Fin grid6.N, _)

theorem out6_2 (c : Dev nD) : (dat6 V c).arrAt 2 cfg6.N = DWd (V c main_v13_1) (Ext (V c main_v12_3)) := by
  refine (dat6 V c).arrAt_eq_of_covers 2 _ (by decide +kernel) fun t hf y => ?_
  blk_simp
  rw [after6_2, Pipeline.eq_sum_fin_of_reset_step_apply_of_flush (fun n h => (outsAt6 V c n h).1) 4 (fun _ => 0)
    (fun p j => ∑ k : Fin 1024, (show FVec Ideal S1024x4096 .bf16 from iblk6 V c 0 p) (ix2 k (j 0)) * (show FVec Ideal S1024x512 .f32 from iblk6 V c 1 p) (ix2 k (j 1)))
    (fun t h j => by rw [outsAt6_A V c t h (by omega)]; frame_out; rw [add6, zero6])
    (fun t h j => by
      by_cases h1 : t.val % 4 = 3
      · rw [outsAt6_C V c t h h1]; frame_out; rw [add6]
      · rw [outsAt6_B V c t h h1]; frame_out; rw [add6])
    t ((flush6_2 t).mp hf) _, zero_add, DWd_at]
  refine Fin.sum_mul_add_congr fun s k hl => ?_
  blk_point [iblk6, idx6 t, idx6 ⟨_, Pipeline.run_point_lt_of_flush t ((flush6_2 t).mp hf) s⟩]

/-- The wide layer's first weight, in four column blocks. -/
theorem zero7 (j) : k7_pay1 (F := Ideal) j = 0 := by pointwise [k7_pay1]

theorem add7 (acc a b j) : k7_pay2 (F := Ideal) acc a b j = acc j + ∑ k : Fin 1024, a (ix2 k (j 1)) * b (ix2 k (j 2)) := by
  pointwise [k7_pay2]

theorem idx7 : ∀ t : Fin cfg7.N, win7_0.index t = ![t.val % 4, 0] ∧ win7_1.index t = ![t.val % 4, t.val / 4] ∧ win7_2.index t = ![t.val / 4, 0, 0] :=
  (by decide +kernel : ∀ t : Fin grid7.N, _)

theorem out7_2 (c : Dev nD) : (dat7 V c).arrAt 2 cfg7.N = DWu (Ext (V c main_v16_1)) (Ext (V c main_v12_1)) := by
  refine (dat7 V c).arrAt_eq_of_covers 2 _ (by decide +kernel) fun t hf y => ?_
  blk_simp
  rw [after7_2, Pipeline.eq_sum_fin_of_reset_step_apply_of_flush (fun n h => (outsAt7 V c n h).1) 4 (fun _ => 0)
    (fun p j => ∑ k : Fin 1024, (show FVec Ideal S1024x1024 .bf16 from iblk7 V c 0 p) (ix2 k (j 1)) * (show FVec Ideal S1024x1024 .bf16 from iblk7 V c 1 p) (ix2 k (j 2)))
    (fun t h j => by rw [outsAt7_A V c t h (by omega)]; frame_out; rw [add7, zero7])
    (fun t h j => by
      by_cases h1 : t.val % 4 = 3
      · rw [outsAt7_C V c t h h1]; frame_out; rw [add7]
      · rw [outsAt7_B V c t h h1]; frame_out; rw [add7])
    t ((flush7_2 t).mp hf) _, zero_add, DWu_at]
  refine Fin.sum_mul_add_congr fun s k hl => ?_
  blk_point [iblk7, idx7 t, idx7 ⟨_, Pipeline.run_point_lt_of_flush t ((flush7_2 t).mp hf) s⟩]

end Cert.StepGrads

end
-- ==== Proof.StepMlpBack.lean ====
/- The wide layer's backward kernel: each grid point writes 256 rows of the cotangent before the activation and of the
   residual stream's cotangent, and adds its rows' part of the gain's gradient. -/
module

public import proofs.«01_k».proof.Proof.Gen.KernelIdeal.Frame.Region5
public import proofs.«01_k».proof.Proof.StepRef
public import proofs.«01_k».proof.Proof.StepNorm
public import Idealize.ShloMosaic.Lib.Pipeline.ValueKit

@[expose] public section

set_option maxRecDepth 16384

noncomputable section

namespace Cert.StepMlpBack

open Cert.KernelIdeal Cert.KernelIdeal.Gen Idealize.ShloMosaic Idealize.ShloMosaic.TcCoe Idealize.SL.Sem
open Idealize.ShloMosaic.Pipeline (Dat)
open Cert.StepNorm
open Cert.StepRef (B Ext Sig Dot DotT Grad Merged X1 Ms Rs Xn Gn Nrm NBack DX DGain Up Pos Sqr X2 DU DHm DWu DWd Emb Err Loss D3 DGate DWp Flat FlatP Ones)

variable (V : (c : Dev nD) → (b : Ref sig .tc) → Buf (Elt Ideal) ((c : Thread nD τ).loc b))

theorem idx5 : ∀ t : Fin cfg5.N, win5_0.index t = ![t.val, 0] ∧ win5_1.index t = ![t.val, 0] ∧ win5_2.index t = ![t.val, 0] ∧ win5_3.index t = ![0, 0]
    ∧ win5_4.index t = ![0, 0, 0] ∧ win5_5.index t = ![0, 0] ∧ win5_6.index t = ![t.val, 0] ∧ win5_7.index t = ![t.val, 0] ∧ win5_8.index t = ![0, 0] :=
  (by decide +kernel : ∀ t : Fin grid5.N, _)

/-- A load of a part of a block stored whole reads that part. -/
theorem part_at (v : View sig .tc .vmem S256x4096 .bf16) (U : S256x4096.Idx → Elt Ideal .bf16) (r : Rect S256x4096) :
    v.readCov [(⟨Rect.unit ![0, 0] ![256, 4096] inb_S256x4096_S256x4096_0_0, U⟩ : View.Piece (Elt Ideal) S256x4096 .bf16)] r.toLoadRect = View.ld U r := by
  have hc : View.canon [(⟨Rect.unit ![0, 0] ![256, 4096] inb_S256x4096_S256x4096_0_0, U⟩ : View.Piece (Elt Ideal) S256x4096 .bf16)] = U :=
    View.canon_cons_unit_lit' _ _ _ (by decide)
  rw [View.readCov_eq_canon', hc]

/-- Four products over a quarter of the columns each are the product over all of them. -/
theorem four_at (f : Fin 4096 → EReal) (a b c d : Fin 1024 → EReal)
    (ha : ∀ k : Fin 1024, a k = f ⟨k, by omega⟩) (hb : ∀ k : Fin 1024, b k = f ⟨1024 + k, by omega⟩)
    (hc : ∀ k : Fin 1024, c k = f ⟨2048 + k, by omega⟩) (hd : ∀ k : Fin 1024, d k = f ⟨3072 + k, by omega⟩) :
    ∑ k, a k + ∑ k, b k + ∑ k, c k + ∑ k, d k = ∑ l, f l := by
  rw [← Fin.sum_mul_add_fin 4 1024 f, Fin.sum_univ_four]
  congr 1
  · congr 1
    · congr 1
      · exact Finset.sum_congr rfl fun k _ => (ha k).trans (congrArg f (Fin.ext (by simp)))
      · exact Finset.sum_congr rfl fun k _ => (hb k).trans (congrArg f (Fin.ext (by simp)))
    · exact Finset.sum_congr rfl fun k _ => (hc k).trans (congrArg f (Fin.ext (by simp)))
  · exact Finset.sum_congr rfl fun k _ => (hd k).trans (congrArg f (Fin.ext (by simp)))

/-- A block's cotangent before the activation. -/
theorem dub_at (c : Dev nD) (t : Fin cfg5.N) (y : S256x4096.Idx) (i : S4096x4096.Idx) (h0 : (i 0 : ℕ) = t.val * 256 + (y 0 : ℕ)) (h1 : (i 1 : ℕ) = (y 1 : ℕ)) :
    (k5_pay5 (F := Ideal) (iblk5 V c 0 t) (iblk5 V c 5 t) (iblk5 V c 1 t)) y = (DU (V c main_v13_1) (Ext (V c main_v3)) (V c main_v12_2)) i := by
  pointwise [k5_pay5, k5_pay4]
  refine du_at _ _ _ i _ _ _ (fun k => ?_) (fun k => ?_) ?_
  all_goals (try beta_reduce)
  all_goals blk_point [iblk5, idx5 t]

/-- The cotangent before the activation. -/
theorem out5_7 (c : Dev nD) : (dat5 V c).arrAt 7 cfg5.N = B (DU (V c main_v13_1) (Ext (V c main_v3)) (V c main_v12_2)) := by
  refine (dat5 V c).arrAt_eq_of_covers 7 _ (by decide +kernel) fun t _ y => ?_
  blk_simp
  rw [after5_7]
  have h : (outsAt5 V c t.val t.isLt).2.1 y = (k5_pay5 (F := Ideal) (iblk5 V c 0 t) (iblk5 V c 5 t) (iblk5 V c 1 t)) y := by
    by_cases h0 : t.val % 16 = 0
    · rw [outsAt5_A V c t h0]; frame_out; all_goals rfl
    · rw [outsAt5_B V c t h0]; frame_out; all_goals rfl
  rw [h]
  refine dub_at V c t y _ ?_ ?_ <;> blk_simp [idx5 t] <;> omega

/-- A block's cotangent of the layer's normalised input, as the kernel adds it up. -/
def dhmK (c : Dev nD) (t : Fin cfg5.N) : FVec Ideal S256x1024 .f32 :=
  k5_pay7 (k5_pay6 ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 0] ![256, 1024] inb_S256x4096_S256x1024_0_0).toLoadRect) (View.ld (iblk5 V c 4 t) (Rect.unit ![0, 0, 0] ![1, 1024, 1024] inb_S4x1024x1024_S1x1024x1024_0_0_0)) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 1024] ![256, 1024] inb_S256x4096_S256x1024_0_1024).toLoadRect) (View.ld (iblk5 V c 4 t) (Rect.unit ![1, 0, 0] ![1, 1024, 1024] inb_S4x1024x1024_S1x1024x1024_1_0_0))) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 2048] ![256, 1024] inb_S256x4096_S256x1024_0_2048).toLoadRect) (View.ld (iblk5 V c 4 t) (Rect.unit ![2, 0, 0] ![1, 1024, 1024] inb_S4x1024x1024_S1x1024x1024_2_0_0)) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 3072] ![256, 1024] inb_S256x4096_S256x1024_0_3072).toLoadRect) (View.ld (iblk5 V c 4 t) (Rect.unit ![3, 0, 0] ![1, 1024, 1024] inb_S4x1024x1024_S1x1024x1024_3_0_0))

theorem dhm_at (c : Dev nD) (t : Fin cfg5.N) (y : S256x1024.Idx) (i : S4096x1024.Idx) (h0 : (i 0 : ℕ) = t.val * 256 + (y 0 : ℕ)) (h1 : (i 1 : ℕ) = (y 1 : ℕ)) :
    dhmK V c t y = (DHm (DU (V c main_v13_1) (Ext (V c main_v3)) (V c main_v12_2)) (Flat (V c main_v7))) i := by
  unfold dhmK
  simp only [part_at]
  generalize hU : (k5_pay5 (F := Ideal) (iblk5 V c 0 t) (iblk5 V c 5 t) (iblk5 V c 1 t)) = U
  have hu : ∀ (y : S256x4096.Idx) (i : S4096x4096.Idx), (i 0 : ℕ) = t.val * 256 + (y 0 : ℕ) → (i 1 : ℕ) = (y 1 : ℕ) → U y = (DU (V c main_v13_1) (Ext (V c main_v3)) (V c main_v12_2)) i :=
    fun y i a b => by rw [← hU]; exact dub_at V c t y i a b
  pointwise [k5_pay7, k5_pay6, DHm, Flat]
  refine four_at _ _ _ _ _ (fun k => ?_) (fun k => ?_) (fun k => ?_) (fun k => ?_)
  all_goals refine Ideal.mul_congr (hu _ _ ?_ ?_) ?_
  all_goals first | (blk_simp [idx5 t]; omega) | (blk_point [iblk5, idx5 t]; done) | (blk_point [iblk5, idx5 t]; rfl)

/-- The residual stream's cotangent. -/
theorem out5_6 (c : Dev nD) : (dat5 V c).arrAt 6 cfg5.N = DX (V c main_v13_1) (V c main_v11_0) (Gn (DHm (DU (V c main_v13_1) (Ext (V c main_v3)) (V c main_v12_2)) (Flat (V c main_v7))) (V c main_arg10)) := by
  refine (dat5 V c).arrAt_eq_of_covers 6 _ (by decide +kernel) fun t _ y => ?_
  blk_simp
  rw [after5_6]
  have h : (outsAt5 V c t.val t.isLt).1 y = k5_pay1 (k5_pay4 (iblk5 V c 0 t)) (k5_pay10 (k5_pay6 ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 0] ![256, 1024] inb_S256x4096_S256x1024_0_0).toLoadRect) (View.ld (iblk5 V c 4 t) (Rect.unit ![0, 0, 0] ![1, 1024, 1024] inb_S4x1024x1024_S1x1024x1024_0_0_0)) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 1024] ![256, 1024] inb_S256x4096_S256x1024_0_1024).toLoadRect) (View.ld (iblk5 V c 4 t) (Rect.unit ![1, 0, 0] ![1, 1024, 1024] inb_S4x1024x1024_S1x1024x1024_1_0_0))) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 2048] ![256, 1024] inb_S256x4096_S256x1024_0_2048).toLoadRect) (View.ld (iblk5 V c 4 t) (Rect.unit ![2, 0, 0] ![1, 1024, 1024] inb_S4x1024x1024_S1x1024x1024_2_0_0)) ((ms5_7 t).view.readCov [⟨Rect.unit ![0, 0] ![256, 4096] inb_S256x4096_S256x4096_0_0, (k5_pay5 (F := Ideal) (iblk5 V c 0 t) (iblk5 V c 5 t) (iblk5 V c 1 t))⟩] (Rect.unit ![0, 3072] ![256, 1024] inb_S256x4096_S256x1024_0_3072).toLoadRect) (View.ld (iblk5 V c 4 t) (Rect.unit ![3, 0, 0] ![1, 1024, 1024] inb_S4x1024x1024_S1x1024x1024_3_0_0)) (iblk5 V c 2 t) (iblk5 V c 3 t)) y := by
    by_cases h0 : t.val % 16 = 0
    · rw [outsAt5_A V c t h0]; frame_out; all_goals rfl
    · rw [outsAt5_B V c t h0]; frame_out; all_goals rfl
  rw [h]; clear h
  unfold k5_pay10; rw [← dhmK]
  have hd := dhm_at V c t
  generalize dhmK V c t = K at hd ⊢
  pointwise [k5_pay1, k5_pay4, k5_pay8, k5_pay9]
  refine dx_at _ _ _ _ _ _ _ _ _ (fun k => ?_) (fun k => ?_) ?_ ?_ ?_
  all_goals (try beta_reduce)
  · blk_point [iblk5, idx5 t]
  · pointwise [Gn]
    refine Ideal.mul_congr (hd _ _ ?_ rfl) ?_
    all_goals first | (blk_simp [idx5 t]; omega) | blk_point [iblk5, idx5 t]
  · blk_point [iblk5, idx5 t]
  · pointwise [Gn]
    refine Ideal.mul_congr (hd _ _ ?_ ?_) ?_
    all_goals first | (blk_simp [idx5 t]; omega) | blk_point [iblk5, idx5 t]
  · blk_point [iblk5, idx5 t]

/-- The gain's gradient, added up from zero. -/
theorem zero5 (j) : k5_pay3 (F := Ideal) j = 0 := by pointwise [k5_pay3]

theorem add5 (a x r acc j) : k5_pay2 (F := Ideal) a x r acc j = acc j + ∑ l : Fin 256, a (ix2 l (j 1)) * (x (ix2 l (j 1)) * r (ix2 l (j 1))) := by
  pointwise [k5_pay2]

theorem out5_8 (c : Dev nD) : (dat5 V c).arrAt 8 cfg5.N = DGain (V c main_v11_0) (DHm (DU (V c main_v13_1) (Ext (V c main_v3)) (V c main_v12_2)) (Flat (V c main_v7))) := by
  refine (dat5 V c).arrAt_eq_of_after_last 8 t5_15 (by decide +kernel) _ fun j => ?_
  blk_simp
  rw [after5_8, Pipeline.eq_sum_fin_of_reset_step_apply_last (fun n h => (outsAt5 V c n h).2.2) 16 (fun _ => 0)
    (fun t j => ∑ l : Fin 256, (show EReal from dhmK V c t (ix2 l (j 1))) * ((show EReal from k5_pay8 (iblk5 V c 2 t) (ix2 l (j 1))) * (show EReal from k5_pay11 (iblk5 V c 2 t) (ix2 l (j 1)))))
    (fun t h j => by beta_reduce; rw [outsAt5_A V c t h]; frame_out; rw [add5, zero5]; rfl)
    (fun t h j => by beta_reduce; rw [outsAt5_B V c t h]; frame_out; rw [add5]; rfl)
    (le_of_eq N_5) t5_15 rfl j, zero_add, DGain_at]
  refine Fin.sum_mul_add_congr fun t k hl => ?_
  have hd := dhm_at V c t
  generalize dhmK V c t = K at hd ⊢
  beta_reduce
  pointwise [k5_pay8, k5_pay11, k5_pay9]
  refine gain_at _ _ _ _ _ _ (fun k => ?_) ?_ (hd _ _ ?_ rfl)
  all_goals (try beta_reduce)
  all_goals first | (blk_simp [idx5 t]; omega) | blk_point [iblk5, idx5 t]
end Cert.StepMlpBack

end
-- ==== Proof.StepChain.lean ====
/- The kernels' arrays, stage by stage: each region finds the step's terms in the arrays it reads, and leaves the step's
   terms in the ones it writes. -/
module

public import proofs.«01_k».proof.Proof.StepHost
public import proofs.«01_k».proof.Proof.Gen.KernelIdeal.Frame
public import proofs.«01_k».proof.Proof.StepMerge
public import proofs.«01_k».proof.Proof.StepMlp
public import proofs.«01_k».proof.Proof.StepPle
public import proofs.«01_k».proof.Proof.StepGrads
public import proofs.«01_k».proof.Proof.StepMlpBack

@[expose] public section

set_option maxRecDepth 16384

noncomputable section

namespace Cert.StepChain

open Cert.KernelIdeal Cert.KernelIdeal.Gen Idealize.ShloMosaic Idealize.ShloMosaic.TcCoe Idealize.SL.Sem
open Idealize.ShloMosaic.Pipeline (Dat)
open Cert.StepRef (B Ext Sig Dot DotT Grad Merged X1 Ms Rs Xn Gn Nrm NBack DX DGain Up Pos Sqr X2 DU DHm DWu DWd Emb Err Loss D3 DGate DWp Flat FlatP Ones)
open Cert.StepArgs

variable (m : (ℓ : Loc nD τ sig) → Buf (Elt Ideal) ℓ) (ρ : Dev nD → PrngReg) (c : Dev nD)

open Cert.StepHost (args ext_b)

theorem arg0_1 : V1 m ρ c main_arg0 = (args m c).x := Cert.StepHost.a0 m ρ c

theorem arg1_1 : V1 m ρ c main_arg1 = (args m c).ya := Cert.StepHost.a1 m ρ c

theorem arg2_1 : V1 m ρ c main_arg2 = (args m c).o := Cert.StepHost.a2 m ρ c

theorem arg3_1 : V1 m ρ c main_arg3 = (args m c).ga := Cert.StepHost.a3 m ρ c

theorem arg4_1 : V1 m ρ c main_arg4 = (args m c).gb := Cert.StepHost.a4 m ρ c

theorem v0_1 : Ext (V1 m ρ c main_v0) = (args m c).wr := Cert.StepHost.v0 m ρ c

theorem v1_1 : Ext (V1 m ρ c main_v1) = (args m c).wa := Cert.StepHost.v1 m ρ c

theorem v2_1 : Ext (V1 m ρ c main_v2) = (args m c).wo := Cert.StepHost.v2 m ρ c

theorem v11_0_2 : V2 m ρ c main_v11_0 = x1 (args m c) := by
  refine (hF0 m ρ c 8).symm.trans ((Cert.StepMerge.out0_8 (V1 m ρ) c).trans ?_)
  simp only [arg0_1 m ρ c, arg1_1 m ρ c, arg2_1 m ρ c, arg3_1 m ρ c, arg4_1 m ρ c, v0_1 m ρ c, v1_1 m ρ c, v2_1 m ρ c, ext_b]; try rfl

theorem v11_1_2 : V2 m ρ c main_v11_1 = B (merged (args m c)) := by
  refine (hF0 m ρ c 9).symm.trans ((Cert.StepMerge.out0_9 (V1 m ρ) c).trans ?_)
  simp only [arg0_1 m ρ c, arg1_1 m ρ c, arg2_1 m ρ c, arg3_1 m ρ c, arg4_1 m ρ c, v0_1 m ρ c, v1_1 m ρ c, v2_1 m ρ c, ext_b]; try rfl

theorem arg10_2 : V2 m ρ c main_arg10 = (args m c).gm := W2_args m ρ c main_arg10 (by decide)

theorem v7_1 : Flat (V1 m ρ c main_v7) = (args m c).wu := Cert.StepHost.v7 m ρ c

theorem v7_2 : Flat (V2 m ρ c main_v7) = (args m c).wu :=
  (congrArg Flat (W2_of m ρ c main_v7 (by decide))).trans (v7_1 m ρ c)

theorem v3_1 : Ext (V1 m ρ c main_v3) = (args m c).wd := Cert.StepHost.v3 m ρ c

theorem v3_2 : Ext (V2 m ρ c main_v3) = (args m c).wd :=
  (congrArg Ext (W2_of m ρ c main_v3 (by decide))).trans (v3_1 m ρ c)

theorem v12_0_3 : V3 m ρ c main_v12_0 = x2 (args m c) := by
  refine (hF1 m ρ c 4).symm.trans ((Cert.StepMlp.out1_4 (V2 m ρ) c).trans ?_)
  simp only [v11_0_2 m ρ c, arg10_2 m ρ c, v7_2 m ρ c, v3_2 m ρ c, ext_b]; try rfl

theorem v12_1_3 : V3 m ρ c main_v12_1 = B (n1 (args m c)) := by
  refine (hF1 m ρ c 5).symm.trans ((Cert.StepMlp.out1_5 (V2 m ρ) c).trans ?_)
  simp only [v11_0_2 m ρ c, arg10_2 m ρ c, v7_2 m ρ c, v3_2 m ρ c, ext_b]; try rfl

theorem v12_2_3 : V3 m ρ c main_v12_2 = up (args m c) := by
  refine (hF1 m ρ c 6).symm.trans ((Cert.StepMlp.out1_6 (V2 m ρ) c).trans ?_)
  simp only [v11_0_2 m ρ c, arg10_2 m ρ c, v7_2 m ρ c, v3_2 m ρ c, ext_b]; try rfl

theorem v12_3_3 : V3 m ρ c main_v12_3 = B (act (args m c)) := by
  refine (hF1 m ρ c 7).symm.trans ((Cert.StepMlp.out1_7 (V2 m ρ) c).trans ?_)
  simp only [v11_0_2 m ρ c, arg10_2 m ρ c, v7_2 m ρ c, v3_2 m ρ c, ext_b]; try rfl

theorem arg5_3 : V3 m ρ c main_arg5 = (args m c).p := W3_args m ρ c main_arg5 (by decide)

theorem arg6_3 : V3 m ρ c main_arg6 = (args m c).target := W3_args m ρ c main_arg6 (by decide)

theorem arg13_3 : V3 m ρ c main_arg13 = (args m c).gp := W3_args m ρ c main_arg13 (by decide)

theorem v4_1 : Ext (V1 m ρ c main_v4) = (args m c).wg := Cert.StepHost.v4 m ρ c

theorem v4_2 : Ext (V2 m ρ c main_v4) = (args m c).wg :=
  (congrArg Ext (W2_of m ρ c main_v4 (by decide))).trans (v4_1 m ρ c)

theorem v4_3 : Ext (V3 m ρ c main_v4) = (args m c).wg :=
  (congrArg Ext (W3_of m ρ c main_v4 (by decide))).trans (v4_2 m ρ c)

theorem v10_1 : FlatP (V1 m ρ c main_v10) = (args m c).wp := Cert.StepHost.v10 m ρ c

theorem v10_2 : FlatP (V2 m ρ c main_v10) = (args m c).wp :=
  (congrArg FlatP (W2_of m ρ c main_v10 (by decide))).trans (v10_1 m ρ c)

theorem v10_3 : FlatP (V3 m ρ c main_v10) = (args m c).wp :=
  (congrArg FlatP (W3_of m ρ c main_v10 (by decide))).trans (v10_2 m ρ c)

theorem v13_0_4 : V4 m ρ c main_v13_0 = loss (args m c) := by
  refine (hF2 m ρ c 6).symm.trans ((Cert.StepPle.out2_6 (V3 m ρ) c).trans ?_)
  simp only [v12_0_3 m ρ c, arg5_3 m ρ c, arg6_3 m ρ c, arg13_3 m ρ c, v4_3 m ρ c, v10_3 m ρ c, ext_b]; try rfl

theorem v13_1_4 : V4 m ρ c main_v13_1 = dx2 (args m c) := by
  refine (hF2 m ρ c 7).symm.trans ((Cert.StepPle.out2_7 (V3 m ρ) c).trans ?_)
  simp only [v12_0_3 m ρ c, arg5_3 m ρ c, arg6_3 m ρ c, arg13_3 m ρ c, v4_3 m ρ c, v10_3 m ρ c, ext_b]; try rfl

theorem v13_2_4 : V4 m ρ c main_v13_2 = B (args m c).p := by
  refine (hF2 m ρ c 8).symm.trans ((Cert.StepPle.out2_8 (V3 m ρ) c).trans ?_)
  simp only [v12_0_3 m ρ c, arg5_3 m ρ c, arg6_3 m ρ c, arg13_3 m ρ c, v4_3 m ρ c, v10_3 m ρ c, ext_b]; try rfl

theorem v13_3_4 : V4 m ρ c main_v13_3 = B (demb (args m c)) := by
  refine (hF2 m ρ c 9).symm.trans ((Cert.StepPle.out2_9 (V3 m ρ) c).trans ?_)
  simp only [v12_0_3 m ρ c, arg5_3 m ρ c, arg6_3 m ρ c, arg13_3 m ρ c, v4_3 m ρ c, v10_3 m ρ c, ext_b]; try rfl

theorem v13_4_4 : V4 m ρ c main_v13_4 = B (n2 (args m c)) := by
  refine (hF2 m ρ c 10).symm.trans ((Cert.StepPle.out2_10 (V3 m ρ) c).trans ?_)
  simp only [v12_0_3 m ρ c, arg5_3 m ρ c, arg6_3 m ρ c, arg13_3 m ρ c, v4_3 m ρ c, v10_3 m ρ c, ext_b]; try rfl

theorem v13_5_4 : V4 m ρ c main_v13_5 = B (dgate (args m c)) := by
  refine (hF2 m ρ c 11).symm.trans ((Cert.StepPle.out2_11 (V3 m ρ) c).trans ?_)
  simp only [v12_0_3 m ρ c, arg5_3 m ρ c, arg6_3 m ρ c, arg13_3 m ρ c, v4_3 m ρ c, v10_3 m ρ c, ext_b]; try rfl

theorem v13_6_4 : V4 m ρ c main_v13_6 = dgp (args m c) := by
  refine (hF2 m ρ c 12).symm.trans ((Cert.StepPle.out2_12 (V3 m ρ) c).trans ?_)
  simp only [v12_0_3 m ρ c, arg5_3 m ρ c, arg6_3 m ρ c, arg13_3 m ρ c, v4_3 m ρ c, v10_3 m ρ c, ext_b]; try rfl

theorem v14_5 : V5 m ρ c main_v14 = dwp (args m c) := by
  refine (hF3 m ρ c 2).symm.trans ((Cert.StepGrads.out3_2 (V4 m ρ) c).trans ?_)
  simp only [v13_2_4 m ρ c, v13_3_4 m ρ c, ext_b]; try rfl

theorem v13_4_5 : V5 m ρ c main_v13_4 = B (n2 (args m c)) := (W5_of m ρ c main_v13_4 (by decide)).trans (v13_4_4 m ρ c)

theorem v13_5_5 : V5 m ρ c main_v13_5 = B (dgate (args m c)) := (W5_of m ρ c main_v13_5 (by decide)).trans (v13_5_4 m ρ c)

theorem v15_6 : V6 m ρ c main_v15 = dwg (args m c) := by
  refine (hF4 m ρ c 2).symm.trans ((Cert.StepGrads.out4_2 (V5 m ρ) c).trans ?_)
  simp only [v13_4_5 m ρ c, v13_5_5 m ρ c, ext_b]; try rfl

theorem v13_1_5 : V5 m ρ c main_v13_1 = dx2 (args m c) := (W5_of m ρ c main_v13_1 (by decide)).trans (v13_1_4 m ρ c)

theorem v13_1_6 : V6 m ρ c main_v13_1 = dx2 (args m c) := (W6_of m ρ c main_v13_1 (by decide)).trans (v13_1_5 m ρ c)

theorem v12_2_4 : V4 m ρ c main_v12_2 = up (args m c) := (W4_of m ρ c main_v12_2 (by decide)).trans (v12_2_3 m ρ c)

theorem v12_2_5 : V5 m ρ c main_v12_2 = up (args m c) := (W5_of m ρ c main_v12_2 (by decide)).trans (v12_2_4 m ρ c)

theorem v12_2_6 : V6 m ρ c main_v12_2 = up (args m c) := (W6_of m ρ c main_v12_2 (by decide)).trans (v12_2_5 m ρ c)

theorem v11_0_3 : V3 m ρ c main_v11_0 = x1 (args m c) := (W3_of m ρ c main_v11_0 (by decide)).trans (v11_0_2 m ρ c)

theorem v11_0_4 : V4 m ρ c main_v11_0 = x1 (args m c) := (W4_of m ρ c main_v11_0 (by decide)).trans (v11_0_3 m ρ c)

theorem v11_0_5 : V5 m ρ c main_v11_0 = x1 (args m c) := (W5_of m ρ c main_v11_0 (by decide)).trans (v11_0_4 m ρ c)

theorem v11_0_6 : V6 m ρ c main_v11_0 = x1 (args m c) := (W6_of m ρ c main_v11_0 (by decide)).trans (v11_0_5 m ρ c)

theorem arg10_6 : V6 m ρ c main_arg10 = (args m c).gm := W6_args m ρ c main_arg10 (by decide)

theorem v7_3 : Flat (V3 m ρ c main_v7) = (args m c).wu :=
  (congrArg Flat (W3_of m ρ c main_v7 (by decide))).trans (v7_2 m ρ c)

theorem v7_4 : Flat (V4 m ρ c main_v7) = (args m c).wu :=
  (congrArg Flat (W4_of m ρ c main_v7 (by decide))).trans (v7_3 m ρ c)

theorem v7_5 : Flat (V5 m ρ c main_v7) = (args m c).wu :=
  (congrArg Flat (W5_of m ρ c main_v7 (by decide))).trans (v7_4 m ρ c)

theorem v7_6 : Flat (V6 m ρ c main_v7) = (args m c).wu :=
  (congrArg Flat (W6_of m ρ c main_v7 (by decide))).trans (v7_5 m ρ c)

theorem v3_3 : Ext (V3 m ρ c main_v3) = (args m c).wd :=
  (congrArg Ext (W3_of m ρ c main_v3 (by decide))).trans (v3_2 m ρ c)

theorem v3_4 : Ext (V4 m ρ c main_v3) = (args m c).wd :=
  (congrArg Ext (W4_of m ρ c main_v3 (by decide))).trans (v3_3 m ρ c)

theorem v3_5 : Ext (V5 m ρ c main_v3) = (args m c).wd :=
  (congrArg Ext (W5_of m ρ c main_v3 (by decide))).trans (v3_4 m ρ c)

theorem v3_6 : Ext (V6 m ρ c main_v3) = (args m c).wd :=
  (congrArg Ext (W6_of m ρ c main_v3 (by decide))).trans (v3_5 m ρ c)

theorem v16_0_7 : V7 m ρ c main_v16_0 = dx1 (args m c) := by
  refine (hF5 m ρ c 6).symm.trans ((Cert.StepMlpBack.out5_6 (V6 m ρ) c).trans ?_)
  simp only [v13_1_6 m ρ c, v12_2_6 m ρ c, v11_0_6 m ρ c, arg10_6 m ρ c, v7_6 m ρ c, v3_6 m ρ c, ext_b]; try rfl

theorem v16_1_7 : V7 m ρ c main_v16_1 = B (dup (args m c)) := by
  refine (hF5 m ρ c 7).symm.trans ((Cert.StepMlpBack.out5_7 (V6 m ρ) c).trans ?_)
  simp only [v13_1_6 m ρ c, v12_2_6 m ρ c, v11_0_6 m ρ c, arg10_6 m ρ c, v7_6 m ρ c, v3_6 m ρ c, ext_b]; try rfl

theorem v16_2_7 : V7 m ρ c main_v16_2 = dgm (args m c) := by
  refine (hF5 m ρ c 8).symm.trans ((Cert.StepMlpBack.out5_8 (V6 m ρ) c).trans ?_)
  simp only [v13_1_6 m ρ c, v12_2_6 m ρ c, v11_0_6 m ρ c, arg10_6 m ρ c, v7_6 m ρ c, v3_6 m ρ c, ext_b]; try rfl

theorem v12_3_4 : V4 m ρ c main_v12_3 = B (act (args m c)) := (W4_of m ρ c main_v12_3 (by decide)).trans (v12_3_3 m ρ c)

theorem v12_3_5 : V5 m ρ c main_v12_3 = B (act (args m c)) := (W5_of m ρ c main_v12_3 (by decide)).trans (v12_3_4 m ρ c)

theorem v12_3_6 : V6 m ρ c main_v12_3 = B (act (args m c)) := (W6_of m ρ c main_v12_3 (by decide)).trans (v12_3_5 m ρ c)

theorem v12_3_7 : V7 m ρ c main_v12_3 = B (act (args m c)) := (W7_of m ρ c main_v12_3 (by decide)).trans (v12_3_6 m ρ c)

theorem v13_1_7 : V7 m ρ c main_v13_1 = dx2 (args m c) := (W7_of m ρ c main_v13_1 (by decide)).trans (v13_1_6 m ρ c)

theorem v17_0_8 : V8 m ρ c main_v17_0 = dwd (args m c) := by
  refine (hF6 m ρ c 2).symm.trans ((Cert.StepGrads.out6_2 (V7 m ρ) c).trans ?_)
  simp only [v12_3_7 m ρ c, v13_1_7 m ρ c, ext_b]; try rfl

theorem v12_1_4 : V4 m ρ c main_v12_1 = B (n1 (args m c)) := (W4_of m ρ c main_v12_1 (by decide)).trans (v12_1_3 m ρ c)

theorem v12_1_5 : V5 m ρ c main_v12_1 = B (n1 (args m c)) := (W5_of m ρ c main_v12_1 (by decide)).trans (v12_1_4 m ρ c)

theorem v12_1_6 : V6 m ρ c main_v12_1 = B (n1 (args m c)) := (W6_of m ρ c main_v12_1 (by decide)).trans (v12_1_5 m ρ c)

theorem v12_1_7 : V7 m ρ c main_v12_1 = B (n1 (args m c)) := (W7_of m ρ c main_v12_1 (by decide)).trans (v12_1_6 m ρ c)

theorem v12_1_8 : V8 m ρ c main_v12_1 = B (n1 (args m c)) := (W8_of m ρ c main_v12_1 (by decide)).trans (v12_1_7 m ρ c)

theorem v16_1_8 : V8 m ρ c main_v16_1 = B (dup (args m c)) := (W8_of m ρ c main_v16_1 (by decide)).trans (v16_1_7 m ρ c)

theorem v18_0_9 : V9 m ρ c main_v18_0 = dwu (args m c) := by
  refine (hF7 m ρ c 2).symm.trans ((Cert.StepGrads.out7_2 (V8 m ρ) c).trans ?_)
  simp only [v12_1_8 m ρ c, v16_1_8 m ρ c, ext_b]; try rfl

theorem v16_0_8 : V8 m ρ c main_v16_0 = dx1 (args m c) := (W8_of m ρ c main_v16_0 (by decide)).trans (v16_0_7 m ρ c)

theorem v16_0_9 : V9 m ρ c main_v16_0 = dx1 (args m c) := (W9_of m ρ c main_v16_0 (by decide)).trans (v16_0_8 m ρ c)

theorem arg3_9 : V9 m ρ c main_arg3 = (args m c).ga := W9_args m ρ c main_arg3 (by decide)

theorem arg4_9 : V9 m ρ c main_arg4 = (args m c).gb := W9_args m ρ c main_arg4 (by decide)

theorem arg1_9 : V9 m ρ c main_arg1 = (args m c).ya := W9_args m ρ c main_arg1 (by decide)

theorem arg2_9 : V9 m ρ c main_arg2 = (args m c).o := W9_args m ρ c main_arg2 (by decide)

theorem v0_2 : Ext (V2 m ρ c main_v0) = (args m c).wr :=
  (congrArg Ext (W2_of m ρ c main_v0 (by decide))).trans (v0_1 m ρ c)

theorem v0_3 : Ext (V3 m ρ c main_v0) = (args m c).wr :=
  (congrArg Ext (W3_of m ρ c main_v0 (by decide))).trans (v0_2 m ρ c)

theorem v0_4 : Ext (V4 m ρ c main_v0) = (args m c).wr :=
  (congrArg Ext (W4_of m ρ c main_v0 (by decide))).trans (v0_3 m ρ c)

theorem v0_5 : Ext (V5 m ρ c main_v0) = (args m c).wr :=
  (congrArg Ext (W5_of m ρ c main_v0 (by decide))).trans (v0_4 m ρ c)

theorem v0_6 : Ext (V6 m ρ c main_v0) = (args m c).wr :=
  (congrArg Ext (W6_of m ρ c main_v0 (by decide))).trans (v0_5 m ρ c)

theorem v0_7 : Ext (V7 m ρ c main_v0) = (args m c).wr :=
  (congrArg Ext (W7_of m ρ c main_v0 (by decide))).trans (v0_6 m ρ c)

theorem v0_8 : Ext (V8 m ρ c main_v0) = (args m c).wr :=
  (congrArg Ext (W8_of m ρ c main_v0 (by decide))).trans (v0_7 m ρ c)

theorem v0_9 : Ext (V9 m ρ c main_v0) = (args m c).wr :=
  (congrArg Ext (W9_of m ρ c main_v0 (by decide))).trans (v0_8 m ρ c)

theorem v1_2 : Ext (V2 m ρ c main_v1) = (args m c).wa :=
  (congrArg Ext (W2_of m ρ c main_v1 (by decide))).trans (v1_1 m ρ c)

theorem v1_3 : Ext (V3 m ρ c main_v1) = (args m c).wa :=
  (congrArg Ext (W3_of m ρ c main_v1 (by decide))).trans (v1_2 m ρ c)

theorem v1_4 : Ext (V4 m ρ c main_v1) = (args m c).wa :=
  (congrArg Ext (W4_of m ρ c main_v1 (by decide))).trans (v1_3 m ρ c)

theorem v1_5 : Ext (V5 m ρ c main_v1) = (args m c).wa :=
  (congrArg Ext (W5_of m ρ c main_v1 (by decide))).trans (v1_4 m ρ c)

theorem v1_6 : Ext (V6 m ρ c main_v1) = (args m c).wa :=
  (congrArg Ext (W6_of m ρ c main_v1 (by decide))).trans (v1_5 m ρ c)

theorem v1_7 : Ext (V7 m ρ c main_v1) = (args m c).wa :=
  (congrArg Ext (W7_of m ρ c main_v1 (by decide))).trans (v1_6 m ρ c)

theorem v1_8 : Ext (V8 m ρ c main_v1) = (args m c).wa :=
  (congrArg Ext (W8_of m ρ c main_v1 (by decide))).trans (v1_7 m ρ c)

theorem v1_9 : Ext (V9 m ρ c main_v1) = (args m c).wa :=
  (congrArg Ext (W9_of m ρ c main_v1 (by decide))).trans (v1_8 m ρ c)

theorem v2_2 : Ext (V2 m ρ c main_v2) = (args m c).wo :=
  (congrArg Ext (W2_of m ρ c main_v2 (by decide))).trans (v2_1 m ρ c)

theorem v2_3 : Ext (V3 m ρ c main_v2) = (args m c).wo :=
  (congrArg Ext (W3_of m ρ c main_v2 (by decide))).trans (v2_2 m ρ c)

theorem v2_4 : Ext (V4 m ρ c main_v2) = (args m c).wo :=
  (congrArg Ext (W4_of m ρ c main_v2 (by decide))).trans (v2_3 m ρ c)

theorem v2_5 : Ext (V5 m ρ c main_v2) = (args m c).wo :=
  (congrArg Ext (W5_of m ρ c main_v2 (by decide))).trans (v2_4 m ρ c)

theorem v2_6 : Ext (V6 m ρ c main_v2) = (args m c).wo :=
  (congrArg Ext (W6_of m ρ c main_v2 (by decide))).trans (v2_5 m ρ c)

theorem v2_7 : Ext (V7 m ρ c main_v2) = (args m c).wo :=
  (congrArg Ext (W7_of m ρ c main_v2 (by decide))).trans (v2_6 m ρ c)

theorem v2_8 : Ext (V8 m ρ c main_v2) = (args m c).wo :=
  (congrArg Ext (W8_of m ρ c main_v2 (by decide))).trans (v2_7 m ρ c)

theorem v2_9 : Ext (V9 m ρ c main_v2) = (args m c).wo :=
  (congrArg Ext (W9_of m ρ c main_v2 (by decide))).trans (v2_8 m ρ c)

theorem v19_0_10 : V10 m ρ c main_v19_0 = dga (args m c) := by
  refine (hF8 m ρ c 8).symm.trans ((Cert.StepMerge.out8_8 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem v19_1_10 : V10 m ρ c main_v19_1 = dgb (args m c) := by
  refine (hF8 m ρ c 9).symm.trans ((Cert.StepMerge.out8_9 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem v19_2_10 : V10 m ρ c main_v19_2 = B (dr (args m c)) := by
  refine (hF8 m ρ c 10).symm.trans ((Cert.StepMerge.out8_10 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem v19_3_10 : V10 m ρ c main_v19_3 = B (da (args m c)) := by
  refine (hF8 m ρ c 11).symm.trans ((Cert.StepMerge.out8_11 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem v19_4_10 : V10 m ρ c main_v19_4 = dya (args m c) := by
  refine (hF8 m ρ c 12).symm.trans ((Cert.StepMerge.out8_12 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem v19_5_10 : V10 m ρ c main_v19_5 = do_ (args m c) := by
  refine (hF8 m ρ c 13).symm.trans ((Cert.StepMerge.out8_13 (V9 m ρ) c).trans ?_)
  simp only [v16_0_9 m ρ c, arg3_9 m ρ c, arg4_9 m ρ c, arg1_9 m ρ c, arg2_9 m ρ c, v0_9 m ρ c, v1_9 m ρ c, v2_9 m ρ c, ext_b]; try rfl

theorem arg1_10 : V10 m ρ c main_arg1 = (args m c).ya := W10_args m ρ c main_arg1 (by decide)

theorem v20_11 : V11 m ρ c main_v20 = dwr (args m c) := by
  refine (hF9 m ρ c 2).symm.trans ((Cert.StepGrads.out9_2 (V10 m ρ) c).trans ?_)
  simp only [arg1_10 m ρ c, v19_2_10 m ρ c, ext_b]; try rfl

theorem arg2_11 : V11 m ρ c main_arg2 = (args m c).o := W11_args m ρ c main_arg2 (by decide)

theorem v19_3_11 : V11 m ρ c main_v19_3 = B (da (args m c)) := (W11_of m ρ c main_v19_3 (by decide)).trans (v19_3_10 m ρ c)

theorem v21_12 : V12 m ρ c main_v21 = dwa (args m c) := by
  refine (hF10 m ρ c 2).symm.trans ((Cert.StepGrads.out10_2 (V11 m ρ) c).trans ?_)
  simp only [arg2_11 m ρ c, v19_3_11 m ρ c, ext_b]; try rfl

theorem v11_1_3 : V3 m ρ c main_v11_1 = B (merged (args m c)) := (W3_of m ρ c main_v11_1 (by decide)).trans (v11_1_2 m ρ c)

theorem v11_1_4 : V4 m ρ c main_v11_1 = B (merged (args m c)) := (W4_of m ρ c main_v11_1 (by decide)).trans (v11_1_3 m ρ c)

theorem v11_1_5 : V5 m ρ c main_v11_1 = B (merged (args m c)) := (W5_of m ρ c main_v11_1 (by decide)).trans (v11_1_4 m ρ c)

theorem v11_1_6 : V6 m ρ c main_v11_1 = B (merged (args m c)) := (W6_of m ρ c main_v11_1 (by decide)).trans (v11_1_5 m ρ c)

theorem v11_1_7 : V7 m ρ c main_v11_1 = B (merged (args m c)) := (W7_of m ρ c main_v11_1 (by decide)).trans (v11_1_6 m ρ c)

theorem v11_1_8 : V8 m ρ c main_v11_1 = B (merged (args m c)) := (W8_of m ρ c main_v11_1 (by decide)).trans (v11_1_7 m ρ c)

theorem v11_1_9 : V9 m ρ c main_v11_1 = B (merged (args m c)) := (W9_of m ρ c main_v11_1 (by decide)).trans (v11_1_8 m ρ c)

theorem v11_1_10 : V10 m ρ c main_v11_1 = B (merged (args m c)) := (W10_of m ρ c main_v11_1 (by decide)).trans (v11_1_9 m ρ c)

theorem v11_1_11 : V11 m ρ c main_v11_1 = B (merged (args m c)) := (W11_of m ρ c main_v11_1 (by decide)).trans (v11_1_10 m ρ c)

theorem v11_1_12 : V12 m ρ c main_v11_1 = B (merged (args m c)) := (W12_of m ρ c main_v11_1 (by decide)).trans (v11_1_11 m ρ c)

theorem v16_0_10 : V10 m ρ c main_v16_0 = dx1 (args m c) := (W10_of m ρ c main_v16_0 (by decide)).trans (v16_0_9 m ρ c)

theorem v16_0_11 : V11 m ρ c main_v16_0 = dx1 (args m c) := (W11_of m ρ c main_v16_0 (by decide)).trans (v16_0_10 m ρ c)

theorem v16_0_12 : V12 m ρ c main_v16_0 = dx1 (args m c) := (W12_of m ρ c main_v16_0 (by decide)).trans (v16_0_11 m ρ c)

theorem v22_13 : V13 m ρ c main_v22 = dwo (args m c) := by
  refine (hF11 m ρ c 2).symm.trans ((Cert.StepGrads.out11_2 (V12 m ρ) c).trans ?_)
  simp only [v11_1_12 m ρ c, v16_0_12 m ρ c, ext_b]; try rfl

theorem v13_0_5 : V5 m ρ c main_v13_0 = loss (args m c) := (W5_of m ρ c main_v13_0 (by decide)).trans (v13_0_4 m ρ c)

theorem v13_0_6 : V6 m ρ c main_v13_0 = loss (args m c) := (W6_of m ρ c main_v13_0 (by decide)).trans (v13_0_5 m ρ c)

theorem v13_0_7 : V7 m ρ c main_v13_0 = loss (args m c) := (W7_of m ρ c main_v13_0 (by decide)).trans (v13_0_6 m ρ c)

theorem v13_0_8 : V8 m ρ c main_v13_0 = loss (args m c) := (W8_of m ρ c main_v13_0 (by decide)).trans (v13_0_7 m ρ c)

theorem v13_0_9 : V9 m ρ c main_v13_0 = loss (args m c) := (W9_of m ρ c main_v13_0 (by decide)).trans (v13_0_8 m ρ c)

theorem v13_0_10 : V10 m ρ c main_v13_0 = loss (args m c) := (W10_of m ρ c main_v13_0 (by decide)).trans (v13_0_9 m ρ c)

theorem v13_0_11 : V11 m ρ c main_v13_0 = loss (args m c) := (W11_of m ρ c main_v13_0 (by decide)).trans (v13_0_10 m ρ c)

theorem v13_0_12 : V12 m ρ c main_v13_0 = loss (args m c) := (W12_of m ρ c main_v13_0 (by decide)).trans (v13_0_11 m ρ c)

theorem v13_0_13 : V13 m ρ c main_v13_0 = loss (args m c) := (W13_of m ρ c main_v13_0 (by decide)).trans (v13_0_12 m ρ c)

theorem v16_0_13 : V13 m ρ c main_v16_0 = dx1 (args m c) := (W13_of m ρ c main_v16_0 (by decide)).trans (v16_0_12 m ρ c)

theorem v19_4_11 : V11 m ρ c main_v19_4 = dya (args m c) := (W11_of m ρ c main_v19_4 (by decide)).trans (v19_4_10 m ρ c)

theorem v19_4_12 : V12 m ρ c main_v19_4 = dya (args m c) := (W12_of m ρ c main_v19_4 (by decide)).trans (v19_4_11 m ρ c)

theorem v19_4_13 : V13 m ρ c main_v19_4 = dya (args m c) := (W13_of m ρ c main_v19_4 (by decide)).trans (v19_4_12 m ρ c)

theorem v19_5_11 : V11 m ρ c main_v19_5 = do_ (args m c) := (W11_of m ρ c main_v19_5 (by decide)).trans (v19_5_10 m ρ c)

theorem v19_5_12 : V12 m ρ c main_v19_5 = do_ (args m c) := (W12_of m ρ c main_v19_5 (by decide)).trans (v19_5_11 m ρ c)

theorem v19_5_13 : V13 m ρ c main_v19_5 = do_ (args m c) := (W13_of m ρ c main_v19_5 (by decide)).trans (v19_5_12 m ρ c)

theorem v19_0_11 : V11 m ρ c main_v19_0 = dga (args m c) := (W11_of m ρ c main_v19_0 (by decide)).trans (v19_0_10 m ρ c)

theorem v19_0_12 : V12 m ρ c main_v19_0 = dga (args m c) := (W12_of m ρ c main_v19_0 (by decide)).trans (v19_0_11 m ρ c)

theorem v19_0_13 : V13 m ρ c main_v19_0 = dga (args m c) := (W13_of m ρ c main_v19_0 (by decide)).trans (v19_0_12 m ρ c)

theorem v19_1_11 : V11 m ρ c main_v19_1 = dgb (args m c) := (W11_of m ρ c main_v19_1 (by decide)).trans (v19_1_10 m ρ c)

theorem v19_1_12 : V12 m ρ c main_v19_1 = dgb (args m c) := (W12_of m ρ c main_v19_1 (by decide)).trans (v19_1_11 m ρ c)

theorem v19_1_13 : V13 m ρ c main_v19_1 = dgb (args m c) := (W13_of m ρ c main_v19_1 (by decide)).trans (v19_1_12 m ρ c)

theorem v20_12 : V12 m ρ c main_v20 = dwr (args m c) := (W12_of m ρ c main_v20 (by decide)).trans (v20_11 m ρ c)

theorem v20_13 : V13 m ρ c main_v20 = dwr (args m c) := (W13_of m ρ c main_v20 (by decide)).trans (v20_12 m ρ c)

theorem v21_13 : V13 m ρ c main_v21 = dwa (args m c) := (W13_of m ρ c main_v21 (by decide)).trans (v21_12 m ρ c)

theorem v16_2_8 : V8 m ρ c main_v16_2 = dgm (args m c) := (W8_of m ρ c main_v16_2 (by decide)).trans (v16_2_7 m ρ c)

theorem v16_2_9 : V9 m ρ c main_v16_2 = dgm (args m c) := (W9_of m ρ c main_v16_2 (by decide)).trans (v16_2_8 m ρ c)

theorem v16_2_10 : V10 m ρ c main_v16_2 = dgm (args m c) := (W10_of m ρ c main_v16_2 (by decide)).trans (v16_2_9 m ρ c)

theorem v16_2_11 : V11 m ρ c main_v16_2 = dgm (args m c) := (W11_of m ρ c main_v16_2 (by decide)).trans (v16_2_10 m ρ c)

theorem v16_2_12 : V12 m ρ c main_v16_2 = dgm (args m c) := (W12_of m ρ c main_v16_2 (by decide)).trans (v16_2_11 m ρ c)

theorem v16_2_13 : V13 m ρ c main_v16_2 = dgm (args m c) := (W13_of m ρ c main_v16_2 (by decide)).trans (v16_2_12 m ρ c)

theorem v18_0_10 : V10 m ρ c main_v18_0 = dwu (args m c) := (W10_of m ρ c main_v18_0 (by decide)).trans (v18_0_9 m ρ c)

theorem v18_0_11 : V11 m ρ c main_v18_0 = dwu (args m c) := (W11_of m ρ c main_v18_0 (by decide)).trans (v18_0_10 m ρ c)

theorem v18_0_12 : V12 m ρ c main_v18_0 = dwu (args m c) := (W12_of m ρ c main_v18_0 (by decide)).trans (v18_0_11 m ρ c)

theorem v18_0_13 : V13 m ρ c main_v18_0 = dwu (args m c) := (W13_of m ρ c main_v18_0 (by decide)).trans (v18_0_12 m ρ c)

theorem v17_0_9 : V9 m ρ c main_v17_0 = dwd (args m c) := (W9_of m ρ c main_v17_0 (by decide)).trans (v17_0_8 m ρ c)

theorem v17_0_10 : V10 m ρ c main_v17_0 = dwd (args m c) := (W10_of m ρ c main_v17_0 (by decide)).trans (v17_0_9 m ρ c)

theorem v17_0_11 : V11 m ρ c main_v17_0 = dwd (args m c) := (W11_of m ρ c main_v17_0 (by decide)).trans (v17_0_10 m ρ c)

theorem v17_0_12 : V12 m ρ c main_v17_0 = dwd (args m c) := (W12_of m ρ c main_v17_0 (by decide)).trans (v17_0_11 m ρ c)

theorem v17_0_13 : V13 m ρ c main_v17_0 = dwd (args m c) := (W13_of m ρ c main_v17_0 (by decide)).trans (v17_0_12 m ρ c)

theorem v13_6_5 : V5 m ρ c main_v13_6 = dgp (args m c) := (W5_of m ρ c main_v13_6 (by decide)).trans (v13_6_4 m ρ c)

theorem v13_6_6 : V6 m ρ c main_v13_6 = dgp (args m c) := (W6_of m ρ c main_v13_6 (by decide)).trans (v13_6_5 m ρ c)

theorem v13_6_7 : V7 m ρ c main_v13_6 = dgp (args m c) := (W7_of m ρ c main_v13_6 (by decide)).trans (v13_6_6 m ρ c)

theorem v13_6_8 : V8 m ρ c main_v13_6 = dgp (args m c) := (W8_of m ρ c main_v13_6 (by decide)).trans (v13_6_7 m ρ c)

theorem v13_6_9 : V9 m ρ c main_v13_6 = dgp (args m c) := (W9_of m ρ c main_v13_6 (by decide)).trans (v13_6_8 m ρ c)

theorem v13_6_10 : V10 m ρ c main_v13_6 = dgp (args m c) := (W10_of m ρ c main_v13_6 (by decide)).trans (v13_6_9 m ρ c)

theorem v13_6_11 : V11 m ρ c main_v13_6 = dgp (args m c) := (W11_of m ρ c main_v13_6 (by decide)).trans (v13_6_10 m ρ c)

theorem v13_6_12 : V12 m ρ c main_v13_6 = dgp (args m c) := (W12_of m ρ c main_v13_6 (by decide)).trans (v13_6_11 m ρ c)

theorem v13_6_13 : V13 m ρ c main_v13_6 = dgp (args m c) := (W13_of m ρ c main_v13_6 (by decide)).trans (v13_6_12 m ρ c)

theorem v15_7 : V7 m ρ c main_v15 = dwg (args m c) := (W7_of m ρ c main_v15 (by decide)).trans (v15_6 m ρ c)

theorem v15_8 : V8 m ρ c main_v15 = dwg (args m c) := (W8_of m ρ c main_v15 (by decide)).trans (v15_7 m ρ c)

theorem v15_9 : V9 m ρ c main_v15 = dwg (args m c) := (W9_of m ρ c main_v15 (by decide)).trans (v15_8 m ρ c)

theorem v15_10 : V10 m ρ c main_v15 = dwg (args m c) := (W10_of m ρ c main_v15 (by decide)).trans (v15_9 m ρ c)

theorem v15_11 : V11 m ρ c main_v15 = dwg (args m c) := (W11_of m ρ c main_v15 (by decide)).trans (v15_10 m ρ c)

theorem v15_12 : V12 m ρ c main_v15 = dwg (args m c) := (W12_of m ρ c main_v15 (by decide)).trans (v15_11 m ρ c)

theorem v15_13 : V13 m ρ c main_v15 = dwg (args m c) := (W13_of m ρ c main_v15 (by decide)).trans (v15_12 m ρ c)

theorem v14_6 : V6 m ρ c main_v14 = dwp (args m c) := (W6_of m ρ c main_v14 (by decide)).trans (v14_5 m ρ c)

theorem v14_7 : V7 m ρ c main_v14 = dwp (args m c) := (W7_of m ρ c main_v14 (by decide)).trans (v14_6 m ρ c)

theorem v14_8 : V8 m ρ c main_v14 = dwp (args m c) := (W8_of m ρ c main_v14 (by decide)).trans (v14_7 m ρ c)

theorem v14_9 : V9 m ρ c main_v14 = dwp (args m c) := (W9_of m ρ c main_v14 (by decide)).trans (v14_8 m ρ c)

theorem v14_10 : V10 m ρ c main_v14 = dwp (args m c) := (W10_of m ρ c main_v14 (by decide)).trans (v14_9 m ρ c)

theorem v14_11 : V11 m ρ c main_v14 = dwp (args m c) := (W11_of m ρ c main_v14 (by decide)).trans (v14_10 m ρ c)

theorem v14_12 : V12 m ρ c main_v14 = dwp (args m c) := (W12_of m ρ c main_v14 (by decide)).trans (v14_11 m ρ c)

theorem v14_13 : V13 m ρ c main_v14 = dwp (args m c) := (W13_of m ρ c main_v14 (by decide)).trans (v14_12 m ρ c)

end Cert.StepChain

end
-- ==== Proof.StepClaims.lean ====
/- The claims of the step: the reference leaves its arguments alone, and the kernels leave what the reference leaves. -/
module

public import proofs.«01_k».proof.Defs
public import proofs.«01_k».proof.Proof.StepRefRun
public import proofs.«01_k».proof.Proof.StepRun
public import proofs.«01_k».proof.Proof.StepChain
public import Idealize.ShloMosaic.Lib.Claim
public import Idealize.ShloMosaic.Lib.Quiescent

@[expose] public section

set_option maxRecDepth 16384

noncomputable section

namespace Cert.StepClaims

open Idealize.ShloMosaic Idealize.SL.Sem

/-- The reference runs to its end, leaves its arguments and every counter at zero. -/
theorem frame_ref : Cert.quiescent_ReferenceIdeal := by
  intro m ρ _
  exact (θ_run Cert.ReferenceIdeal.defs _ _).mono
    (fun r h => ⟨fun c => (h c).2.2.2.2.2.2.2.2.2.2.2.2.2.2.2, sem_eq_zero_of_no_sems (by decide) r.2⟩)
    (Cert.ReferenceIdeal.Value.run (F := Ideal) m ρ)

/-- Equal arguments, one by one, are equal arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.StepRefRun.args (StableHlo.launchContents m' c) = Cert.StepHost.args m c := by
  obtain ⟨h0, h1, h2, h3, h4, h5, h6, h7, h8, h9, h10, h11, h12, h13, h14, h15⟩ := h
  show Cert.StepArgs.Args.mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [h0, h1, h2, h3, h4, h5, h6, h7, h8, h9, h10, h11, h12, h13, h14, h15]
  rfl

/-- The kernels' results are the reference's. -/
theorem algebraic : algebraic_KernelIdeal_ReferenceIdeal := by
  intro m g m' g' _ hagree
  refine ⟨fun c => Cert.StepArgs.loss (Cert.StepHost.args m c), fun c => Cert.StepArgs.dx1 (Cert.StepHost.args m c), fun c => Cert.StepArgs.dya (Cert.StepHost.args m c), fun c => Cert.StepArgs.do_ (Cert.StepHost.args m c), fun c => Cert.StepArgs.dga (Cert.StepHost.args m c), fun c => Cert.StepArgs.dgb (Cert.StepHost.args m c), fun c => Cert.StepArgs.dwr (Cert.StepHost.args m c), fun c => Cert.StepArgs.dwa (Cert.StepHost.args m c), fun c => Cert.StepArgs.dwo (Cert.StepHost.args m c), fun c => Cert.StepArgs.dgm (Cert.StepHost.args m c), fun c => Cert.StepArgs.dwu (Cert.StepHost.args m c), fun c => Cert.StepArgs.dwd (Cert.StepHost.args m c), fun c => Cert.StepArgs.dgp (Cert.StepHost.args m c), fun c => Cert.StepArgs.dwg (Cert.StepHost.args m c), fun c => Cert.StepArgs.dwp (Cert.StepHost.args m c),
    (θ_run Cert.KernelIdeal.defs _ _).mono (fun r h c => ?_) (Cert.StepRun.run (F := Ideal) m g),
    (θ_run Cert.ReferenceIdeal.defs _ _).mono (fun r h c => ?_) (Cert.StepRefRun.run m' g')⟩
  · obtain ⟨h0, h1, h2, h3, h4, h5, h6, h7, h8, h9, h10, h11, h12, h13, h14, hargs⟩ := h c
    exact ⟨h0.trans (Cert.StepChain.v13_0_13 m g c), h1.trans (Cert.StepChain.v16_0_13 m g c), h2.trans (Cert.StepChain.v19_4_13 m g c), h3.trans (Cert.StepChain.v19_5_13 m g c), h4.trans (Cert.StepChain.v19_0_13 m g c), h5.trans (Cert.StepChain.v19_1_13 m g c), h6.trans (Cert.StepChain.v20_13 m g c), h7.trans (Cert.StepChain.v21_13 m g c), h8.trans (Cert.StepChain.v22_13 m g c), h9.trans (Cert.StepChain.v16_2_13 m g c), h10.trans (Cert.StepChain.v18_0_13 m g c), h11.trans (Cert.StepChain.v17_0_13 m g c), h12.trans (Cert.StepChain.v13_6_13 m g c), h13.trans (Cert.StepChain.v15_13 m g c), h14.trans (Cert.StepChain.v14_13 m g c), hargs⟩
  · have e := args_eq m m' c (hagree c)
    obtain ⟨h0, h1, h2, h3, h4, h5, h6, h7, h8, h9, h10, h11, h12, h13, h14, hargs⟩ := h c
    exact ⟨h0.trans (congrArg Cert.StepArgs.loss e), h1.trans (congrArg Cert.StepArgs.dx1 e), h2.trans (congrArg Cert.StepArgs.dya e), h3.trans (congrArg Cert.StepArgs.do_ e), h4.trans (congrArg Cert.StepArgs.dga e), h5.trans (congrArg Cert.StepArgs.dgb e), h6.trans (congrArg Cert.StepArgs.dwr e), h7.trans (congrArg Cert.StepArgs.dwa e), h8.trans (congrArg Cert.StepArgs.dwo e), h9.trans (congrArg Cert.StepArgs.dgm e), h10.trans (congrArg Cert.StepArgs.dwu e), h11.trans (congrArg Cert.StepArgs.dwd e), h12.trans (congrArg Cert.StepArgs.dgp e), h13.trans (congrArg Cert.StepArgs.dwg e), h14.trans (congrArg Cert.StepArgs.dwp e), hargs⟩

end Cert.StepClaims

end
-- ==== Proof.StepIn.lean ====
/- What the reference of the input projection computes: the projection of the normalised rows in seven column groups,
   and the seven cotangents back through it. -/
module

public import proofs.«01_k».proof.Proof.Gen.Reference2Ideal
public import proofs.«01_k».proof.Proof.StepRef
public import Idealize.ShloMosaic.Lib.Pipeline.ValueKit

@[expose] public section

set_option maxRecDepth 16384

noncomputable section

namespace Cert.StepIn

open Cert.Reference2Ideal Cert.Reference2Ideal.Gen Idealize.ShloMosaic Idealize.ShloMosaic.TcCoe Idealize.SL.Sem
open Cert.StepRef (Rows RowsB Gain B Ext Nrm Xn Gn DX DGain)

abbrev Full : Type := FVec Ideal S4096x5632 .f32
abbrev Thin : Type := FVec Ideal S4096x256 .f32
abbrev ThinB : Type := FVec Ideal S4096x256 .bf16
abbrev Win : Type := FVec Ideal S1024x5632 .f32

/-- The projection, -/
def Zed (h : Rows) (w : Win) : Full := Host.dotGeneral dot_S4096x1024_S1024x5632_S4096x5632_1_0_0_1_n_n none h w

/-- the seven cotangents side by side, -/
def Cat (p0 p1 p2 : Rows) (p3 p4 : Thin) (p5 p6 : Rows) : Full :=
  concatenate S4096x5632 1 [⟨S4096x1024, p0⟩, ⟨S4096x1024, p1⟩, ⟨S4096x1024, p2⟩, ⟨S4096x256, p3⟩, ⟨S4096x256, p4⟩, ⟨S4096x1024, p5⟩, ⟨S4096x1024, p6⟩] concatenates_S4096x1024_S4096x1024_S4096x1024_S4096x256_S4096x256_S4096x1024_S4096x1024_S4096x5632_d1

/-- and a cotangent back through the projection. -/
def DH (d : Full) (w : Win) : Rows := Host.dotGeneral dot_S4096x5632_S1024x5632_S4096x1024_1_1_0_0_n_n none d w

/-- The projection's weight, cut into four column blocks, put back in one piece. -/
def FlatI (w : FVec Ideal ⟨3, ![4, 1024, 1408]⟩ .bf16) : Win :=
  fun i => Ext w (ix3 ⟨(i 1 : ℕ) / 1408, by have h : (i 1 : ℕ) < 5632 := (i 1).isLt; omega⟩ (i 0) ⟨(i 1 : ℕ) % 1408, Nat.mod_lt _ (by decide)⟩)

/-- The column groups of an array as wide as the projection. -/
def C0 (z : Full) : Rows := extractStridedSlice S4096x1024 ![0, 0] z slices_S4096x5632_S4096x1024_0_0
def C1 (z : Full) : Rows := extractStridedSlice S4096x1024 ![0, 1024] z slices_S4096x5632_S4096x1024_0_1024
def C2 (z : Full) : Rows := extractStridedSlice S4096x1024 ![0, 2048] z slices_S4096x5632_S4096x1024_0_2048
def C3 (z : Full) : Thin := extractStridedSlice S4096x256 ![0, 3072] z slices_S4096x5632_S4096x256_0_3072
def C4 (z : Full) : Thin := extractStridedSlice S4096x256 ![0, 3328] z slices_S4096x5632_S4096x256_0_3328
def C5 (z : Full) : Rows := extractStridedSlice S4096x1024 ![0, 3584] z slices_S4096x5632_S4096x1024_0_3584
def C6 (z : Full) : Rows := extractStridedSlice S4096x1024 ![0, 4608] z slices_S4096x5632_S4096x1024_0_4608

end Cert.StepIn

end
-- ==== Proof.StepInRef.lean ====
/- The run of the input projection's reference: its results as terms of the arguments. -/
module

public import proofs.«01_k».proof.Proof.Gen.Reference2Ideal.Run
public import proofs.«01_k».proof.Proof.StepIn

@[expose] public section

set_option maxRecDepth 16384

noncomputable section

namespace Cert.StepInRef

open Cert.Reference2Ideal Cert.Reference2Ideal.Gen Cert.Reference2Ideal.Value Idealize.ShloMosaic Idealize.ShloMosaic.TcCoe Idealize.SL.Sem
open Cert.StepRef (Rows RowsB Gain B Ext Rs Nrm NBack Xn Gn DX DGain)
open Cert.StepIn

/-- The arguments: the rows, their gain, the weight, the cotangent that passes by, and the seven column groups'. -/
structure Args where
  x : Rows
  g : Gain
  w : Win
  d : Rows
  p0 : RowsB
  p1 : RowsB
  p2 : RowsB
  p3 : ThinB
  p4 : ThinB
  p5 : RowsB
  p6 : RowsB

/-- The projection's value, and its input's cotangent. -/
def zed (a : Args) : Full := Zed (Nrm a.x a.g) a.w
def dh (a : Args) : Rows := DH (Cat (Ext a.p0) (Ext a.p1) (Ext a.p2) (Ext a.p3) (Ext a.p4) (Ext a.p5) (Ext a.p6)) a.w

/-- The rows' cotangent. -/
def dx (a : Args) : Rows := DX a.d a.x (Gn (dh a) a.g)

/-- The gain's gradient. -/
def dg (a : Args) : Gain := DGain a.x (dh a)

/-- The terms of the norm's cotangent, added in the other order. -/
theorem dx_assoc (d X dn : Rows) :
    addf d (addf (addf (mulf dn (broadcastInDim S4096x1024 ![0, 1] bcast_S4096x1_S4096x1024_0_1 (Rs X))) (mulf X (NBack X dn))) (mulf (NBack X dn) X)) = DX d X dn := by
  funext i
  exact (add_assoc (G := EReal) _ _ _).symm.trans (congrArg (fun e : EReal => e + _) (add_assoc (G := EReal) _ _ _).symm)

variable (m : (ℓ : Loc nD τ sig) → Buf (Elt Ideal) ℓ) (c : Dev nD)

/-- The reference's arguments. -/
def args : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

set_option maxHeartbeats 1600000 in
theorem v51 : res_main_v51 (F := Ideal) m c = dx (args m c) :=
  Eq.trans (by unfold res_main_v51; rfl) (dx_assoc (args m c).d (args m c).x (Gn (dh (args m c)) (args m c).g))

/-- The run, its results at those terms. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = C0 (zed (args m c))
      ∧ r.2.mem ((c.tc : Thread nD τ).loc main_v17) = C1 (zed (args m c))
      ∧ r.2.mem ((c.tc : Thread nD τ).loc main_v18) = C2 (zed (args m c))
      ∧ r.2.mem ((c.tc : Thread nD τ).loc main_v19) = C3 (zed (args m c))
      ∧ r.2.mem ((c.tc : Thread nD τ).loc main_v20) = C4 (zed (args m c))
      ∧ r.2.mem ((c.tc : Thread nD τ).loc main_v21) = C5 (zed (args m c))
      ∧ r.2.mem ((c.tc : Thread nD τ).loc main_v22) = C6 (zed (args m c))
      ∧ r.2.mem ((c.tc : Thread nD τ).loc main_v51) = dx (args m c)
      ∧ r.2.mem ((c.tc : Thread nD τ).loc main_v34) = dg (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run _ _ _).mono (fun r h c => ?_) (Cert.Reference2Ideal.Value.run (F := Ideal) m ρ)
  obtain ⟨h0, h1, h2, h3, h4, h5, h6, h7, h8, hargs⟩ := h c
  refine ⟨h0.trans ?_, h1.trans ?_, h2.trans ?_, h3.trans ?_, h4.trans ?_, h5.trans ?_, h6.trans ?_, h7.trans ?_, h8.trans ?_, hargs⟩
  · rfl
  · rfl
  · rfl
  · rfl
  · rfl
  · rfl
  · rfl
  · exact v51 m c
  · rfl

end Cert.StepInRef

end
-- ==== Proof.StepInRun.lean ====
/- The input projection's two kernels, run one after the other: what each result array holds at the end. -/
module

public import proofs.«01_k».proof.Proof.Gen.Kernel2Ideal.Frame

@[expose] public section

set_option maxRecDepth 16384

noncomputable section

namespace Cert.StepInRun

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The two kernels' run: every result array ends at what the fold of the kernels' arrays holds, the arguments end as
    they began. -/
theorem run : θ_run defs (onTc (τ := τ) (main (F := F))) ⟨m, fun _ => 0, ρ⟩ (fun r => ∀ c : Dev nD,
      r.2.mem ((c.tc : Thread nD τ).loc main_v3_1) = W3 m ρ c main_v3_1
      ∧ r.2.mem ((c.tc : Thread nD τ).loc main_v3_2) = W3 m ρ c main_v3_2
      ∧ r.2.mem ((c.tc : Thread nD τ).loc main_v3_3) = W3 m ρ c main_v3_3
      ∧ r.2.mem ((c.tc : Thread nD τ).loc main_v3_4) = W3 m ρ c main_v3_4
      ∧ r.2.mem ((c.tc : Thread nD τ).loc main_v3_5) = W3 m ρ c main_v3_5
      ∧ r.2.mem ((c.tc : Thread nD τ).loc main_v3_6) = W3 m ρ c main_v3_6
      ∧ r.2.mem ((c.tc : Thread nD τ).loc main_v3_7) = W3 m ρ c main_v3_7
      ∧ r.2.mem ((c.tc : Thread nD τ).loc main_v4_0) = W3 m ρ c main_v4_0
      ∧ r.2.mem ((c.tc : Thread nD τ).loc main_v4_1) = W3 m ρ c main_v4_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨h c _ (mem_uc main_v3_1 (by decide)),
       h c _ (mem_uc main_v3_2 (by decide)),
       h c _ (mem_uc main_v3_3 (by decide)),
       h c _ (mem_uc main_v3_4 (by decide)),
       h c _ (mem_uc main_v3_5 (by decide)),
       h c _ (mem_uc main_v3_6 (by decide)),
       h c _ (mem_uc main_v3_7 (by decide)),
       h c _ (mem_uc main_v4_0 (by decide)),
       h c _ (mem_uc main_v4_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c)⟩)

end Cert.StepInRun

end
-- ==== Proof.StepInFwd.lean ====
/- What the input projection's forward kernel leaves: each grid point writes 512 rows of the seven column groups, cut out
   of four products with a column block of the weight each. -/
module

public import proofs.«01_k».proof.Proof.Gen.Kernel2Ideal.Frame
public import proofs.«01_k».proof.Proof.StepIn
public import proofs.«01_k».proof.Proof.StepNorm
public import Idealize.ShloMosaic.Lib.Pipeline.ValueKit

@[expose] public section

set_option maxRecDepth 16384

noncomputable section

namespace Cert.StepInFwd

open Cert.Kernel2Ideal Cert.Kernel2Ideal.Gen Idealize.ShloMosaic Idealize.ShloMosaic.TcCoe Idealize.SL.Sem
open Idealize.ShloMosaic.Pipeline (Dat)
open Cert.StepNorm
open Cert.StepRef (B Ext Ms Rs Xn Gn Nrm NBack DX DGain)
open Cert.StepIn (Zed Cat DH FlatI C0 C1 C2 C3 C4 C5 C6)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

/-- A block's normalised rows, -/
theorem nrm_at (c : Dev nD) (t : Fin cfg0.N) (r : Fin 512) (l : Fin 1024) (R : Fin 4096) (hR : (R : ℕ) = t.val * 512 + r) :
    k0_pay9 (F := Ideal) (iblk0 V c 0 t) (iblk0 V c 1 t) (ix2 r l) = Nrm (V c main_arg0) (V c main_arg1) (ix2 R l) := by
  pointwise [k0_pay9, Nrm, Xn, Gn, Rs, Ms]
  blk_point [iblk0, idx0 t]

/-- The projection, from a row and a column. -/
theorem z_of (X : Cert.StepRef.Rows) (W : Cert.StepIn.Win) (f g : Fin 1024 → EReal) (i : Cert.Reference2Ideal.S4096x5632.Idx)
    (hf : ∀ k, f k = X (ix2 (i 0) k)) (hg : ∀ k, g k = W (ix2 k (i 1))) : ∑ k, f k * g k = Zed X W i := by
  pointwise [Zed]
  exact Finset.sum_congr rfl fun k _ => Ideal.mul_congr (hf k) (hg k)

/-- A block's rows times a column of one of the weight's blocks. -/
theorem z_at (c : Dev nD) (t : Fin cfg0.N) (r : Fin 512) (l : Fin 1408) (q : Fin 4) (i : Cert.Reference2Ideal.S4096x5632.Idx)
    (h0 : (i 0 : ℕ) = t.val * 512 + r) (h1 : (i 1 : ℕ) = q * 1408 + l) :
    (∑ k : Fin 1024, k0_pay9 (F := Ideal) (iblk0 V c 0 t) (iblk0 V c 1 t) (ix2 r k) * (show EReal from iblk0 V c 2 t (ix3 q k l)))
      = Zed (Nrm (V c main_arg0) (V c main_arg1)) (FlatI (V c main_v2)) i := by
  refine z_of _ _ _ _ i (fun k => nrm_at V c t r k _ h0) (fun k => ?_)
  pointwise [FlatI]
  blk_point [iblk0, idx0 t]

theorem out0_4 (c : Dev nD) : (dat0 V c).arrAt 4 cfg0.N = C0 (Zed (Nrm (V c main_arg0) (V c main_arg1)) (FlatI (V c main_v2))) := by
  refine (dat0 V c).arrAt_eq_of_covers 4 _ (by decide +kernel) fun t _ y => ?_
  blk_simp
  rw [after0_4]; unfold outsAt0; frame_out
  pointwise [k0_pay11, k0_pay10, C0]
  exact z_at V c t (y 0) ⟨(y 1 : ℕ), by have h : (y 1 : ℕ) < 1024 := (y 1).isLt; omega⟩ 0 _ (by blk_simp [idx0 t] <;> (try dsimp only) <;> omega) (by blk_simp [idx0 t] <;> (try dsimp only) <;> omega)

theorem out0_5 (c : Dev nD) : (dat0 V c).arrAt 5 cfg0.N = C1 (Zed (Nrm (V c main_arg0) (V c main_arg1)) (FlatI (V c main_v2))) := by
  refine (dat0 V c).arrAt_eq_of_covers 5 _ (by decide +kernel) fun t _ y => ?_
  blk_simp
  rw [after0_5]; unfold outsAt0; frame_out
  canon_tiles x h using (View.cover_of_tiledBy _ ![512, 128] (by sl_kernel_rfl) _)
  case piece0 =>
    pointwise [k0_pay14, k0_pay13, C1]
    exact z_at V c t (x 0) ⟨(x 1 : ℕ), by omega⟩ 1 _ (by blk_simp [idx0 t] <;> (try dsimp only) <;> omega) (by blk_simp [idx0 t] <;> (try dsimp only) <;> omega)
  case piece1 =>
    pointwise [k0_pay12, k0_pay10, C1]
    exact z_at V c t (x 0) ⟨1024 + (x 1 : ℕ), by omega⟩ 0 _ (by blk_simp [idx0 t] <;> (try dsimp only) <;> omega) (by blk_simp [idx0 t] <;> (try dsimp only) <;> omega)

theorem out0_6 (c : Dev nD) : (dat0 V c).arrAt 6 cfg0.N = C2 (Zed (Nrm (V c main_arg0) (V c main_arg1)) (FlatI (V c main_v2))) := by
  refine (dat0 V c).arrAt_eq_of_covers 6 _ (by decide +kernel) fun t _ y => ?_
  blk_simp
  rw [after0_6]; unfold outsAt0; frame_out
  canon_tiles x h using (View.cover_of_tiledBy _ ![512, 128] (by sl_kernel_rfl) _)
  case piece0 =>
    pointwise [k0_pay2, k0_pay1, C2]
    exact z_at V c t (x 0) ⟨(x 1 : ℕ), by omega⟩ 2 _ (by blk_simp [idx0 t] <;> (try dsimp only) <;> omega) (by blk_simp [idx0 t] <;> (try dsimp only) <;> omega)
  case piece1 =>
    pointwise [k0_pay15, k0_pay13, C2]
    exact z_at V c t (x 0) ⟨640 + (x 1 : ℕ), by omega⟩ 1 _ (by blk_simp [idx0 t] <;> (try dsimp only) <;> omega) (by blk_simp [idx0 t] <;> (try dsimp only) <;> omega)

theorem out0_7 (c : Dev nD) : (dat0 V c).arrAt 7 cfg0.N = C3 (Zed (Nrm (V c main_arg0) (V c main_arg1)) (FlatI (V c main_v2))) := by
  refine (dat0 V c).arrAt_eq_of_covers 7 _ (by decide +kernel) fun t _ y => ?_
  blk_simp
  rw [after0_7]; unfold outsAt0; frame_out
  pointwise [k0_pay3, k0_pay1, C3]
  exact z_at V c t (y 0) ⟨256 + (y 1 : ℕ), by have h : (y 1 : ℕ) < 256 := (y 1).isLt; omega⟩ 2 _ (by blk_simp [idx0 t] <;> (try dsimp only) <;> omega) (by blk_simp [idx0 t] <;> (try dsimp only) <;> omega)

theorem out0_8 (c : Dev nD) : (dat0 V c).arrAt 8 cfg0.N = C4 (Zed (Nrm (V c main_arg0) (V c main_arg1)) (FlatI (V c main_v2))) := by
  refine (dat0 V c).arrAt_eq_of_covers 8 _ (by decide +kernel) fun t _ y => ?_
  blk_simp
  rw [after0_8]; unfold outsAt0; frame_out
  pointwise [k0_pay4, k0_pay1, C4]
  exact z_at V c t (y 0) ⟨512 + (y 1 : ℕ), by have h : (y 1 : ℕ) < 256 := (y 1).isLt; omega⟩ 2 _ (by blk_simp [idx0 t] <;> (try dsimp only) <;> omega) (by blk_simp [idx0 t] <;> (try dsimp only) <;> omega)

theorem out0_9 (c : Dev nD) : (dat0 V c).arrAt 9 cfg0.N = C5 (Zed (Nrm (V c main_arg0) (V c main_arg1)) (FlatI (V c main_v2))) := by
  refine (dat0 V c).arrAt_eq_of_covers 9 _ (by decide +kernel) fun t _ y => ?_
  blk_simp
  rw [after0_9]; unfold outsAt0; frame_out
  canon_tiles x h using (View.cover_of_tiledBy _ ![512, 128] (by sl_kernel_rfl) _)
  case piece0 =>
    pointwise [k0_pay7, k0_pay6, C5]
    exact z_at V c t (x 0) ⟨(x 1 : ℕ), by omega⟩ 3 _ (by blk_simp [idx0 t] <;> (try dsimp only) <;> omega) (by blk_simp [idx0 t] <;> (try dsimp only) <;> omega)
  case piece1 =>
    pointwise [k0_pay5, k0_pay1, C5]
    exact z_at V c t (x 0) ⟨768 + (x 1 : ℕ), by omega⟩ 2 _ (by blk_simp [idx0 t] <;> (try dsimp only) <;> omega) (by blk_simp [idx0 t] <;> (try dsimp only) <;> omega)

theorem out0_10 (c : Dev nD) : (dat0 V c).arrAt 10 cfg0.N = C6 (Zed (Nrm (V c main_arg0) (V c main_arg1)) (FlatI (V c main_v2))) := by
  refine (dat0 V c).arrAt_eq_of_covers 10 _ (by decide +kernel) fun t _ y => ?_
  blk_simp
  rw [after0_10]; unfold outsAt0; frame_out
  pointwise [k0_pay8, k0_pay6, C6]
  exact z_at V c t (y 0) ⟨384 + (y 1 : ℕ), by have h : (y 1 : ℕ) < 1024 := (y 1).isLt; omega⟩ 3 _ (by blk_simp [idx0 t] <;> (try dsimp only) <;> omega) (by blk_simp [idx0 t] <;> (try dsimp only) <;> omega)

end Cert.StepInFwd

end
-- ==== Proof.StepInBack.lean ====
/- The input projection's backward kernel: each grid point writes 512 rows of the residual stream's cotangent, and adds its
   rows' part of the gain's gradient. -/
module

public import proofs.«01_k».proof.Proof.Gen.Kernel2Ideal.Frame
public import proofs.«01_k».proof.Proof.StepIn
public import proofs.«01_k».proof.Proof.StepNorm
public import Idealize.ShloMosaic.Lib.Pipeline.ValueKit

@[expose] public section

set_option maxRecDepth 16384

noncomputable section

namespace Cert.StepInBack

open Cert.Kernel2Ideal Cert.Kernel2Ideal.Gen Idealize.ShloMosaic Idealize.ShloMosaic.TcCoe Idealize.SL.Sem
open Idealize.ShloMosaic.Pipeline (Dat)
open Cert.StepNorm
open Cert.StepRef (B Ext Ms Rs Xn Gn Nrm NBack DX DGain)
open Cert.StepIn (Zed Cat DH FlatI C0 C1 C2 C3 C4 C5 C6)

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![0, 0, 0] ∧ win1_8.index t = ![t.val, 0] ∧ win1_9.index t = ![0, 0] ∧ win1_10.index t = ![t.val, 0] ∧ win1_11.index t = ![t.val, 0] ∧ win1_12.index t = ![0, 0] :=
  (by decide +kernel : ∀ t : Fin grid1.N, _)

/-- The scratch block the kernel stores them in. -/
abbrev scr : View sig .tc .vmem S512x5632 .bf16 := View.whole cc1_scratch0

/-- A block of the cotangents side by side, as the kernel stores it. -/
abbrev Pieces (c : Dev nD) (t : Fin cfg1.N) : List (View.Piece (Elt Ideal) S512x5632 .bf16) := [
    ⟨Rect.unit ![0, 4608] ![512, 1024] inb_S512x5632_S512x1024_0_4608, k1_pay11 (iblk1 V c 6 t)⟩,
    ⟨Rect.unit ![0, 3584] ![512, 1024] inb_S512x5632_S512x1024_0_3584, k1_pay10 (iblk1 V c 5 t)⟩,
    ⟨Rect.unit ![0, 3328] ![512, 256] inb_S512x5632_S512x256_0_3328, k1_pay9 (iblk1 V c 4 t)⟩,
    ⟨Rect.unit ![0, 3072] ![512, 256] inb_S512x5632_S512x256_0_3072, k1_pay8 (iblk1 V c 3 t)⟩,
    ⟨Rect.unit ![0, 2048] ![512, 1024] inb_S512x5632_S512x1024_0_2048, k1_pay7 (iblk1 V c 2 t)⟩,
    ⟨Rect.unit ![0, 1024] ![512, 1024] inb_S512x5632_S512x1024_0_1024, k1_pay6 (iblk1 V c 1 t)⟩,
    ⟨Rect.unit ![0, 0] ![512, 1024] inb_S512x5632_S512x1024_0_0, k1_pay5 (iblk1 V c 0 t)⟩]

set_option maxHeartbeats 1600000 in
/-- It holds the rows of the cotangents side by side. -/
theorem cat_at (c : Dev nD) (t : Fin cfg1.N) (y : S512x5632.Idx) (i : Cert.Reference2Ideal.S4096x5632.Idx) (h0 : (i 0 : ℕ) = t.val * 512 + (y 0 : ℕ)) (h1 : (i 1 : ℕ) = (y 1 : ℕ)) :
    View.canon (Pieces V c t) y = (Cat (Ext (V c main_arg4)) (Ext (V c main_arg5)) (Ext (V c main_arg6)) (Ext (V c main_arg7)) (Ext (V c main_arg8)) (Ext (V c main_arg9)) (Ext (V c main_arg10))) i := by
  unfold Pieces
  canon_tiles x h using (View.cover_of_tiledBy _ ![512, 256] (by sl_kernel_rfl) _)
  case piece0 =>
    have hi : (i 1 : ℕ) = 4608 + (x 1 : ℕ) := by omega
    pointwise [k1_pay11, Cat]
    rw [dif_neg (by omega), dif_neg (by omega), dif_neg (by omega), dif_neg (by omega), dif_neg (by omega), dif_neg (by omega)]
    blk_point [iblk1, idx1 t]
  case piece1 =>
    have hi : (i 1 : ℕ) = 3584 + (x 1 : ℕ) := by omega
    pointwise [k1_pay10, Cat]
    rw [dif_neg (by omega), dif_neg (by omega), dif_neg (by omega), dif_neg (by omega), dif_neg (by omega), dif_pos (by omega)]
    blk_point [iblk1, idx1 t]
  case piece2 =>
    have hi : (i 1 : ℕ) = 3328 + (x 1 : ℕ) := by omega
    pointwise [k1_pay9, Cat]
    rw [dif_neg (by omega), dif_neg (by omega), dif_neg (by omega), dif_neg (by omega), dif_pos (by omega)]
    blk_point [iblk1, idx1 t]
  case piece3 =>
    have hi : (i 1 : ℕ) = 3072 + (x 1 : ℕ) := by omega
    pointwise [k1_pay8, Cat]
    rw [dif_neg (by omega), dif_neg (by omega), dif_neg (by omega), dif_pos (by omega)]
    blk_point [iblk1, idx1 t]
  case piece4 =>
    have hi : (i 1 : ℕ) = 2048 + (x 1 : ℕ) := by omega
    pointwise [k1_pay7, Cat]
    rw [dif_neg (by omega), dif_neg (by omega), dif_pos (by omega)]
    blk_point [iblk1, idx1 t]
  case piece5 =>
    have hi : (i 1 : ℕ) = 1024 + (x 1 : ℕ) := by omega
    pointwise [k1_pay6, Cat]
    rw [dif_neg (by omega), dif_pos (by omega)]
    blk_point [iblk1, idx1 t]
  case piece6 =>
    have hi : (i 1 : ℕ) = 0 + (x 1 : ℕ) := by omega
    pointwise [k1_pay5, Cat]
    rw [dif_pos (by omega)]
    blk_point [iblk1, idx1 t]

/-- A load of a part of the stored block reads that part. -/
theorem part_at (c : Dev nD) (t : Fin cfg1.N) (r : Rect S512x5632) :
    scr.readCov (Pieces V c t) r.toLoadRect = View.ld (View.canon (Pieces V c t)) r := by
  rw [View.readCov_eq_canon']

/-- Four products over a quarter of the columns each, added up from zero, are the product over all of them. -/
theorem four_at (f : Fin 5632 → EReal) (a b c d : Fin 1408 → EReal)
    (ha : ∀ k : Fin 1408, a k = f ⟨k, by omega⟩) (hb : ∀ k : Fin 1408, b k = f ⟨1408 + k, by omega⟩)
    (hc : ∀ k : Fin 1408, c k = f ⟨2816 + k, by omega⟩) (hd : ∀ k : Fin 1408, d k = f ⟨4224 + k, by omega⟩) :
    ∑ k, a k + ∑ k, b k + ∑ k, c k + ∑ k, d k = ∑ l, f l := by
  rw [← Fin.sum_mul_add_fin 4 1408 f, Fin.sum_univ_four]
  congr 1
  · congr 1
    · congr 1
      · exact Finset.sum_congr rfl fun k _ => (ha k).trans (congrArg f (Fin.ext (by simp)))
      · exact Finset.sum_congr rfl fun k _ => (hb k).trans (congrArg f (Fin.ext (by simp)))
    · exact Finset.sum_congr rfl fun k _ => (hc k).trans (congrArg f (Fin.ext (by simp)))
  · exact Finset.sum_congr rfl fun k _ => (hd k).trans (congrArg f (Fin.ext (by simp)))

/-- The four column blocks, -/
abbrev r0 : Rect S512x5632 := Rect.unit ![0, 0] ![512, 1408] inb_S512x5632_S512x1408_0_0
abbrev r1 : Rect S512x5632 := Rect.unit ![0, 1408] ![512, 1408] inb_S512x5632_S512x1408_0_1408
abbrev r2 : Rect S512x5632 := Rect.unit ![0, 2816] ![512, 1408] inb_S512x5632_S512x1408_0_2816
abbrev r3 : Rect S512x5632 := Rect.unit ![0, 4224] ![512, 1408] inb_S512x5632_S512x1408_0_4224

/-- and a block's cotangent of the projection's input, as the kernel adds it up. -/
def dhK (c : Dev nD) (t : Fin cfg1.N) : FVec Ideal S512x1024 .f32 :=
  k1_pay12 (scr.readCov (Pieces V c t) (r0).toLoadRect) (View.ld (iblk1 V c 7 t) (Rect.unit ![0, 0, 0] ![1, 1024, 1408] inb_S4x1024x1408_S1x1024x1408_0_0_0))
    (scr.readCov (Pieces V c t) (r1).toLoadRect) (View.ld (iblk1 V c 7 t) (Rect.unit ![1, 0, 0] ![1, 1024, 1408] inb_S4x1024x1408_S1x1024x1408_1_0_0))
    (scr.readCov (Pieces V c t) (r2).toLoadRect) (View.ld (iblk1 V c 7 t) (Rect.unit ![2, 0, 0] ![1, 1024, 1408] inb_S4x1024x1408_S1x1024x1408_2_0_0))
    (scr.readCov (Pieces V c t) (r3).toLoadRect) (View.ld (iblk1 V c 7 t) (Rect.unit ![3, 0, 0] ![1, 1024, 1408] inb_S4x1024x1408_S1x1024x1408_3_0_0))

theorem dh_at (c : Dev nD) (t : Fin cfg1.N) (y : S512x1024.Idx) (i : S4096x1024.Idx) (h0 : (i 0 : ℕ) = t.val * 512 + (y 0 : ℕ)) (h1 : (i 1 : ℕ) = (y 1 : ℕ)) :
    dhK V c t y = (DH (Cat (Ext (V c main_arg4)) (Ext (V c main_arg5)) (Ext (V c main_arg6)) (Ext (V c main_arg7)) (Ext (V c main_arg8)) (Ext (V c main_arg9)) (Ext (V c main_arg10))) (FlatI (V c main_v2))) i := by
  unfold dhK
  simp only [part_at]
  generalize hU : View.canon (Pieces V c t) = U
  have hu : ∀ (y : S512x5632.Idx) (i : Cert.Reference2Ideal.S4096x5632.Idx), (i 0 : ℕ) = t.val * 512 + (y 0 : ℕ) → (i 1 : ℕ) = (y 1 : ℕ) → U y = (Cat (Ext (V c main_arg4)) (Ext (V c main_arg5)) (Ext (V c main_arg6)) (Ext (V c main_arg7)) (Ext (V c main_arg8)) (Ext (V c main_arg9)) (Ext (V c main_arg10))) i :=
    fun y i a b => by rw [← hU]; exact cat_at V c t y i a b
  pointwise [k1_pay12, DH, FlatI]
  try rw [zero_add]
  refine four_at _ _ _ _ _ (fun k => ?_) (fun k => ?_) (fun k => ?_) (fun k => ?_)
  all_goals refine Ideal.mul_congr (hu _ _ ?_ ?_) ?_
  all_goals first | (blk_simp [idx1 t]; omega) | (blk_point [iblk1, idx1 t]; done) | (blk_point [iblk1, idx1 t]; rfl)

/-- The residual stream's cotangent. -/
theorem out1_11 (c : Dev nD) : (dat1 V c).arrAt 11 cfg1.N = DX (V c main_arg3) (V c main_arg0) (Gn (DH (Cat (Ext (V c main_arg4)) (Ext (V c main_arg5)) (Ext (V c main_arg6)) (Ext (V c main_arg7)) (Ext (V c main_arg8)) (Ext (V c main_arg9)) (Ext (V c main_arg10))) (FlatI (V c main_v2))) (V c main_arg1)) := by
  refine (dat1 V c).arrAt_eq_of_covers 11 _ (by decide +kernel) fun t _ y => ?_
  blk_simp
  rw [after1_11]
  have h : (outsAt1 V c t.val t.isLt).1 y = k1_pay2 (dhK V c t) (iblk1 V c 8 t) (iblk1 V c 9 t) (iblk1 V c 10 t) y := by
    by_cases h0 : t.val % 8 = 0
    · rw [outsAt1_A V c t h0]; frame_out; all_goals rfl
    · rw [outsAt1_B V c t h0]; frame_out; all_goals rfl
  rw [h]; clear h
  have hd := dh_at V c t
  generalize dhK V c t = K at hd ⊢
  pointwise [k1_pay2, k1_pay1]
  refine dx_at _ _ _ _ _ _ _ _ _ (fun k => ?_) (fun k => ?_) ?_ ?_ ?_
  all_goals (try beta_reduce)
  · blk_point [iblk1, idx1 t]
  · pointwise [Gn]
    refine Ideal.mul_congr (hd _ _ ?_ rfl) ?_
    all_goals first | (blk_simp [idx1 t]; omega) | blk_point [iblk1, idx1 t]
  · blk_point [iblk1, idx1 t]
  · pointwise [Gn]
    refine Ideal.mul_congr (hd _ _ ?_ ?_) ?_
    all_goals first | (blk_simp [idx1 t]; omega) | blk_point [iblk1, idx1 t]
  · blk_point [iblk1, idx1 t]

/-- The gain's gradient, added up from zero. -/
theorem zero1 (j) : k1_pay4 (F := Ideal) j = 0 := by pointwise [k1_pay4]

theorem add1 (a x acc j) : k1_pay3 (F := Ideal) a x acc j = acc j + ∑ l : Fin 512, a (ix2 l (j 1)) * (x (ix2 l (j 1)) * k1_pay1 (F := Ideal) x (ix2 l 0)) := by
  pointwise [k1_pay3]

theorem out1_12 (c : Dev nD) : (dat1 V c).arrAt 12 cfg1.N = DGain (V c main_arg0) (DH (Cat (Ext (V c main_arg4)) (Ext (V c main_arg5)) (Ext (V c main_arg6)) (Ext (V c main_arg7)) (Ext (V c main_arg8)) (Ext (V c main_arg9)) (Ext (V c main_arg10))) (FlatI (V c main_v2))) := by
  refine (dat1 V c).arrAt_eq_of_after_last 12 t1_7 (by decide +kernel) _ fun j => ?_
  blk_simp
  rw [after1_12, Pipeline.eq_sum_fin_of_reset_step_apply_last (fun n h => (outsAt1 V c n h).2) 8 (fun _ => 0)
    (fun t j => ∑ l : Fin 512, (show EReal from dhK V c t (ix2 l (j 1))) * ((show EReal from iblk1 V c 8 t (ix2 l (j 1))) * (show EReal from k1_pay1 (iblk1 V c 8 t) (ix2 l 0))))
    (fun t h j => by beta_reduce; rw [outsAt1_A V c t h]; frame_out; rw [add1, zero1]; rfl)
    (fun t h j => by beta_reduce; rw [outsAt1_B V c t h]; frame_out; rw [add1]; rfl)
    (le_of_eq N_1) t1_7 rfl j, zero_add, DGain_at]
  refine Fin.sum_mul_add_congr fun t k hl => ?_
  have hd := dh_at V c t
  generalize dhK V c t = K at hd ⊢
  beta_reduce
  pointwise [k1_pay1]
  refine gain_at _ _ _ _ _ _ (fun k => ?_) ?_ (hd _ _ ?_ rfl)
  all_goals (try beta_reduce)
  all_goals first | (blk_simp [idx1 t]; omega) | blk_point [iblk1, idx1 t]

end Cert.StepInBack

end
-- ==== Proof.StepInChain.lean ====
/- The input projection's arrays, stage by stage: what the host prepares, and what each kernel finds and leaves. -/
module

public import proofs.«01_k».proof.Proof.Gen.Kernel2Ideal.Frame
public import proofs.«01_k».proof.Proof.StepInRef
public import proofs.«01_k».proof.Proof.StepInFwd
public import proofs.«01_k».proof.Proof.StepInBack
public import Idealize.ShloMosaic.Lib.Pipeline.ValueKit
public import Idealize.ShloMosaic.Lib.Claim

@[expose] public section

set_option maxRecDepth 16384

noncomputable section

namespace Cert.StepInChain

open Cert.Kernel2Ideal Cert.Kernel2Ideal.Gen Idealize.ShloMosaic Idealize.ShloMosaic.TcCoe Idealize.SL.Sem
open Idealize.ShloMosaic.Pipeline (Dat)
open Cert.StepRef (B Ext Nrm Xn Gn DX DGain)
open Cert.StepIn
open Cert.StepInRef (Args zed dh dx dg)

variable (m : (ℓ : Loc nD τ sig) → Buf (Elt Ideal) ℓ) (ρ : Dev nD → PrngReg) (c : Dev nD)

/-- The kernels' arguments. -/
def args : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩

/-- The weight the host cuts into column blocks. -/
theorem v2_1 : FlatI (V1 m ρ c main_v2) = (args m c).w := by
  have h : V1 m ρ c main_v2 = transpose S4x1024x1408 [1, 0, 2] (shapeCast _ (B (args m c).w) shapeCasts_S1024x5632_S1024x4x1408) transposes_S1024x4x1408_S4x1024x1408_1_0_2 := by
    unfold_abbrev_sides; after_results; try rfl
  rw [h]
  funext i
  pointwise [FlatI]

theorem v2_2 : FlatI (V2 m ρ c main_v2) = (args m c).w := (congrArg FlatI (W2_of m ρ c main_v2 (by decide))).trans (v2_1 m ρ c)

theorem a0_1 : V1 m ρ c main_arg0 = (args m c).x := W1_args m ρ c main_arg0 (by decide)

theorem a1_1 : V1 m ρ c main_arg1 = (args m c).g := W1_args m ρ c main_arg1 (by decide)

theorem a0_2 : V2 m ρ c main_arg0 = (args m c).x := W2_args m ρ c main_arg0 (by decide)

theorem a1_2 : V2 m ρ c main_arg1 = (args m c).g := W2_args m ρ c main_arg1 (by decide)

theorem a3_2 : V2 m ρ c main_arg3 = (args m c).d := W2_args m ρ c main_arg3 (by decide)

theorem a4_2 : V2 m ρ c main_arg4 = (args m c).p0 := W2_args m ρ c main_arg4 (by decide)

theorem a5_2 : V2 m ρ c main_arg5 = (args m c).p1 := W2_args m ρ c main_arg5 (by decide)

theorem a6_2 : V2 m ρ c main_arg6 = (args m c).p2 := W2_args m ρ c main_arg6 (by decide)

theorem a7_2 : V2 m ρ c main_arg7 = (args m c).p3 := W2_args m ρ c main_arg7 (by decide)

theorem a8_2 : V2 m ρ c main_arg8 = (args m c).p4 := W2_args m ρ c main_arg8 (by decide)

theorem a9_2 : V2 m ρ c main_arg9 = (args m c).p5 := W2_args m ρ c main_arg9 (by decide)

theorem a10_2 : V2 m ρ c main_arg10 = (args m c).p6 := W2_args m ρ c main_arg10 (by decide)

theorem v3_1 : V3 m ρ c main_v3_1 = C0 (zed (args m c)) := by
  refine (W3_of m ρ c main_v3_1 (by decide)).trans ((hF0 m ρ c 4).symm.trans ((Cert.StepInFwd.out0_4 (V1 m ρ) c).trans ?_))
  simp only [a0_1 m ρ c, a1_1 m ρ c, v2_1 m ρ c]; try rfl

theorem v3_2 : V3 m ρ c main_v3_2 = C1 (zed (args m c)) := by
  refine (W3_of m ρ c main_v3_2 (by decide)).trans ((hF0 m ρ c 5).symm.trans ((Cert.StepInFwd.out0_5 (V1 m ρ) c).trans ?_))
  simp only [a0_1 m ρ c, a1_1 m ρ c, v2_1 m ρ c]; try rfl

theorem v3_3 : V3 m ρ c main_v3_3 = C2 (zed (args m c)) := by
  refine (W3_of m ρ c main_v3_3 (by decide)).trans ((hF0 m ρ c 6).symm.trans ((Cert.StepInFwd.out0_6 (V1 m ρ) c).trans ?_))
  simp only [a0_1 m ρ c, a1_1 m ρ c, v2_1 m ρ c]; try rfl

theorem v3_4 : V3 m ρ c main_v3_4 = C3 (zed (args m c)) := by
  refine (W3_of m ρ c main_v3_4 (by decide)).trans ((hF0 m ρ c 7).symm.trans ((Cert.StepInFwd.out0_7 (V1 m ρ) c).trans ?_))
  simp only [a0_1 m ρ c, a1_1 m ρ c, v2_1 m ρ c]; try rfl

theorem v3_5 : V3 m ρ c main_v3_5 = C4 (zed (args m c)) := by
  refine (W3_of m ρ c main_v3_5 (by decide)).trans ((hF0 m ρ c 8).symm.trans ((Cert.StepInFwd.out0_8 (V1 m ρ) c).trans ?_))
  simp only [a0_1 m ρ c, a1_1 m ρ c, v2_1 m ρ c]; try rfl

theorem v3_6 : V3 m ρ c main_v3_6 = C5 (zed (args m c)) := by
  refine (W3_of m ρ c main_v3_6 (by decide)).trans ((hF0 m ρ c 9).symm.trans ((Cert.StepInFwd.out0_9 (V1 m ρ) c).trans ?_))
  simp only [a0_1 m ρ c, a1_1 m ρ c, v2_1 m ρ c]; try rfl

theorem v3_7 : V3 m ρ c main_v3_7 = C6 (zed (args m c)) := by
  refine (W3_of m ρ c main_v3_7 (by decide)).trans ((hF0 m ρ c 10).symm.trans ((Cert.StepInFwd.out0_10 (V1 m ρ) c).trans ?_))
  simp only [a0_1 m ρ c, a1_1 m ρ c, v2_1 m ρ c]; try rfl

theorem v4_0 : V3 m ρ c main_v4_0 = dx (args m c) := by
  refine (hF1 m ρ c 11).symm.trans ((Cert.StepInBack.out1_11 (V2 m ρ) c).trans ?_)
  simp only [a0_2 m ρ c, a1_2 m ρ c, a3_2 m ρ c, a4_2 m ρ c, a5_2 m ρ c, a6_2 m ρ c, a7_2 m ρ c, a8_2 m ρ c, a9_2 m ρ c, a10_2 m ρ c, v2_2 m ρ c]; try rfl

theorem v4_1 : V3 m ρ c main_v4_1 = dg (args m c) := by
  refine (hF1 m ρ c 12).symm.trans ((Cert.StepInBack.out1_12 (V2 m ρ) c).trans ?_)
  simp only [a0_2 m ρ c, a1_2 m ρ c, a3_2 m ρ c, a4_2 m ρ c, a5_2 m ρ c, a6_2 m ρ c, a7_2 m ρ c, a8_2 m ρ c, a9_2 m ρ c, a10_2 m ρ c, v2_2 m ρ c]; try rfl

end Cert.StepInChain

end
-- ==== Proof.StepInClaims.lean ====
/- The claims of the input projection: its reference leaves its arguments alone, and its kernels leave what the reference
   leaves. -/
module

public import proofs.«01_k».proof.Defs
public import proofs.«01_k».proof.Proof.StepInRef
public import proofs.«01_k».proof.Proof.StepInRun
public import proofs.«01_k».proof.Proof.StepInChain
public import Idealize.ShloMosaic.Lib.Claim
public import Idealize.ShloMosaic.Lib.Quiescent

@[expose] public section

set_option maxRecDepth 16384

noncomputable section

namespace Cert.StepInClaims

open Idealize.ShloMosaic Idealize.SL.Sem

/-- The reference runs to its end, leaves its arguments and every counter at zero. -/
theorem frame_ref : Cert.quiescent_Reference2Ideal := by
  intro m ρ _
  exact (θ_run Cert.Reference2Ideal.defs _ _).mono
    (fun r h => ⟨fun c => (h c).2.2.2.2.2.2.2.2.2, sem_eq_zero_of_no_sems (by decide) r.2⟩)
    (Cert.Reference2Ideal.Value.run (F := Ideal) m ρ)

/-- Equal arguments, one by one, are equal arguments. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) :
    Cert.StepInRef.args m' c = Cert.StepInChain.args m c := by
  obtain ⟨h0, h1, h2, h3, h4, h5, h6, h7, h8, h9, h10⟩ := h
  show Cert.StepInRef.Args.mk (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) = _
  rw [h0, h1, h2, h3, h4, h5, h6, h7, h8, h9, h10]
  rfl

/-- The kernels' results are the reference's. -/
theorem algebraic : algebraic_Kernel2Ideal_Reference2Ideal := by
  intro m g m' g' _ hagree
  refine ⟨fun c => Cert.StepIn.C0 (Cert.StepInRef.zed (Cert.StepInChain.args m c)), fun c => Cert.StepIn.C1 (Cert.StepInRef.zed (Cert.StepInChain.args m c)), fun c => Cert.StepIn.C2 (Cert.StepInRef.zed (Cert.StepInChain.args m c)), fun c => Cert.StepIn.C3 (Cert.StepInRef.zed (Cert.StepInChain.args m c)), fun c => Cert.StepIn.C4 (Cert.StepInRef.zed (Cert.StepInChain.args m c)), fun c => Cert.StepIn.C5 (Cert.StepInRef.zed (Cert.StepInChain.args m c)), fun c => Cert.StepIn.C6 (Cert.StepInRef.zed (Cert.StepInChain.args m c)), fun c => Cert.StepInRef.dx (Cert.StepInChain.args m c), fun c => Cert.StepInRef.dg (Cert.StepInChain.args m c),
    (θ_run Cert.Kernel2Ideal.defs _ _).mono (fun r h c => ?_) (Cert.StepInRun.run (F := Ideal) m g),
    (θ_run Cert.Reference2Ideal.defs _ _).mono (fun r h c => ?_) (Cert.StepInRef.run m' g')⟩
  · obtain ⟨h0, h1, h2, h3, h4, h5, h6, h7, h8, hargs⟩ := h c
    exact ⟨h0.trans (Cert.StepInChain.v3_1 m g c), h1.trans (Cert.StepInChain.v3_2 m g c), h2.trans (Cert.StepInChain.v3_3 m g c), h3.trans (Cert.StepInChain.v3_4 m g c), h4.trans (Cert.StepInChain.v3_5 m g c), h5.trans (Cert.StepInChain.v3_6 m g c), h6.trans (Cert.StepInChain.v3_7 m g c), h7.trans (Cert.StepInChain.v4_0 m g c), h8.trans (Cert.StepInChain.v4_1 m g c), hargs⟩
  · have e := args_eq m m' c (hagree c)
    obtain ⟨h0, h1, h2, h3, h4, h5, h6, h7, h8, hargs⟩ := h c
    exact ⟨h0.trans (congrArg (fun a => Cert.StepIn.C0 (Cert.StepInRef.zed a)) e), h1.trans (congrArg (fun a => Cert.StepIn.C1 (Cert.StepInRef.zed a)) e), h2.trans (congrArg (fun a => Cert.StepIn.C2 (Cert.StepInRef.zed a)) e), h3.trans (congrArg (fun a => Cert.StepIn.C3 (Cert.StepInRef.zed a)) e), h4.trans (congrArg (fun a => Cert.StepIn.C4 (Cert.StepInRef.zed a)) e), h5.trans (congrArg (fun a => Cert.StepIn.C5 (Cert.StepInRef.zed a)) e), h6.trans (congrArg (fun a => Cert.StepIn.C6 (Cert.StepInRef.zed a)) e), h7.trans (congrArg Cert.StepInRef.dx e), h8.trans (congrArg Cert.StepInRef.dg e), hargs⟩

end Cert.StepInClaims

end
-- ==== Proof.StepAdam.lean ====
/- The optimiser's step at one element: the two running means, and the change of the weight. The kernel multiplies by the
   reciprocals of the means' corrections where the reference divides by them. -/
module

public import proofs.«01_k».proof.Proof.StepScalar
public import Idealize.ShloMosaic.PureOps.IdealRules

@[expose] public section

noncomputable section

namespace Cert.StepAdam

open Idealize.ShloMosaic

/-- The running mean of the gradient, -/
def mom (g m : EReal) : EReal := Ideal.ofBits .f32 0x3F666666#32 * m + Ideal.ofBits .f32 0x3DCCCCCD#32 * g

/-- of its square, -/
def vel (g v : EReal) : EReal := Ideal.ofBits .f32 0x3F7FBE77#32 * v + Ideal.ofBits .f32 0x3A83126F#32 * (g * g)

/-- and the weight's change, from the corrected means, -/
def chg (w a b : EReal) : EReal :=
  Ideal.ofBits .f32 0xBA83126F#32 * (Ideal.div a (Ideal.sqrt b + Ideal.ofBits .f32 0x322BCC77#32) + Ideal.ofBits .f32 0x3C23D70A#32 * w)

/-- from the weight, the gradient and the old means. -/
def del (w g m v : EReal) : EReal :=
  chg w (Ideal.div (mom g m) (Ideal.ofBits .f32 0x3F26BD02#32)) (Ideal.div (vel g v) (Ideal.ofBits .f32 0x3C231ACC#32))

theorem cMean : Ideal.ofBits .f32 0x3F26BD02#32 = ((5463681 / 8388608 : ℝ) : EReal) := by
  simp [Ideal.ofBits, Ideal.ieee, -EReal.coe_mul]; norm_num

theorem cSquare : Ideal.ofBits .f32 0x3C231ACC#32 = ((2672307 / 268435456 : ℝ) : EReal) := by
  simp [Ideal.ofBits, Ideal.ieee, -EReal.coe_mul]; norm_num

/-- The weight's change with the reciprocals. -/
theorem del_mul (w g m v : EReal) :
    chg w (mom g m * ((8388608 / 5463681 : ℝ) : EReal)) (vel g v * ((268435456 / 2672307 : ℝ) : EReal)) = del w g m v := by
  unfold del
  rw [cMean, cSquare, Ideal.div_coe (by norm_num), Ideal.div_coe (by norm_num)]
  norm_num

variable {s : Shape}

/-- The same over an array. -/
def Mom (g m : FVec Ideal s .f32) : FVec Ideal s .f32 := fun i => mom (g i) (m i)
def Vel (g v : FVec Ideal s .f32) : FVec Ideal s .f32 := fun i => vel (g i) (v i)
def Del (w g m v : FVec Ideal s .f32) : FVec Ideal s .f32 := fun i => del (w i) (g i) (m i) (v i)

end Cert.StepAdam

end
-- ==== Proof.StepAdamRef.lean ====
/- The run of the optimiser's reference: the changes and the running means as terms of the arguments. -/
module

public import proofs.«01_k».proof.Proof.Gen.Reference3Ideal.Run
public import proofs.«01_k».proof.Proof.StepAdam

@[expose] public section

set_option maxRecDepth 16384

noncomputable section

namespace Cert.StepAdamRef

open Cert.Reference3Ideal Cert.Reference3Ideal.Gen Cert.Reference3Ideal.Value Idealize.ShloMosaic Idealize.ShloMosaic.TcCoe Idealize.SL.Sem
open Cert.StepAdam

set_option maxHeartbeats 4000000 in
/-- The run, its results at those terms. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = Del (m ((c.tc : Thread nD τ).loc main_arg0)) (m ((c.tc : Thread nD τ).loc main_arg8)) (m ((c.tc : Thread nD τ).loc main_arg16)) (m ((c.tc : Thread nD τ).loc main_arg24)) ∧
      r.2.mem ((c.tc : Thread nD τ).loc main_v47) = Del (m ((c.tc : Thread nD τ).loc main_arg1)) (m ((c.tc : Thread nD τ).loc main_arg9)) (m ((c.tc : Thread nD τ).loc main_arg17)) (m ((c.tc : Thread nD τ).loc main_arg25)) ∧
      r.2.mem ((c.tc : Thread nD τ).loc main_v71) = Del (m ((c.tc : Thread nD τ).loc main_arg2)) (m ((c.tc : Thread nD τ).loc main_arg10)) (m ((c.tc : Thread nD τ).loc main_arg18)) (m ((c.tc : Thread nD τ).loc main_arg26)) ∧
      r.2.mem ((c.tc : Thread nD τ).loc main_v95) = Del (m ((c.tc : Thread nD τ).loc main_arg3)) (m ((c.tc : Thread nD τ).loc main_arg11)) (m ((c.tc : Thread nD τ).loc main_arg19)) (m ((c.tc : Thread nD τ).loc main_arg27)) ∧
      r.2.mem ((c.tc : Thread nD τ).loc main_v119) = Del (m ((c.tc : Thread nD τ).loc main_arg4)) (m ((c.tc : Thread nD τ).loc main_arg12)) (m ((c.tc : Thread nD τ).loc main_arg20)) (m ((c.tc : Thread nD τ).loc main_arg28)) ∧
      r.2.mem ((c.tc : Thread nD τ).loc main_v143) = Del (m ((c.tc : Thread nD τ).loc main_arg5)) (m ((c.tc : Thread nD τ).loc main_arg13)) (m ((c.tc : Thread nD τ).loc main_arg21)) (m ((c.tc : Thread nD τ).loc main_arg29)) ∧
      r.2.mem ((c.tc : Thread nD τ).loc main_v167) = Del (m ((c.tc : Thread nD τ).loc main_arg6)) (m ((c.tc : Thread nD τ).loc main_arg14)) (m ((c.tc : Thread nD τ).loc main_arg22)) (m ((c.tc : Thread nD τ).loc main_arg30)) ∧
      r.2.mem ((c.tc : Thread nD τ).loc main_v191) = Del (m ((c.tc : Thread nD τ).loc main_arg7)) (m ((c.tc : Thread nD τ).loc main_arg15)) (m ((c.tc : Thread nD τ).loc main_arg23)) (m ((c.tc : Thread nD τ).loc main_arg31)) ∧
      r.2.mem ((c.tc : Thread nD τ).loc main_v4) = Mom (m ((c.tc : Thread nD τ).loc main_arg8)) (m ((c.tc : Thread nD τ).loc main_arg16)) ∧
      r.2.mem ((c.tc : Thread nD τ).loc main_v28) = Mom (m ((c.tc : Thread nD τ).loc main_arg9)) (m ((c.tc : Thread nD τ).loc main_arg17)) ∧
      r.2.mem ((c.tc : Thread nD τ).loc main_v52) = Mom (m ((c.tc : Thread nD τ).loc main_arg10)) (m ((c.tc : Thread nD τ).loc main_arg18)) ∧
      r.2.mem ((c.tc : Thread nD τ).loc main_v76) = Mom (m ((c.tc : Thread nD τ).loc main_arg11)) (m ((c.tc : Thread nD τ).loc main_arg19)) ∧
      r.2.mem ((c.tc : Thread nD τ).loc main_v100) = Mom (m ((c.tc : Thread nD τ).loc main_arg12)) (m ((c.tc : Thread nD τ).loc main_arg20)) ∧
      r.2.mem ((c.tc : Thread nD τ).loc main_v124) = Mom (m ((c.tc : Thread nD τ).loc main_arg13)) (m ((c.tc : Thread nD τ).loc main_arg21)) ∧
      r.2.mem ((c.tc : Thread nD τ).loc main_v148) = Mom (m ((c.tc : Thread nD τ).loc main_arg14)) (m ((c.tc : Thread nD τ).loc main_arg22)) ∧
      r.2.mem ((c.tc : Thread nD τ).loc main_v172) = Mom (m ((c.tc : Thread nD τ).loc main_arg15)) (m ((c.tc : Thread nD τ).loc main_arg23)) ∧
      r.2.mem ((c.tc : Thread nD τ).loc main_v10) = Vel (m ((c.tc : Thread nD τ).loc main_arg8)) (m ((c.tc : Thread nD τ).loc main_arg24)) ∧
      r.2.mem ((c.tc : Thread nD τ).loc main_v34) = Vel (m ((c.tc : Thread nD τ).loc main_arg9)) (m ((c.tc : Thread nD τ).loc main_arg25)) ∧
      r.2.mem ((c.tc : Thread nD τ).loc main_v58) = Vel (m ((c.tc : Thread nD τ).loc main_arg10)) (m ((c.tc : Thread nD τ).loc main_arg26)) ∧
      r.2.mem ((c.tc : Thread nD τ).loc main_v82) = Vel (m ((c.tc : Thread nD τ).loc main_arg11)) (m ((c.tc : Thread nD τ).loc main_arg27)) ∧
      r.2.mem ((c.tc : Thread nD τ).loc main_v106) = Vel (m ((c.tc : Thread nD τ).loc main_arg12)) (m ((c.tc : Thread nD τ).loc main_arg28)) ∧
      r.2.mem ((c.tc : Thread nD τ).loc main_v130) = Vel (m ((c.tc : Thread nD τ).loc main_arg13)) (m ((c.tc : Thread nD τ).loc main_arg29)) ∧
      r.2.mem ((c.tc : Thread nD τ).loc main_v154) = Vel (m ((c.tc : Thread nD τ).loc main_arg14)) (m ((c.tc : Thread nD τ).loc main_arg30)) ∧
      r.2.mem ((c.tc : Thread nD τ).loc main_v178) = Vel (m ((c.tc : Thread nD τ).loc main_arg15)) (m ((c.tc : Thread nD τ).loc main_arg31)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31)) := by
  refine (θ_run _ _ _).mono (fun r h c => ?_) (Cert.Reference3Ideal.Value.run (F := Ideal) m ρ)
  obtain ⟨h0, h1, h2, h3, h4, h5, h6, h7, h8, h9, h10, h11, h12, h13, h14, h15, h16, h17, h18, h19, h20, h21, h22, h23, hargs⟩ := h c
  exact ⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, h15.trans rfl, h16.trans rfl, h17.trans rfl, h18.trans rfl, h19.trans rfl, h20.trans rfl, h21.trans rfl, h22.trans rfl, h23.trans rfl, hargs⟩

end Cert.StepAdamRef

end
-- ==== Proof.StepAdamRun.lean ====
/- The big weights' optimiser, run kernel after kernel: what each result array holds at the end. -/
module

public import proofs.«01_k».proof.Proof.Gen.Kernel3Ideal.Frame

@[expose] public section

set_option maxRecDepth 16384
noncomputable section

namespace Cert.StepAdamRun

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
set_option maxHeartbeats 4000000 in
/-- The kernels' run: every result array ends at what the fold of the kernels' arrays holds, the arguments end as they began. -/
theorem run : θ_run defs (onTc (τ := τ) (main (F := F))) ⟨m, fun _ => 0, ρ⟩ (fun r => ∀ c : Dev nD,
      r.2.mem ((c.tc : Thread nD τ).loc main_v6) = W17 m ρ c main_v6 ∧
      r.2.mem ((c.tc : Thread nD τ).loc main_v15) = W17 m ρ c main_v15 ∧
      r.2.mem ((c.tc : Thread nD τ).loc main_v24) = W17 m ρ c main_v24 ∧
      r.2.mem ((c.tc : Thread nD τ).loc main_v33) = W17 m ρ c main_v33 ∧
      r.2.mem ((c.tc : Thread nD τ).loc main_v42) = W17 m ρ c main_v42 ∧
      r.2.mem ((c.tc : Thread nD τ).loc main_v51) = W17 m ρ c main_v51 ∧
      r.2.mem ((c.tc : Thread nD τ).loc main_v60) = W17 m ρ c main_v60 ∧
      r.2.mem ((c.tc : Thread nD τ).loc main_v69) = W17 m ρ c main_v69 ∧
      r.2.mem ((c.tc : Thread nD τ).loc main_v7) = W17 m ρ c main_v7 ∧
      r.2.mem ((c.tc : Thread nD τ).loc main_v16) = W17 m ρ c main_v16 ∧
      r.2.mem ((c.tc : Thread nD τ).loc main_v25) = W17 m ρ c main_v25 ∧
      r.2.mem ((c.tc : Thread nD τ).loc main_v34) = W17 m ρ c main_v34 ∧
      r.2.mem ((c.tc : Thread nD τ).loc main_v43) = W17 m ρ c main_v43 ∧
      r.2.mem ((c.tc : Thread nD τ).loc main_v52) = W17 m ρ c main_v52 ∧
      r.2.mem ((c.tc : Thread nD τ).loc main_v61) = W17 m ρ c main_v61 ∧
      r.2.mem ((c.tc : Thread nD τ).loc main_v70) = W17 m ρ c main_v70 ∧
      r.2.mem ((c.tc : Thread nD τ).loc main_v8) = W17 m ρ c main_v8 ∧
      r.2.mem ((c.tc : Thread nD τ).loc main_v17) = W17 m ρ c main_v17 ∧
      r.2.mem ((c.tc : Thread nD τ).loc main_v26) = W17 m ρ c main_v26 ∧
      r.2.mem ((c.tc : Thread nD τ).loc main_v35) = W17 m ρ c main_v35 ∧
      r.2.mem ((c.tc : Thread nD τ).loc main_v44) = W17 m ρ c main_v44 ∧
      r.2.mem ((c.tc : Thread nD τ).loc main_v53) = W17 m ρ c main_v53 ∧
      r.2.mem ((c.tc : Thread nD τ).loc main_v62) = W17 m ρ c main_v62 ∧
      r.2.mem ((c.tc : Thread nD τ).loc main_v71) = W17 m ρ c main_v71 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => fun c =>
      ⟨h c _ (mem_uc main_v6 (by decide)),
       h c _ (mem_uc main_v15 (by decide)),
       h c _ (mem_uc main_v24 (by decide)),
       h c _ (mem_uc main_v33 (by decide)),
       h c _ (mem_uc main_v42 (by decide)),
       h c _ (mem_uc main_v51 (by decide)),
       h c _ (mem_uc main_v60 (by decide)),
       h c _ (mem_uc main_v69 (by decide)),
       h c _ (mem_uc main_v7 (by decide)),
       h c _ (mem_uc main_v16 (by decide)),
       h c _ (mem_uc main_v25 (by decide)),
       h c _ (mem_uc main_v34 (by decide)),
       h c _ (mem_uc main_v43 (by decide)),
       h c _ (mem_uc main_v52 (by decide)),
       h c _ (mem_uc main_v61 (by decide)),
       h c _ (mem_uc main_v70 (by decide)),
       h c _ (mem_uc main_v8 (by decide)),
       h c _ (mem_uc main_v17 (by decide)),
       h c _ (mem_uc main_v26 (by decide)),
       h c _ (mem_uc main_v35 (by decide)),
       h c _ (mem_uc main_v44 (by decide)),
       h c _ (mem_uc main_v53 (by decide)),
       h c _ (mem_uc main_v62 (by decide)),
       h c _ (mem_uc main_v71 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c),
       (h c _ (mem_uc main_arg24 (by decide))).trans (W17_main_arg24 m ρ c),
       (h c _ (mem_uc main_arg25 (by decide))).trans (W17_main_arg25 m ρ c),
       (h c _ (mem_uc main_arg26 (by decide))).trans (W17_main_arg26 m ρ c),
       (h c _ (mem_uc main_arg27 (by decide))).trans (W17_main_arg27 m ρ c),
       (h c _ (mem_uc main_arg28 (by decide))).trans (W17_main_arg28 m ρ c),
       (h c _ (mem_uc main_arg29 (by decide))).trans (W17_main_arg29 m ρ c),
       (h c _ (mem_uc main_arg30 (by decide))).trans (W17_main_arg30 m ρ c),
       (h c _ (mem_uc main_arg31 (by decide))).trans (W17_main_arg31 m ρ c)⟩)

end Cert.StepAdamRun

end
-- ==== Proof.StepAdamBig0.lean ====
/- What one of the optimiser's kernels leaves: the change of a weight and its two running means. -/
module

public import proofs.«01_k».proof.Proof.Gen.Kernel3Ideal.Frame.Region0
public import proofs.«01_k».proof.Proof.StepAdam
public import Idealize.ShloMosaic.Lib.Pipeline.ValueKit

@[expose] public section

set_option maxRecDepth 16384

noncomputable section

namespace Cert.StepAdamBig0

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The change of the weight. -/
theorem chg_at (c : Dev nD) : (dat0 V c).arrAt 5 cfg0.N = Del (V c main_v0) (V c main_v1) (V c main_v2) (V c main_v3) := by
  refine (dat0 V c).arrAt_eq_of_covers 5 _ (by decide +kernel) fun t _ y => ?_
  blk_simp
  rw [after0_5]; frame_out
  unfold_payloads
  pointwise [Del]
  simp only [inv_m, inv_v]
  refine (del_mul _ _ _ _).trans ?_
  blk_point [iblk0, idx t]

/-- The running mean of the gradient. -/
theorem mom_at (c : Dev nD) : (dat0 V c).arrAt 6 cfg0.N = Mom (V c main_v1) (V c main_v2) := by
  refine (dat0 V c).arrAt_eq_of_covers 6 _ (by decide +kernel) fun t _ y => ?_
  blk_simp
  rw [after0_6]; frame_out
  unfold_payloads
  pointwise [Mom, mom]
  blk_point [iblk0, idx t]

/-- The running mean of its square. -/
theorem vel_at (c : Dev nD) : (dat0 V c).arrAt 7 cfg0.N = Vel (V c main_v1) (V c main_v3) := by
  refine (dat0 V c).arrAt_eq_of_covers 7 _ (by decide +kernel) fun t _ y => ?_
  blk_simp
  rw [after0_7]; frame_out
  unfold_payloads
  pointwise [Vel, vel]
  blk_point [iblk0, idx t]

end Cert.StepAdamBig0

end
-- ==== Proof.StepAdamChain0.lean ====
/- One big weight's optimiser: its arguments as the host lays them out, and its results as the host gives them back. -/
module

public import proofs.«01_k».proof.Proof.Gen.Kernel3Ideal.Frame
public import proofs.«01_k».proof.Proof.StepAdamBig0

@[expose] public section

set_option maxRecDepth 16384

noncomputable section

namespace Cert.StepAdamChain0

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V1 m ρ c main_v0 = shapeCast _ (m ((c : Thread nD τ).loc main_arg0)) shapeCasts_S1x1024x1408_S1024x1408 := by
  have h : V1 m ρ c main_v0 = shapeCast _ (W0 m ρ c (Proc.devRef .tc main_arg0)) shapeCasts_S1x1024x1408_S1024x1408 := by
    unfold_abbrev_sides; after_results; try rfl
  rw [h, W0_args m ρ c main_arg0 (by decide)]

theorem in1 : V1 m ρ c main_v1 = shapeCast _ (m ((c : Thread nD τ).loc main_arg8)) shapeCasts_S1x1024x1408_S1024x1408 := by
  have h : V1 m ρ c main_v1 = shapeCast _ (W0 m ρ c (Proc.devRef .tc main_arg8)) shapeCasts_S1x1024x1408_S1024x1408 := by
    unfold_abbrev_sides; after_results; try rfl
  rw [h, W0_args m ρ c main_arg8 (by decide)]

theorem in2 : V1 m ρ c main_v2 = shapeCast _ (m ((c : Thread nD τ).loc main_arg16)) shapeCasts_S1x1024x1408_S1024x1408 := by
  have h : V1 m ρ c main_v2 = shapeCast _ (W0 m ρ c (Proc.devRef .tc main_arg16)) shapeCasts_S1x1024x1408_S1024x1408 := by
    unfold_abbrev_sides; after_results; try rfl
  rw [h, W0_args m ρ c main_arg16 (by decide)]

theorem in3 : V1 m ρ c main_v3 = shapeCast _ (m ((c : Thread nD τ).loc main_arg24)) shapeCasts_S1x1024x1408_S1024x1408 := by
  have h : V1 m ρ c main_v3 = shapeCast _ (W0 m ρ c (Proc.devRef .tc main_arg24)) shapeCasts_S1x1024x1408_S1024x1408 := by
    unfold_abbrev_sides; after_results; try rfl
  rw [h, W0_args m ρ c main_arg24 (by decide)]

theorem chg_flat (w g u v : FVec Ideal S1x1024x1408 .f32) : shapeCast (s := S1024x1408) (α := Ideal .f32) S1x1024x1408 (Del (shapeCast S1024x1408 w shapeCasts_S1x1024x1408_S1024x1408) (shapeCast S1024x1408 g shapeCasts_S1x1024x1408_S1024x1408) (shapeCast S1024x1408 u shapeCasts_S1x1024x1408_S1024x1408) (shapeCast S1024x1408 v shapeCasts_S1x1024x1408_S1024x1408)) shapeCasts_S1024x1408_S1x1024x1408 = Del w g u v := by
  funext i
  pointwise [Del]

theorem chg_host : W3 m ρ c (Proc.devRef .tc main_v6) = shapeCast _ (W2 m ρ c (Proc.devRef .tc main_v4_1)) shapeCasts_S1024x1408_S1x1024x1408 := by
  unfold_abbrev_sides; after_results; try rfl

theorem chg_region : W2 m ρ c (Proc.devRef .tc main_v4_1) = Del (V1 m ρ c main_v0) (V1 m ρ c main_v1) (V1 m ρ c main_v2) (V1 m ρ c main_v3) :=
  (hF0 m ρ c 5).symm.trans (Cert.StepAdamBig0.chg_at (V1 m ρ) c)

theorem chg_keep : W17 m ρ c (Proc.devRef .tc main_v6) = W3 m ρ c (Proc.devRef .tc main_v6) :=
  (W17_of m ρ c main_v6 (by decide)).trans <| (W16_of m ρ c main_v6 (by decide +kernel)).trans <| (W15_of m ρ c main_v6 (by decide)).trans <| (W14_of m ρ c main_v6 (by decide +kernel)).trans <| (W13_of m ρ c main_v6 (by decide)).trans <| (W12_of m ρ c main_v6 (by decide +kernel)).trans <| (W11_of m ρ c main_v6 (by decide)).trans <| (W10_of m ρ c main_v6 (by decide +kernel)).trans <| (W9_of m ρ c main_v6 (by decide)).trans <| (W8_of m ρ c main_v6 (by decide +kernel)).trans <| (W7_of m ρ c main_v6 (by decide)).trans <| (W6_of m ρ c main_v6 (by decide +kernel)).trans <| (W5_of m ρ c main_v6 (by decide)).trans <| (W4_of m ρ c main_v6 (by decide +kernel)).trans <| rfl

/-- The change at the end. -/
theorem chg_end : W17 m ρ c (Proc.devRef .tc main_v6) = Del (m ((c : Thread nD τ).loc main_arg0)) (m ((c : Thread nD τ).loc main_arg8)) (m ((c : Thread nD τ).loc main_arg16)) (m ((c : Thread nD τ).loc main_arg24)) := by
  rw [chg_keep m ρ c, chg_host m ρ c, chg_region m ρ c, in0 m ρ c, in1 m ρ c, in2 m ρ c, in3 m ρ c]
  exact chg_flat _ _ _ _

theorem mom_flat (g u : FVec Ideal S1x1024x1408 .f32) : shapeCast (s := S1024x1408) (α := Ideal .f32) S1x1024x1408 (Mom (shapeCast S1024x1408 g shapeCasts_S1x1024x1408_S1024x1408) (shapeCast S1024x1408 u shapeCasts_S1x1024x1408_S1024x1408)) shapeCasts_S1024x1408_S1x1024x1408 = Mom g u := by
  funext i
  pointwise [Mom]

theorem mom_host : W3 m ρ c (Proc.devRef .tc main_v7) = shapeCast _ (W2 m ρ c (Proc.devRef .tc main_v4_2)) shapeCasts_S1024x1408_S1x1024x1408 := by
  unfold_abbrev_sides; after_results; try rfl

theorem mom_region : W2 m ρ c (Proc.devRef .tc main_v4_2) = Mom (V1 m ρ c main_v1) (V1 m ρ c main_v2) :=
  (hF0 m ρ c 6).symm.trans (Cert.StepAdamBig0.mom_at (V1 m ρ) c)

theorem mom_keep : W17 m ρ c (Proc.devRef .tc main_v7) = W3 m ρ c (Proc.devRef .tc main_v7) :=
  (W17_of m ρ c main_v7 (by decide)).trans <| (W16_of m ρ c main_v7 (by decide +kernel)).trans <| (W15_of m ρ c main_v7 (by decide)).trans <| (W14_of m ρ c main_v7 (by decide +kernel)).trans <| (W13_of m ρ c main_v7 (by decide)).trans <| (W12_of m ρ c main_v7 (by decide +kernel)).trans <| (W11_of m ρ c main_v7 (by decide)).trans <| (W10_of m ρ c main_v7 (by decide +kernel)).trans <| (W9_of m ρ c main_v7 (by decide)).trans <| (W8_of m ρ c main_v7 (by decide +kernel)).trans <| (W7_of m ρ c main_v7 (by decide)).trans <| (W6_of m ρ c main_v7 (by decide +kernel)).trans <| (W5_of m ρ c main_v7 (by decide)).trans <| (W4_of m ρ c main_v7 (by decide +kernel)).trans <| rfl

/-- The mean at the end. -/
theorem mom_end : W17 m ρ c (Proc.devRef .tc main_v7) = Mom (m ((c : Thread nD τ).loc main_arg8)) (m ((c : Thread nD τ).loc main_arg16)) := by
  rw [mom_keep m ρ c, mom_host m ρ c, mom_region m ρ c, in1 m ρ c, in2 m ρ c]
  exact mom_flat _ _

theorem vel_flat (g v : FVec Ideal S1x1024x1408 .f32) : shapeCast (s := S1024x1408) (α := Ideal .f32) S1x1024x1408 (Vel (shapeCast S1024x1408 g shapeCasts_S1x1024x1408_S1024x1408) (shapeCast S1024x1408 v shapeCasts_S1x1024x1408_S1024x1408)) shapeCasts_S1024x1408_S1x1024x1408 = Vel g v := by
  funext i
  pointwise [Vel]

theorem vel_host : W3 m ρ c (Proc.devRef .tc main_v8) = shapeCast _ (W2 m ρ c (Proc.devRef .tc main_v4_3)) shapeCasts_S1024x1408_S1x1024x1408 := by
  unfold_abbrev_sides; after_results; try rfl

theorem vel_region : W2 m ρ c (Proc.devRef .tc main_v4_3) = Vel (V1 m ρ c main_v1) (V1 m ρ c main_v3) :=
  (hF0 m ρ c 7).symm.trans (Cert.StepAdamBig0.vel_at (V1 m ρ) c)

theorem vel_keep : W17 m ρ c (Proc.devRef .tc main_v8) = W3 m ρ c (Proc.devRef .tc main_v8) :=
  (W17_of m ρ c main_v8 (by decide)).trans <| (W16_of m ρ c main_v8 (by decide +kernel)).trans <| (W15_of m ρ c main_v8 (by decide)).trans <| (W14_of m ρ c main_v8 (by decide +kernel)).trans <| (W13_of m ρ c main_v8 (by decide)).trans <| (W12_of m ρ c main_v8 (by decide +kernel)).trans <| (W11_of m ρ c main_v8 (by decide)).trans <| (W10_of m ρ c main_v8 (by decide +kernel)).trans <| (W9_of m ρ c main_v8 (by decide)).trans <| (W8_of m ρ c main_v8 (by decide +kernel)).trans <| (W7_of m ρ c main_v8 (by decide)).trans <| (W6_of m ρ c main_v8 (by decide +kernel)).trans <| (W5_of m ρ c main_v8 (by decide)).trans <| (W4_of m ρ c main_v8 (by decide +kernel)).trans <| rfl

/-- The square at the end. -/
theorem vel_end : W17 m ρ c (Proc.devRef .tc main_v8) = Vel (m ((c : Thread nD τ).loc main_arg8)) (m ((c : Thread nD τ).loc main_arg24)) := by
  rw [vel_keep m ρ c, vel_host m ρ c, vel_region m ρ c, in1 m ρ c, in3 m ρ c]
  exact vel_flat _ _

end Cert.StepAdamChain0

end
-- ==== Proof.StepAdamBig1.lean ====
/- What one of the optimiser's kernels leaves: the change of a weight and its two running means. -/
module

public import proofs.«01_k».proof.Proof.Gen.Kernel3Ideal.Frame.Region1
public import proofs.«01_k».proof.Proof.StepAdam
public import Idealize.ShloMosaic.Lib.Pipeline.ValueKit

@[expose] public section

set_option maxRecDepth 16384

noncomputable section

namespace Cert.StepAdamBig1

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] :=
  (by decide +kernel : ∀ t : Fin grid1.N, _)

/-- The change of the weight. -/
theorem chg_at (c : Dev nD) : (dat1 V c).arrAt 5 cfg1.N = Del (V c main_v9) (V c main_v10) (V c main_v11) (V c main_v12) := by
  refine (dat1 V c).arrAt_eq_of_covers 5 _ (by decide +kernel) fun t _ y => ?_
  blk_simp
  rw [after1_5]; frame_out
  unfold_payloads
  pointwise [Del]
  simp only [inv_m, inv_v]
  refine (del_mul _ _ _ _).trans ?_
  blk_point [iblk1, idx t]

/-- The running mean of the gradient. -/
theorem mom_at (c : Dev nD) : (dat1 V c).arrAt 6 cfg1.N = Mom (V c main_v10) (V c main_v11) := by
  refine (dat1 V c).arrAt_eq_of_covers 6 _ (by decide +kernel) fun t _ y => ?_
  blk_simp
  rw [after1_6]; frame_out
  unfold_payloads
  pointwise [Mom, mom]
  blk_point [iblk1, idx t]

/-- The running mean of its square. -/
theorem vel_at (c : Dev nD) : (dat1 V c).arrAt 7 cfg1.N = Vel (V c main_v10) (V c main_v12) := by
  refine (dat1 V c).arrAt_eq_of_covers 7 _ (by decide +kernel) fun t _ y => ?_
  blk_simp
  rw [after1_7]; frame_out
  unfold_payloads
  pointwise [Vel, vel]
  blk_point [iblk1, idx t]

end Cert.StepAdamBig1

end
-- ==== Proof.StepAdamChain1.lean ====
/- One big weight's optimiser: its arguments as the host lays them out, and its results as the host gives them back. -/
module

public import proofs.«01_k».proof.Proof.Gen.Kernel3Ideal.Frame
public import proofs.«01_k».proof.Proof.StepAdamBig1

@[expose] public section

set_option maxRecDepth 16384

noncomputable section

namespace Cert.StepAdamChain1

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V3 m ρ c main_v9 = shapeCast _ (m ((c : Thread nD τ).loc main_arg1)) shapeCasts_S1x256x1024_S256x1024 := by
  have h : V3 m ρ c main_v9 = shapeCast _ (W2 m ρ c (Proc.devRef .tc main_arg1)) shapeCasts_S1x256x1024_S256x1024 := by
    unfold_abbrev_sides; after_results; try rfl
  rw [h, W2_args m ρ c main_arg1 (by decide)]

theorem in1 : V3 m ρ c main_v10 = shapeCast _ (m ((c : Thread nD τ).loc main_arg9)) shapeCasts_S1x256x1024_S256x1024 := by
  have h : V3 m ρ c main_v10 = shapeCast _ (W2 m ρ c (Proc.devRef .tc main_arg9)) shapeCasts_S1x256x1024_S256x1024 := by
    unfold_abbrev_sides; after_results; try rfl
  rw [h, W2_args m ρ c main_arg9 (by decide)]

theorem in2 : V3 m ρ c main_v11 = shapeCast _ (m ((c : Thread nD τ).loc main_arg17)) shapeCasts_S1x256x1024_S256x1024 := by
  have h : V3 m ρ c main_v11 = shapeCast _ (W2 m ρ c (Proc.devRef .tc main_arg17)) shapeCasts_S1x256x1024_S256x1024 := by
    unfold_abbrev_sides; after_results; try rfl
  rw [h, W2_args m ρ c main_arg17 (by decide)]

theorem in3 : V3 m ρ c main_v12 = shapeCast _ (m ((c : Thread nD τ).loc main_arg25)) shapeCasts_S1x256x1024_S256x1024 := by
  have h : V3 m ρ c main_v12 = shapeCast _ (W2 m ρ c (Proc.devRef .tc main_arg25)) shapeCasts_S1x256x1024_S256x1024 := by
    unfold_abbrev_sides; after_results; try rfl
  rw [h, W2_args m ρ c main_arg25 (by decide)]

theorem chg_flat (w g u v : FVec Ideal S1x256x1024 .f32) : shapeCast (s := S256x1024) (α := Ideal .f32) S1x256x1024 (Del (shapeCast S256x1024 w shapeCasts_S1x256x1024_S256x1024) (shapeCast S256x1024 g shapeCasts_S1x256x1024_S256x1024) (shapeCast S256x1024 u shapeCasts_S1x256x1024_S256x1024) (shapeCast S256x1024 v shapeCasts_S1x256x1024_S256x1024)) shapeCasts_S256x1024_S1x256x1024 = Del w g u v := by
  funext i
  pointwise [Del]

theorem chg_host : W5 m ρ c (Proc.devRef .tc main_v15) = shapeCast _ (W4 m ρ c (Proc.devRef .tc main_v13_1)) shapeCasts_S256x1024_S1x256x1024 := by
  unfold_abbrev_sides; after_results; try rfl

theorem chg_region : W4 m ρ c (Proc.devRef .tc main_v13_1) = Del (V3 m ρ c main_v9) (V3 m ρ c main_v10) (V3 m ρ c main_v11) (V3 m ρ c main_v12) :=
  (hF1 m ρ c 5).symm.trans (Cert.StepAdamBig1.chg_at (V3 m ρ) c)

theorem chg_keep : W17 m ρ c (Proc.devRef .tc main_v15) = W5 m ρ c (Proc.devRef .tc main_v15) :=
  (W17_of m ρ c main_v15 (by decide)).trans <| (W16_of m ρ c main_v15 (by decide +kernel)).trans <| (W15_of m ρ c main_v15 (by decide)).trans <| (W14_of m ρ c main_v15 (by decide +kernel)).trans <| (W13_of m ρ c main_v15 (by decide)).trans <| (W12_of m ρ c main_v15 (by decide +kernel)).trans <| (W11_of m ρ c main_v15 (by decide)).trans <| (W10_of m ρ c main_v15 (by decide +kernel)).trans <| (W9_of m ρ c main_v15 (by decide)).trans <| (W8_of m ρ c main_v15 (by decide +kernel)).trans <| (W7_of m ρ c main_v15 (by decide)).trans <| (W6_of m ρ c main_v15 (by decide +kernel)).trans <| rfl

/-- The change at the end. -/
theorem chg_end : W17 m ρ c (Proc.devRef .tc main_v15) = Del (m ((c : Thread nD τ).loc main_arg1)) (m ((c : Thread nD τ).loc main_arg9)) (m ((c : Thread nD τ).loc main_arg17)) (m ((c : Thread nD τ).loc main_arg25)) := by
  rw [chg_keep m ρ c, chg_host m ρ c, chg_region m ρ c, in0 m ρ c, in1 m ρ c, in2 m ρ c, in3 m ρ c]
  exact chg_flat _ _ _ _

theorem mom_flat (g u : FVec Ideal S1x256x1024 .f32) : shapeCast (s := S256x1024) (α := Ideal .f32) S1x256x1024 (Mom (shapeCast S256x1024 g shapeCasts_S1x256x1024_S256x1024) (shapeCast S256x1024 u shapeCasts_S1x256x1024_S256x1024)) shapeCasts_S256x1024_S1x256x1024 = Mom g u := by
  funext i
  pointwise [Mom]

theorem mom_host : W5 m ρ c (Proc.devRef .tc main_v16) = shapeCast _ (W4 m ρ c (Proc.devRef .tc main_v13_2)) shapeCasts_S256x1024_S1x256x1024 := by
  unfold_abbrev_sides; after_results; try rfl

theorem mom_region : W4 m ρ c (Proc.devRef .tc main_v13_2) = Mom (V3 m ρ c main_v10) (V3 m ρ c main_v11) :=
  (hF1 m ρ c 6).symm.trans (Cert.StepAdamBig1.mom_at (V3 m ρ) c)

theorem mom_keep : W17 m ρ c (Proc.devRef .tc main_v16) = W5 m ρ c (Proc.devRef .tc main_v16) :=
  (W17_of m ρ c main_v16 (by decide)).trans <| (W16_of m ρ c main_v16 (by decide +kernel)).trans <| (W15_of m ρ c main_v16 (by decide)).trans <| (W14_of m ρ c main_v16 (by decide +kernel)).trans <| (W13_of m ρ c main_v16 (by decide)).trans <| (W12_of m ρ c main_v16 (by decide +kernel)).trans <| (W11_of m ρ c main_v16 (by decide)).trans <| (W10_of m ρ c main_v16 (by decide +kernel)).trans <| (W9_of m ρ c main_v16 (by decide)).trans <| (W8_of m ρ c main_v16 (by decide +kernel)).trans <| (W7_of m ρ c main_v16 (by decide)).trans <| (W6_of m ρ c main_v16 (by decide +kernel)).trans <| rfl

/-- The mean at the end. -/
theorem mom_end : W17 m ρ c (Proc.devRef .tc main_v16) = Mom (m ((c : Thread nD τ).loc main_arg9)) (m ((c : Thread nD τ).loc main_arg17)) := by
  rw [mom_keep m ρ c, mom_host m ρ c, mom_region m ρ c, in1 m ρ c, in2 m ρ c]
  exact mom_flat _ _

theorem vel_flat (g v : FVec Ideal S1x256x1024 .f32) : shapeCast (s := S256x1024) (α := Ideal .f32) S1x256x1024 (Vel (shapeCast S256x1024 g shapeCasts_S1x256x1024_S256x1024) (shapeCast S256x1024 v shapeCasts_S1x256x1024_S256x1024)) shapeCasts_S256x1024_S1x256x1024 = Vel g v := by
  funext i
  pointwise [Vel]

theorem vel_host : W5 m ρ c (Proc.devRef .tc main_v17) = shapeCast _ (W4 m ρ c (Proc.devRef .tc main_v13_3)) shapeCasts_S256x1024_S1x256x1024 := by
  unfold_abbrev_sides; after_results; try rfl

theorem vel_region : W4 m ρ c (Proc.devRef .tc main_v13_3) = Vel (V3 m ρ c main_v10) (V3 m ρ c main_v12) :=
  (hF1 m ρ c 7).symm.trans (Cert.StepAdamBig1.vel_at (V3 m ρ) c)

theorem vel_keep : W17 m ρ c (Proc.devRef .tc main_v17) = W5 m ρ c (Proc.devRef .tc main_v17) :=
  (W17_of m ρ c main_v17 (by decide)).trans <| (W16_of m ρ c main_v17 (by decide +kernel)).trans <| (W15_of m ρ c main_v17 (by decide)).trans <| (W14_of m ρ c main_v17 (by decide +kernel)).trans <| (W13_of m ρ c main_v17 (by decide)).trans <| (W12_of m ρ c main_v17 (by decide +kernel)).trans <| (W11_of m ρ c main_v17 (by decide)).trans <| (W10_of m ρ c main_v17 (by decide +kernel)).trans <| (W9_of m ρ c main_v17 (by decide)).trans <| (W8_of m ρ c main_v17 (by decide +kernel)).trans <| (W7_of m ρ c main_v17 (by decide)).trans <| (W6_of m ρ c main_v17 (by decide +kernel)).trans <| rfl

/-- The square at the end. -/
theorem vel_end : W17 m ρ c (Proc.devRef .tc main_v17) = Vel (m ((c : Thread nD τ).loc main_arg9)) (m ((c : Thread nD τ).loc main_arg25)) := by
  rw [vel_keep m ρ c, vel_host m ρ c, vel_region m ρ c, in1 m ρ c, in3 m ρ c]
  exact vel_flat _ _

end Cert.StepAdamChain1

end
-- ==== Proof.StepAdamBig2.lean ====
/- What one of the optimiser's kernels leaves: the change of a weight and its two running means. -/
module

public import proofs.«01_k».proof.Proof.Gen.Kernel3Ideal.Frame.Region2
public import proofs.«01_k».proof.Proof.StepAdam
public import Idealize.ShloMosaic.Lib.Pipeline.ValueKit

@[expose] public section

set_option maxRecDepth 16384

noncomputable section

namespace Cert.StepAdamBig2

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] :=
  (by decide +kernel : ∀ t : Fin grid2.N, _)

/-- The change of the weight. -/
theorem chg_at (c : Dev nD) : (dat2 V c).arrAt 5 cfg2.N = Del (V c main_v18) (V c main_v19) (V c main_v20) (V c main_v21) := by
  refine (dat2 V c).arrAt_eq_of_covers 5 _ (by decide +kernel) fun t _ y => ?_
  blk_simp
  rw [after2_5]; frame_out
  unfold_payloads
  pointwise [Del]
  simp only [inv_m, inv_v]
  refine (del_mul _ _ _ _).trans ?_
  blk_point [iblk2, idx t]

/-- The running mean of the gradient. -/
theorem mom_at (c : Dev nD) : (dat2 V c).arrAt 6 cfg2.N = Mom (V c main_v19) (V c main_v20) := by
  refine (dat2 V c).arrAt_eq_of_covers 6 _ (by decide +kernel) fun t _ y => ?_
  blk_simp
  rw [after2_6]; frame_out
  unfold_payloads
  pointwise [Mom, mom]
  blk_point [iblk2, idx t]

/-- The running mean of its square. -/
theorem vel_at (c : Dev nD) : (dat2 V c).arrAt 7 cfg2.N = Vel (V c main_v19) (V c main_v21) := by
  refine (dat2 V c).arrAt_eq_of_covers 7 _ (by decide +kernel) fun t _ y => ?_
  blk_simp
  rw [after2_7]; frame_out
  unfold_payloads
  pointwise [Vel, vel]
  blk_point [iblk2, idx t]

end Cert.StepAdamBig2

end
-- ==== Proof.StepAdamChain2.lean ====
/- One big weight's optimiser: its arguments as the host lays them out, and its results as the host gives them back. -/
module

public import proofs.«01_k».proof.Proof.Gen.Kernel3Ideal.Frame
public import proofs.«01_k».proof.Proof.StepAdamBig2

@[expose] public section

set_option maxRecDepth 16384

noncomputable section

namespace Cert.StepAdamChain2

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V5 m ρ c main_v18 = shapeCast _ (m ((c : Thread nD τ).loc main_arg2)) shapeCasts_S1x256x1024_S256x1024 := by
  have h : V5 m ρ c main_v18 = shapeCast _ (W4 m ρ c (Proc.devRef .tc main_arg2)) shapeCasts_S1x256x1024_S256x1024 := by
    unfold_abbrev_sides; after_results; try rfl
  rw [h, W4_args m ρ c main_arg2 (by decide)]

theorem in1 : V5 m ρ c main_v19 = shapeCast _ (m ((c : Thread nD τ).loc main_arg10)) shapeCasts_S1x256x1024_S256x1024 := by
  have h : V5 m ρ c main_v19 = shapeCast _ (W4 m ρ c (Proc.devRef .tc main_arg10)) shapeCasts_S1x256x1024_S256x1024 := by
    unfold_abbrev_sides; after_results; try rfl
  rw [h, W4_args m ρ c main_arg10 (by decide)]

theorem in2 : V5 m ρ c main_v20 = shapeCast _ (m ((c : Thread nD τ).loc main_arg18)) shapeCasts_S1x256x1024_S256x1024 := by
  have h : V5 m ρ c main_v20 = shapeCast _ (W4 m ρ c (Proc.devRef .tc main_arg18)) shapeCasts_S1x256x1024_S256x1024 := by
    unfold_abbrev_sides; after_results; try rfl
  rw [h, W4_args m ρ c main_arg18 (by decide)]

theorem in3 : V5 m ρ c main_v21 = shapeCast _ (m ((c : Thread nD τ).loc main_arg26)) shapeCasts_S1x256x1024_S256x1024 := by
  have h : V5 m ρ c main_v21 = shapeCast _ (W4 m ρ c (Proc.devRef .tc main_arg26)) shapeCasts_S1x256x1024_S256x1024 := by
    unfold_abbrev_sides; after_results; try rfl
  rw [h, W4_args m ρ c main_arg26 (by decide)]

theorem chg_flat (w g u v : FVec Ideal S1x256x1024 .f32) : shapeCast (s := S256x1024) (α := Ideal .f32) S1x256x1024 (Del (shapeCast S256x1024 w shapeCasts_S1x256x1024_S256x1024) (shapeCast S256x1024 g shapeCasts_S1x256x1024_S256x1024) (shapeCast S256x1024 u shapeCasts_S1x256x1024_S256x1024) (shapeCast S256x1024 v shapeCasts_S1x256x1024_S256x1024)) shapeCasts_S256x1024_S1x256x1024 = Del w g u v := by
  funext i
  pointwise [Del]

theorem chg_host : W7 m ρ c (Proc.devRef .tc main_v24) = shapeCast _ (W6 m ρ c (Proc.devRef .tc main_v22_1)) shapeCasts_S256x1024_S1x256x1024 := by
  unfold_abbrev_sides; after_results; try rfl

theorem chg_region : W6 m ρ c (Proc.devRef .tc main_v22_1) = Del (V5 m ρ c main_v18) (V5 m ρ c main_v19) (V5 m ρ c main_v20) (V5 m ρ c main_v21) :=
  (hF2 m ρ c 5).symm.trans (Cert.StepAdamBig2.chg_at (V5 m ρ) c)

theorem chg_keep : W17 m ρ c (Proc.devRef .tc main_v24) = W7 m ρ c (Proc.devRef .tc main_v24) :=
  (W17_of m ρ c main_v24 (by decide)).trans <| (W16_of m ρ c main_v24 (by decide +kernel)).trans <| (W15_of m ρ c main_v24 (by decide)).trans <| (W14_of m ρ c main_v24 (by decide +kernel)).trans <| (W13_of m ρ c main_v24 (by decide)).trans <| (W12_of m ρ c main_v24 (by decide +kernel)).trans <| (W11_of m ρ c main_v24 (by decide)).trans <| (W10_of m ρ c main_v24 (by decide +kernel)).trans <| (W9_of m ρ c main_v24 (by decide)).trans <| (W8_of m ρ c main_v24 (by decide +kernel)).trans <| rfl

/-- The change at the end. -/
theorem chg_end : W17 m ρ c (Proc.devRef .tc main_v24) = Del (m ((c : Thread nD τ).loc main_arg2)) (m ((c : Thread nD τ).loc main_arg10)) (m ((c : Thread nD τ).loc main_arg18)) (m ((c : Thread nD τ).loc main_arg26)) := by
  rw [chg_keep m ρ c, chg_host m ρ c, chg_region m ρ c, in0 m ρ c, in1 m ρ c, in2 m ρ c, in3 m ρ c]
  exact chg_flat _ _ _ _

theorem mom_flat (g u : FVec Ideal S1x256x1024 .f32) : shapeCast (s := S256x1024) (α := Ideal .f32) S1x256x1024 (Mom (shapeCast S256x1024 g shapeCasts_S1x256x1024_S256x1024) (shapeCast S256x1024 u shapeCasts_S1x256x1024_S256x1024)) shapeCasts_S256x1024_S1x256x1024 = Mom g u := by
  funext i
  pointwise [Mom]

theorem mom_host : W7 m ρ c (Proc.devRef .tc main_v25) = shapeCast _ (W6 m ρ c (Proc.devRef .tc main_v22_2)) shapeCasts_S256x1024_S1x256x1024 := by
  unfold_abbrev_sides; after_results; try rfl

theorem mom_region : W6 m ρ c (Proc.devRef .tc main_v22_2) = Mom (V5 m ρ c main_v19) (V5 m ρ c main_v20) :=
  (hF2 m ρ c 6).symm.trans (Cert.StepAdamBig2.mom_at (V5 m ρ) c)

theorem mom_keep : W17 m ρ c (Proc.devRef .tc main_v25) = W7 m ρ c (Proc.devRef .tc main_v25) :=
  (W17_of m ρ c main_v25 (by decide)).trans <| (W16_of m ρ c main_v25 (by decide +kernel)).trans <| (W15_of m ρ c main_v25 (by decide)).trans <| (W14_of m ρ c main_v25 (by decide +kernel)).trans <| (W13_of m ρ c main_v25 (by decide)).trans <| (W12_of m ρ c main_v25 (by decide +kernel)).trans <| (W11_of m ρ c main_v25 (by decide)).trans <| (W10_of m ρ c main_v25 (by decide +kernel)).trans <| (W9_of m ρ c main_v25 (by decide)).trans <| (W8_of m ρ c main_v25 (by decide +kernel)).trans <| rfl

/-- The mean at the end. -/
theorem mom_end : W17 m ρ c (Proc.devRef .tc main_v25) = Mom (m ((c : Thread nD τ).loc main_arg10)) (m ((c : Thread nD τ).loc main_arg18)) := by
  rw [mom_keep m ρ c, mom_host m ρ c, mom_region m ρ c, in1 m ρ c, in2 m ρ c]
  exact mom_flat _ _

theorem vel_flat (g v : FVec Ideal S1x256x1024 .f32) : shapeCast (s := S256x1024) (α := Ideal .f32) S1x256x1024 (Vel (shapeCast S256x1024 g shapeCasts_S1x256x1024_S256x1024) (shapeCast S256x1024 v shapeCasts_S1x256x1024_S256x1024)) shapeCasts_S256x1024_S1x256x1024 = Vel g v := by
  funext i
  pointwise [Vel]

theorem vel_host : W7 m ρ c (Proc.devRef .tc main_v26) = shapeCast _ (W6 m ρ c (Proc.devRef .tc main_v22_3)) shapeCasts_S256x1024_S1x256x1024 := by
  unfold_abbrev_sides; after_results; try rfl

theorem vel_region : W6 m ρ c (Proc.devRef .tc main_v22_3) = Vel (V5 m ρ c main_v19) (V5 m ρ c main_v21) :=
  (hF2 m ρ c 7).symm.trans (Cert.StepAdamBig2.vel_at (V5 m ρ) c)

theorem vel_keep : W17 m ρ c (Proc.devRef .tc main_v26) = W7 m ρ c (Proc.devRef .tc main_v26) :=
  (W17_of m ρ c main_v26 (by decide)).trans <| (W16_of m ρ c main_v26 (by decide +kernel)).trans <| (W15_of m ρ c main_v26 (by decide)).trans <| (W14_of m ρ c main_v26 (by decide +kernel)).trans <| (W13_of m ρ c main_v26 (by decide)).trans <| (W12_of m ρ c main_v26 (by decide +kernel)).trans <| (W11_of m ρ c main_v26 (by decide)).trans <| (W10_of m ρ c main_v26 (by decide +kernel)).trans <| (W9_of m ρ c main_v26 (by decide)).trans <| (W8_of m ρ c main_v26 (by decide +kernel)).trans <| rfl

/-- The square at the end. -/
theorem vel_end : W17 m ρ c (Proc.devRef .tc main_v26) = Vel (m ((c : Thread nD τ).loc main_arg10)) (m ((c : Thread nD τ).loc main_arg26)) := by
  rw [vel_keep m ρ c, vel_host m ρ c, vel_region m ρ c, in1 m ρ c, in3 m ρ c]
  exact vel_flat _ _

end Cert.StepAdamChain2

end
-- ==== Proof.StepAdamBig3.lean ====
/- What one of the optimiser's kernels leaves: the change of a weight and its two running means. -/
module

public import proofs.«01_k».proof.Proof.Gen.Kernel3Ideal.Frame.Region3
public import proofs.«01_k».proof.Proof.StepAdam
public import Idealize.ShloMosaic.Lib.Pipeline.ValueKit

@[expose] public section

set_option maxRecDepth 16384

noncomputable section

namespace Cert.StepAdamBig3

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] ∧ win3_7.index t = ![t.val, 0] :=
  (by decide +kernel : ∀ t : Fin grid3.N, _)

/-- The change of the weight. -/
theorem chg_at (c : Dev nD) : (dat3 V c).arrAt 5 cfg3.N = Del (V c main_v27) (V c main_v28) (V c main_v29) (V c main_v30) := by
  refine (dat3 V c).arrAt_eq_of_covers 5 _ (by decide +kernel) fun t _ y => ?_
  blk_simp
  rw [after3_5]; frame_out
  unfold_payloads
  pointwise [Del]
  simp only [inv_m, inv_v]
  refine (del_mul _ _ _ _).trans ?_
  blk_point [iblk3, idx t]

/-- The running mean of the gradient. -/
theorem mom_at (c : Dev nD) : (dat3 V c).arrAt 6 cfg3.N = Mom (V c main_v28) (V c main_v29) := by
  refine (dat3 V c).arrAt_eq_of_covers 6 _ (by decide +kernel) fun t _ y => ?_
  blk_simp
  rw [after3_6]; frame_out
  unfold_payloads
  pointwise [Mom, mom]
  blk_point [iblk3, idx t]

/-- The running mean of its square. -/
theorem vel_at (c : Dev nD) : (dat3 V c).arrAt 7 cfg3.N = Vel (V c main_v28) (V c main_v30) := by
  refine (dat3 V c).arrAt_eq_of_covers 7 _ (by decide +kernel) fun t _ y => ?_
  blk_simp
  rw [after3_7]; frame_out
  unfold_payloads
  pointwise [Vel, vel]
  blk_point [iblk3, idx t]

end Cert.StepAdamBig3

end
-- ==== Proof.StepAdamChain3.lean ====
/- One big weight's optimiser: its arguments as the host lays them out, and its results as the host gives them back. -/
module

public import proofs.«01_k».proof.Proof.Gen.Kernel3Ideal.Frame
public import proofs.«01_k».proof.Proof.StepAdamBig3

@[expose] public section

set_option maxRecDepth 16384

noncomputable section

namespace Cert.StepAdamChain3

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V7 m ρ c main_v27 = shapeCast _ (m ((c : Thread nD τ).loc main_arg3)) shapeCasts_S1x256x1024_S256x1024 := by
  have h : V7 m ρ c main_v27 = shapeCast _ (W6 m ρ c (Proc.devRef .tc main_arg3)) shapeCasts_S1x256x1024_S256x1024 := by
    unfold_abbrev_sides; after_results; try rfl
  rw [h, W6_args m ρ c main_arg3 (by decide)]

theorem in1 : V7 m ρ c main_v28 = shapeCast _ (m ((c : Thread nD τ).loc main_arg11)) shapeCasts_S1x256x1024_S256x1024 := by
  have h : V7 m ρ c main_v28 = shapeCast _ (W6 m ρ c (Proc.devRef .tc main_arg11)) shapeCasts_S1x256x1024_S256x1024 := by
    unfold_abbrev_sides; after_results; try rfl
  rw [h, W6_args m ρ c main_arg11 (by decide)]

theorem in2 : V7 m ρ c main_v29 = shapeCast _ (m ((c : Thread nD τ).loc main_arg19)) shapeCasts_S1x256x1024_S256x1024 := by
  have h : V7 m ρ c main_v29 = shapeCast _ (W6 m ρ c (Proc.devRef .tc main_arg19)) shapeCasts_S1x256x1024_S256x1024 := by
    unfold_abbrev_sides; after_results; try rfl
  rw [h, W6_args m ρ c main_arg19 (by decide)]

theorem in3 : V7 m ρ c main_v30 = shapeCast _ (m ((c : Thread nD τ).loc main_arg27)) shapeCasts_S1x256x1024_S256x1024 := by
  have h : V7 m ρ c main_v30 = shapeCast _ (W6 m ρ c (Proc.devRef .tc main_arg27)) shapeCasts_S1x256x1024_S256x1024 := by
    unfold_abbrev_sides; after_results; try rfl
  rw [h, W6_args m ρ c main_arg27 (by decide)]

theorem chg_flat (w g u v : FVec Ideal S1x256x1024 .f32) : shapeCast (s := S256x1024) (α := Ideal .f32) S1x256x1024 (Del (shapeCast S256x1024 w shapeCasts_S1x256x1024_S256x1024) (shapeCast S256x1024 g shapeCasts_S1x256x1024_S256x1024) (shapeCast S256x1024 u shapeCasts_S1x256x1024_S256x1024) (shapeCast S256x1024 v shapeCasts_S1x256x1024_S256x1024)) shapeCasts_S256x1024_S1x256x1024 = Del w g u v := by
  funext i
  pointwise [Del]

theorem chg_host : W9 m ρ c (Proc.devRef .tc main_v33) = shapeCast _ (W8 m ρ c (Proc.devRef .tc main_v31_1)) shapeCasts_S256x1024_S1x256x1024 := by
  unfold_abbrev_sides; after_results; try rfl

theorem chg_region : W8 m ρ c (Proc.devRef .tc main_v31_1) = Del (V7 m ρ c main_v27) (V7 m ρ c main_v28) (V7 m ρ c main_v29) (V7 m ρ c main_v30) :=
  (hF3 m ρ c 5).symm.trans (Cert.StepAdamBig3.chg_at (V7 m ρ) c)

theorem chg_keep : W17 m ρ c (Proc.devRef .tc main_v33) = W9 m ρ c (Proc.devRef .tc main_v33) :=
  (W17_of m ρ c main_v33 (by decide)).trans <| (W16_of m ρ c main_v33 (by decide +kernel)).trans <| (W15_of m ρ c main_v33 (by decide)).trans <| (W14_of m ρ c main_v33 (by decide +kernel)).trans <| (W13_of m ρ c main_v33 (by decide)).trans <| (W12_of m ρ c main_v33 (by decide +kernel)).trans <| (W11_of m ρ c main_v33 (by decide)).trans <| (W10_of m ρ c main_v33 (by decide +kernel)).trans <| rfl

/-- The change at the end. -/
theorem chg_end : W17 m ρ c (Proc.devRef .tc main_v33) = Del (m ((c : Thread nD τ).loc main_arg3)) (m ((c : Thread nD τ).loc main_arg11)) (m ((c : Thread nD τ).loc main_arg19)) (m ((c : Thread nD τ).loc main_arg27)) := by
  rw [chg_keep m ρ c, chg_host m ρ c, chg_region m ρ c, in0 m ρ c, in1 m ρ c, in2 m ρ c, in3 m ρ c]
  exact chg_flat _ _ _ _

theorem mom_flat (g u : FVec Ideal S1x256x1024 .f32) : shapeCast (s := S256x1024) (α := Ideal .f32) S1x256x1024 (Mom (shapeCast S256x1024 g shapeCasts_S1x256x1024_S256x1024) (shapeCast S256x1024 u shapeCasts_S1x256x1024_S256x1024)) shapeCasts_S256x1024_S1x256x1024 = Mom g u := by
  funext i
  pointwise [Mom]

theorem mom_host : W9 m ρ c (Proc.devRef .tc main_v34) = shapeCast _ (W8 m ρ c (Proc.devRef .tc main_v31_2)) shapeCasts_S256x1024_S1x256x1024 := by
  unfold_abbrev_sides; after_results; try rfl

theorem mom_region : W8 m ρ c (Proc.devRef .tc main_v31_2) = Mom (V7 m ρ c main_v28) (V7 m ρ c main_v29) :=
  (hF3 m ρ c 6).symm.trans (Cert.StepAdamBig3.mom_at (V7 m ρ) c)

theorem mom_keep : W17 m ρ c (Proc.devRef .tc main_v34) = W9 m ρ c (Proc.devRef .tc main_v34) :=
  (W17_of m ρ c main_v34 (by decide)).trans <| (W16_of m ρ c main_v34 (by decide +kernel)).trans <| (W15_of m ρ c main_v34 (by decide)).trans <| (W14_of m ρ c main_v34 (by decide +kernel)).trans <| (W13_of m ρ c main_v34 (by decide)).trans <| (W12_of m ρ c main_v34 (by decide +kernel)).trans <| (W11_of m ρ c main_v34 (by decide)).trans <| (W10_of m ρ c main_v34 (by decide +kernel)).trans <| rfl

/-- The mean at the end. -/
theorem mom_end : W17 m ρ c (Proc.devRef .tc main_v34) = Mom (m ((c : Thread nD τ).loc main_arg11)) (m ((c : Thread nD τ).loc main_arg19)) := by
  rw [mom_keep m ρ c, mom_host m ρ c, mom_region m ρ c, in1 m ρ c, in2 m ρ c]
  exact mom_flat _ _

theorem vel_flat (g v : FVec Ideal S1x256x1024 .f32) : shapeCast (s := S256x1024) (α := Ideal .f32) S1x256x1024 (Vel (shapeCast S256x1024 g shapeCasts_S1x256x1024_S256x1024) (shapeCast S256x1024 v shapeCasts_S1x256x1024_S256x1024)) shapeCasts_S256x1024_S1x256x1024 = Vel g v := by
  funext i
  pointwise [Vel]

theorem vel_host : W9 m ρ c (Proc.devRef .tc main_v35) = shapeCast _ (W8 m ρ c (Proc.devRef .tc main_v31_3)) shapeCasts_S256x1024_S1x256x1024 := by
  unfold_abbrev_sides; after_results; try rfl

theorem vel_region : W8 m ρ c (Proc.devRef .tc main_v31_3) = Vel (V7 m ρ c main_v28) (V7 m ρ c main_v30) :=
  (hF3 m ρ c 7).symm.trans (Cert.StepAdamBig3.vel_at (V7 m ρ) c)

theorem vel_keep : W17 m ρ c (Proc.devRef .tc main_v35) = W9 m ρ c (Proc.devRef .tc main_v35) :=
  (W17_of m ρ c main_v35 (by decide)).trans <| (W16_of m ρ c main_v35 (by decide +kernel)).trans <| (W15_of m ρ c main_v35 (by decide)).trans <| (W14_of m ρ c main_v35 (by decide +kernel)).trans <| (W13_of m ρ c main_v35 (by decide)).trans <| (W12_of m ρ c main_v35 (by decide +kernel)).trans <| (W11_of m ρ c main_v35 (by decide)).trans <| (W10_of m ρ c main_v35 (by decide +kernel)).trans <| rfl

/-- The square at the end. -/
theorem vel_end : W17 m ρ c (Proc.devRef .tc main_v35) = Vel (m ((c : Thread nD τ).loc main_arg11)) (m ((c : Thread nD τ).loc main_arg27)) := by
  rw [vel_keep m ρ c, vel_host m ρ c, vel_region m ρ c, in1 m ρ c, in3 m ρ c]
  exact vel_flat _ _

end Cert.StepAdamChain3

end
-- ==== Proof.StepAdamBig4.lean ====
/- What one of the optimiser's kernels leaves: the change of a weight and its two running means. -/
module

public import proofs.«01_k».proof.Proof.Gen.Kernel3Ideal.Frame.Region4
public import proofs.«01_k».proof.Proof.StepAdam
public import Idealize.ShloMosaic.Lib.Pipeline.ValueKit

@[expose] public section

set_option maxRecDepth 16384

noncomputable section

namespace Cert.StepAdamBig4

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] :=
  (by decide +kernel : ∀ t : Fin grid4.N, _)

/-- The change of the weight. -/
theorem chg_at (c : Dev nD) : (dat4 V c).arrAt 5 cfg4.N = Del (V c main_v36) (V c main_v37) (V c main_v38) (V c main_v39) := by
  refine (dat4 V c).arrAt_eq_of_covers 5 _ (by decide +kernel) fun t _ y => ?_
  blk_simp
  rw [after4_5]; frame_out
  unfold_payloads
  pointwise [Del]
  simp only [inv_m, inv_v]
  refine (del_mul _ _ _ _).trans ?_
  blk_point [iblk4, idx t]

/-- The running mean of the gradient. -/
theorem mom_at (c : Dev nD) : (dat4 V c).arrAt 6 cfg4.N = Mom (V c main_v37) (V c main_v38) := by
  refine (dat4 V c).arrAt_eq_of_covers 6 _ (by decide +kernel) fun t _ y => ?_
  blk_simp
  rw [after4_6]; frame_out
  unfold_payloads
  pointwise [Mom, mom]
  blk_point [iblk4, idx t]

/-- The running mean of its square. -/
theorem vel_at (c : Dev nD) : (dat4 V c).arrAt 7 cfg4.N = Vel (V c main_v37) (V c main_v39) := by
  refine (dat4 V c).arrAt_eq_of_covers 7 _ (by decide +kernel) fun t _ y => ?_
  blk_simp
  rw [after4_7]; frame_out
  unfold_payloads
  pointwise [Vel, vel]
  blk_point [iblk4, idx t]

end Cert.StepAdamBig4

end
-- ==== Proof.StepAdamChain4.lean ====
/- One big weight's optimiser: its arguments as the host lays them out, and its results as the host gives them back. -/
module

public import proofs.«01_k».proof.Proof.Gen.Kernel3Ideal.Frame
public import proofs.«01_k».proof.Proof.StepAdamBig4

@[expose] public section

set_option maxRecDepth 16384

noncomputable section

namespace Cert.StepAdamChain4

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V9 m ρ c main_v36 = shapeCast _ (m ((c : Thread nD τ).loc main_arg4)) shapeCasts_S1x1024x1024_S1024x1024 := by
  have h : V9 m ρ c main_v36 = shapeCast _ (W8 m ρ c (Proc.devRef .tc main_arg4)) shapeCasts_S1x1024x1024_S1024x1024 := by
    unfold_abbrev_sides; after_results; try rfl
  rw [h, W8_args m ρ c main_arg4 (by decide)]

theorem in1 : V9 m ρ c main_v37 = shapeCast _ (m ((c : Thread nD τ).loc main_arg12)) shapeCasts_S1x1024x1024_S1024x1024 := by
  have h : V9 m ρ c main_v37 = shapeCast _ (W8 m ρ c (Proc.devRef .tc main_arg12)) shapeCasts_S1x1024x1024_S1024x1024 := by
    unfold_abbrev_sides; after_results; try rfl
  rw [h, W8_args m ρ c main_arg12 (by decide)]

theorem in2 : V9 m ρ c main_v38 = shapeCast _ (m ((c : Thread nD τ).loc main_arg20)) shapeCasts_S1x1024x1024_S1024x1024 := by
  have h : V9 m ρ c main_v38 = shapeCast _ (W8 m ρ c (Proc.devRef .tc main_arg20)) shapeCasts_S1x1024x1024_S1024x1024 := by
    unfold_abbrev_sides; after_results; try rfl
  rw [h, W8_args m ρ c main_arg20 (by decide)]

theorem in3 : V9 m ρ c main_v39 = shapeCast _ (m ((c : Thread nD τ).loc main_arg28)) shapeCasts_S1x1024x1024_S1024x1024 := by
  have h : V9 m ρ c main_v39 = shapeCast _ (W8 m ρ c (Proc.devRef .tc main_arg28)) shapeCasts_S1x1024x1024_S1024x1024 := by
    unfold_abbrev_sides; after_results; try rfl
  rw [h, W8_args m ρ c main_arg28 (by decide)]

theorem chg_flat (w g u v : FVec Ideal S1x1024x1024 .f32) : shapeCast (s := S1024x1024) (α := Ideal .f32) S1x1024x1024 (Del (shapeCast S1024x1024 w shapeCasts_S1x1024x1024_S1024x1024) (shapeCast S1024x1024 g shapeCasts_S1x1024x1024_S1024x1024) (shapeCast S1024x1024 u shapeCasts_S1x1024x1024_S1024x1024) (shapeCast S1024x1024 v shapeCasts_S1x1024x1024_S1024x1024)) shapeCasts_S1024x1024_S1x1024x1024 = Del w g u v := by
  funext i
  pointwise [Del]

theorem chg_host : W11 m ρ c (Proc.devRef .tc main_v42) = shapeCast _ (W10 m ρ c (Proc.devRef .tc main_v40_1)) shapeCasts_S1024x1024_S1x1024x1024 := by
  unfold_abbrev_sides; after_results; try rfl

theorem chg_region : W10 m ρ c (Proc.devRef .tc main_v40_1) = Del (V9 m ρ c main_v36) (V9 m ρ c main_v37) (V9 m ρ c main_v38) (V9 m ρ c main_v39) :=
  (hF4 m ρ c 5).symm.trans (Cert.StepAdamBig4.chg_at (V9 m ρ) c)

theorem chg_keep : W17 m ρ c (Proc.devRef .tc main_v42) = W11 m ρ c (Proc.devRef .tc main_v42) :=
  (W17_of m ρ c main_v42 (by decide)).trans <| (W16_of m ρ c main_v42 (by decide +kernel)).trans <| (W15_of m ρ c main_v42 (by decide)).trans <| (W14_of m ρ c main_v42 (by decide +kernel)).trans <| (W13_of m ρ c main_v42 (by decide)).trans <| (W12_of m ρ c main_v42 (by decide +kernel)).trans <| rfl

/-- The change at the end. -/
theorem chg_end : W17 m ρ c (Proc.devRef .tc main_v42) = Del (m ((c : Thread nD τ).loc main_arg4)) (m ((c : Thread nD τ).loc main_arg12)) (m ((c : Thread nD τ).loc main_arg20)) (m ((c : Thread nD τ).loc main_arg28)) := by
  rw [chg_keep m ρ c, chg_host m ρ c, chg_region m ρ c, in0 m ρ c, in1 m ρ c, in2 m ρ c, in3 m ρ c]
  exact chg_flat _ _ _ _

theorem mom_flat (g u : FVec Ideal S1x1024x1024 .f32) : shapeCast (s := S1024x1024) (α := Ideal .f32) S1x1024x1024 (Mom (shapeCast S1024x1024 g shapeCasts_S1x1024x1024_S1024x1024) (shapeCast S1024x1024 u shapeCasts_S1x1024x1024_S1024x1024)) shapeCasts_S1024x1024_S1x1024x1024 = Mom g u := by
  funext i
  pointwise [Mom]

theorem mom_host : W11 m ρ c (Proc.devRef .tc main_v43) = shapeCast _ (W10 m ρ c (Proc.devRef .tc main_v40_2)) shapeCasts_S1024x1024_S1x1024x1024 := by
  unfold_abbrev_sides; after_results; try rfl

theorem mom_region : W10 m ρ c (Proc.devRef .tc main_v40_2) = Mom (V9 m ρ c main_v37) (V9 m ρ c main_v38) :=
  (hF4 m ρ c 6).symm.trans (Cert.StepAdamBig4.mom_at (V9 m ρ) c)

theorem mom_keep : W17 m ρ c (Proc.devRef .tc main_v43) = W11 m ρ c (Proc.devRef .tc main_v43) :=
  (W17_of m ρ c main_v43 (by decide)).trans <| (W16_of m ρ c main_v43 (by decide +kernel)).trans <| (W15_of m ρ c main_v43 (by decide)).trans <| (W14_of m ρ c main_v43 (by decide +kernel)).trans <| (W13_of m ρ c main_v43 (by decide)).trans <| (W12_of m ρ c main_v43 (by decide +kernel)).trans <| rfl

/-- The mean at the end. -/
theorem mom_end : W17 m ρ c (Proc.devRef .tc main_v43) = Mom (m ((c : Thread nD τ).loc main_arg12)) (m ((c : Thread nD τ).loc main_arg20)) := by
  rw [mom_keep m ρ c, mom_host m ρ c, mom_region m ρ c, in1 m ρ c, in2 m ρ c]
  exact mom_flat _ _

theorem vel_flat (g v : FVec Ideal S1x1024x1024 .f32) : shapeCast (s := S1024x1024) (α := Ideal .f32) S1x1024x1024 (Vel (shapeCast S1024x1024 g shapeCasts_S1x1024x1024_S1024x1024) (shapeCast S1024x1024 v shapeCasts_S1x1024x1024_S1024x1024)) shapeCasts_S1024x1024_S1x1024x1024 = Vel g v := by
  funext i
  pointwise [Vel]

theorem vel_host : W11 m ρ c (Proc.devRef .tc main_v44) = shapeCast _ (W10 m ρ c (Proc.devRef .tc main_v40_3)) shapeCasts_S1024x1024_S1x1024x1024 := by
  unfold_abbrev_sides; after_results; try rfl

theorem vel_region : W10 m ρ c (Proc.devRef .tc main_v40_3) = Vel (V9 m ρ c main_v37) (V9 m ρ c main_v39) :=
  (hF4 m ρ c 7).symm.trans (Cert.StepAdamBig4.vel_at (V9 m ρ) c)

theorem vel_keep : W17 m ρ c (Proc.devRef .tc main_v44) = W11 m ρ c (Proc.devRef .tc main_v44) :=
  (W17_of m ρ c main_v44 (by decide)).trans <| (W16_of m ρ c main_v44 (by decide +kernel)).trans <| (W15_of m ρ c main_v44 (by decide)).trans <| (W14_of m ρ c main_v44 (by decide +kernel)).trans <| (W13_of m ρ c main_v44 (by decide)).trans <| (W12_of m ρ c main_v44 (by decide +kernel)).trans <| rfl

/-- The square at the end. -/
theorem vel_end : W17 m ρ c (Proc.devRef .tc main_v44) = Vel (m ((c : Thread nD τ).loc main_arg12)) (m ((c : Thread nD τ).loc main_arg28)) := by
  rw [vel_keep m ρ c, vel_host m ρ c, vel_region m ρ c, in1 m ρ c, in3 m ρ c]
  exact vel_flat _ _

end Cert.StepAdamChain4

end
-- ==== Proof.StepAdamBig5.lean ====
/- What one of the optimiser's kernels leaves: the change of a weight and its two running means. -/
module

public import proofs.«01_k».proof.Proof.Gen.Kernel3Ideal.Frame.Region5
public import proofs.«01_k».proof.Proof.StepAdam
public import Idealize.ShloMosaic.Lib.Pipeline.ValueKit

@[expose] public section

set_option maxRecDepth 16384

noncomputable section

namespace Cert.StepAdamBig5

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] ∧ win5_7.index t = ![t.val, 0] :=
  (by decide +kernel : ∀ t : Fin grid5.N, _)

/-- The change of the weight. -/
theorem chg_at (c : Dev nD) : (dat5 V c).arrAt 5 cfg5.N = Del (V c main_v45) (V c main_v46) (V c main_v47) (V c main_v48) := by
  refine (dat5 V c).arrAt_eq_of_covers 5 _ (by decide +kernel) fun t _ y => ?_
  blk_simp
  rw [after5_5]; frame_out
  unfold_payloads
  pointwise [Del]
  simp only [inv_m, inv_v]
  refine (del_mul _ _ _ _).trans ?_
  blk_point [iblk5, idx t]

/-- The running mean of the gradient. -/
theorem mom_at (c : Dev nD) : (dat5 V c).arrAt 6 cfg5.N = Mom (V c main_v46) (V c main_v47) := by
  refine (dat5 V c).arrAt_eq_of_covers 6 _ (by decide +kernel) fun t _ y => ?_
  blk_simp
  rw [after5_6]; frame_out
  unfold_payloads
  pointwise [Mom, mom]
  blk_point [iblk5, idx t]

/-- The running mean of its square. -/
theorem vel_at (c : Dev nD) : (dat5 V c).arrAt 7 cfg5.N = Vel (V c main_v46) (V c main_v48) := by
  refine (dat5 V c).arrAt_eq_of_covers 7 _ (by decide +kernel) fun t _ y => ?_
  blk_simp
  rw [after5_7]; frame_out
  unfold_payloads
  pointwise [Vel, vel]
  blk_point [iblk5, idx t]

end Cert.StepAdamBig5

end
-- ==== Proof.StepAdamChain5.lean ====
/- One big weight's optimiser: its arguments as the host lays them out, and its results as the host gives them back. -/
module

public import proofs.«01_k».proof.Proof.Gen.Kernel3Ideal.Frame
public import proofs.«01_k».proof.Proof.StepAdamBig5

@[expose] public section

set_option maxRecDepth 16384

noncomputable section

namespace Cert.StepAdamChain5

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V11 m ρ c main_v45 = shapeCast _ (m ((c : Thread nD τ).loc main_arg5)) shapeCasts_S1x1024x1024_S1024x1024 := by
  have h : V11 m ρ c main_v45 = shapeCast _ (W10 m ρ c (Proc.devRef .tc main_arg5)) shapeCasts_S1x1024x1024_S1024x1024 := by
    unfold_abbrev_sides; after_results; try rfl
  rw [h, W10_args m ρ c main_arg5 (by decide)]

theorem in1 : V11 m ρ c main_v46 = shapeCast _ (m ((c : Thread nD τ).loc main_arg13)) shapeCasts_S1x1024x1024_S1024x1024 := by
  have h : V11 m ρ c main_v46 = shapeCast _ (W10 m ρ c (Proc.devRef .tc main_arg13)) shapeCasts_S1x1024x1024_S1024x1024 := by
    unfold_abbrev_sides; after_results; try rfl
  rw [h, W10_args m ρ c main_arg13 (by decide)]

theorem in2 : V11 m ρ c main_v47 = shapeCast _ (m ((c : Thread nD τ).loc main_arg21)) shapeCasts_S1x1024x1024_S1024x1024 := by
  have h : V11 m ρ c main_v47 = shapeCast _ (W10 m ρ c (Proc.devRef .tc main_arg21)) shapeCasts_S1x1024x1024_S1024x1024 := by
    unfold_abbrev_sides; after_results; try rfl
  rw [h, W10_args m ρ c main_arg21 (by decide)]

theorem in3 : V11 m ρ c main_v48 = shapeCast _ (m ((c : Thread nD τ).loc main_arg29)) shapeCasts_S1x1024x1024_S1024x1024 := by
  have h : V11 m ρ c main_v48 = shapeCast _ (W10 m ρ c (Proc.devRef .tc main_arg29)) shapeCasts_S1x1024x1024_S1024x1024 := by
    unfold_abbrev_sides; after_results; try rfl
  rw [h, W10_args m ρ c main_arg29 (by decide)]

theorem chg_flat (w g u v : FVec Ideal S1x1024x1024 .f32) : shapeCast (s := S1024x1024) (α := Ideal .f32) S1x1024x1024 (Del (shapeCast S1024x1024 w shapeCasts_S1x1024x1024_S1024x1024) (shapeCast S1024x1024 g shapeCasts_S1x1024x1024_S1024x1024) (shapeCast S1024x1024 u shapeCasts_S1x1024x1024_S1024x1024) (shapeCast S1024x1024 v shapeCasts_S1x1024x1024_S1024x1024)) shapeCasts_S1024x1024_S1x1024x1024 = Del w g u v := by
  funext i
  pointwise [Del]

theorem chg_host : W13 m ρ c (Proc.devRef .tc main_v51) = shapeCast _ (W12 m ρ c (Proc.devRef .tc main_v49_1)) shapeCasts_S1024x1024_S1x1024x1024 := by
  unfold_abbrev_sides; after_results; try rfl

theorem chg_region : W12 m ρ c (Proc.devRef .tc main_v49_1) = Del (V11 m ρ c main_v45) (V11 m ρ c main_v46) (V11 m ρ c main_v47) (V11 m ρ c main_v48) :=
  (hF5 m ρ c 5).symm.trans (Cert.StepAdamBig5.chg_at (V11 m ρ) c)

theorem chg_keep : W17 m ρ c (Proc.devRef .tc main_v51) = W13 m ρ c (Proc.devRef .tc main_v51) :=
  (W17_of m ρ c main_v51 (by decide)).trans <| (W16_of m ρ c main_v51 (by decide +kernel)).trans <| (W15_of m ρ c main_v51 (by decide)).trans <| (W14_of m ρ c main_v51 (by decide +kernel)).trans <| rfl

/-- The change at the end. -/
theorem chg_end : W17 m ρ c (Proc.devRef .tc main_v51) = Del (m ((c : Thread nD τ).loc main_arg5)) (m ((c : Thread nD τ).loc main_arg13)) (m ((c : Thread nD τ).loc main_arg21)) (m ((c : Thread nD τ).loc main_arg29)) := by
  rw [chg_keep m ρ c, chg_host m ρ c, chg_region m ρ c, in0 m ρ c, in1 m ρ c, in2 m ρ c, in3 m ρ c]
  exact chg_flat _ _ _ _

theorem mom_flat (g u : FVec Ideal S1x1024x1024 .f32) : shapeCast (s := S1024x1024) (α := Ideal .f32) S1x1024x1024 (Mom (shapeCast S1024x1024 g shapeCasts_S1x1024x1024_S1024x1024) (shapeCast S1024x1024 u shapeCasts_S1x1024x1024_S1024x1024)) shapeCasts_S1024x1024_S1x1024x1024 = Mom g u := by
  funext i
  pointwise [Mom]

theorem mom_host : W13 m ρ c (Proc.devRef .tc main_v52) = shapeCast _ (W12 m ρ c (Proc.devRef .tc main_v49_2)) shapeCasts_S1024x1024_S1x1024x1024 := by
  unfold_abbrev_sides; after_results; try rfl

theorem mom_region : W12 m ρ c (Proc.devRef .tc main_v49_2) = Mom (V11 m ρ c main_v46) (V11 m ρ c main_v47) :=
  (hF5 m ρ c 6).symm.trans (Cert.StepAdamBig5.mom_at (V11 m ρ) c)

theorem mom_keep : W17 m ρ c (Proc.devRef .tc main_v52) = W13 m ρ c (Proc.devRef .tc main_v52) :=
  (W17_of m ρ c main_v52 (by decide)).trans <| (W16_of m ρ c main_v52 (by decide +kernel)).trans <| (W15_of m ρ c main_v52 (by decide)).trans <| (W14_of m ρ c main_v52 (by decide +kernel)).trans <| rfl

/-- The mean at the end. -/
theorem mom_end : W17 m ρ c (Proc.devRef .tc main_v52) = Mom (m ((c : Thread nD τ).loc main_arg13)) (m ((c : Thread nD τ).loc main_arg21)) := by
  rw [mom_keep m ρ c, mom_host m ρ c, mom_region m ρ c, in1 m ρ c, in2 m ρ c]
  exact mom_flat _ _

theorem vel_flat (g v : FVec Ideal S1x1024x1024 .f32) : shapeCast (s := S1024x1024) (α := Ideal .f32) S1x1024x1024 (Vel (shapeCast S1024x1024 g shapeCasts_S1x1024x1024_S1024x1024) (shapeCast S1024x1024 v shapeCasts_S1x1024x1024_S1024x1024)) shapeCasts_S1024x1024_S1x1024x1024 = Vel g v := by
  funext i
  pointwise [Vel]

theorem vel_host : W13 m ρ c (Proc.devRef .tc main_v53) = shapeCast _ (W12 m ρ c (Proc.devRef .tc main_v49_3)) shapeCasts_S1024x1024_S1x1024x1024 := by
  unfold_abbrev_sides; after_results; try rfl

theorem vel_region : W12 m ρ c (Proc.devRef .tc main_v49_3) = Vel (V11 m ρ c main_v46) (V11 m ρ c main_v48) :=
  (hF5 m ρ c 7).symm.trans (Cert.StepAdamBig5.vel_at (V11 m ρ) c)

theorem vel_keep : W17 m ρ c (Proc.devRef .tc main_v53) = W13 m ρ c (Proc.devRef .tc main_v53) :=
  (W17_of m ρ c main_v53 (by decide)).trans <| (W16_of m ρ c main_v53 (by decide +kernel)).trans <| (W15_of m ρ c main_v53 (by decide)).trans <| (W14_of m ρ c main_v53 (by decide +kernel)).trans <| rfl

/-- The square at the end. -/
theorem vel_end : W17 m ρ c (Proc.devRef .tc main_v53) = Vel (m ((c : Thread nD τ).loc main_arg13)) (m ((c : Thread nD τ).loc main_arg29)) := by
  rw [vel_keep m ρ c, vel_host m ρ c, vel_region m ρ c, in1 m ρ c, in3 m ρ c]
  exact vel_flat _ _

end Cert.StepAdamChain5

end
-- ==== Proof.StepAdamBig6.lean ====
/- What one of the optimiser's kernels leaves: the change of a weight and its two running means. -/
module

public import proofs.«01_k».proof.Proof.Gen.Kernel3Ideal.Frame.Region6
public import proofs.«01_k».proof.Proof.StepAdam
public import Idealize.ShloMosaic.Lib.Pipeline.ValueKit

@[expose] public section

set_option maxRecDepth 16384

noncomputable section

namespace Cert.StepAdamBig6

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] ∧ win6_7.index t = ![t.val, 0] :=
  (by decide +kernel : ∀ t : Fin grid6.N, _)

/-- The change of the weight. -/
theorem chg_at (c : Dev nD) : (dat6 V c).arrAt 5 cfg6.N = Del (V c main_v54) (V c main_v55) (V c main_v56) (V c main_v57) := by
  refine (dat6 V c).arrAt_eq_of_covers 5 _ (by decide +kernel) fun t _ y => ?_
  blk_simp
  rw [after6_5]; frame_out
  unfold_payloads
  pointwise [Del]
  simp only [inv_m, inv_v]
  refine (del_mul _ _ _ _).trans ?_
  blk_point [iblk6, idx t]

/-- The running mean of the gradient. -/
theorem mom_at (c : Dev nD) : (dat6 V c).arrAt 6 cfg6.N = Mom (V c main_v55) (V c main_v56) := by
  refine (dat6 V c).arrAt_eq_of_covers 6 _ (by decide +kernel) fun t _ y => ?_
  blk_simp
  rw [after6_6]; frame_out
  unfold_payloads
  pointwise [Mom, mom]
  blk_point [iblk6, idx t]

/-- The running mean of its square. -/
theorem vel_at (c : Dev nD) : (dat6 V c).arrAt 7 cfg6.N = Vel (V c main_v55) (V c main_v57) := by
  refine (dat6 V c).arrAt_eq_of_covers 7 _ (by decide +kernel) fun t _ y => ?_
  blk_simp
  rw [after6_7]; frame_out
  unfold_payloads
  pointwise [Vel, vel]
  blk_point [iblk6, idx t]

end Cert.StepAdamBig6

end
-- ==== Proof.StepAdamChain6.lean ====
/- One big weight's optimiser: its arguments as the host lays them out, and its results as the host gives them back. -/
module

public import proofs.«01_k».proof.Proof.Gen.Kernel3Ideal.Frame
public import proofs.«01_k».proof.Proof.StepAdamBig6

@[expose] public section

set_option maxRecDepth 16384

noncomputable section

namespace Cert.StepAdamChain6

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V13 m ρ c main_v54 = shapeCast _ (m ((c : Thread nD τ).loc main_arg6)) shapeCasts_S1x256x1024_S256x1024 := by
  have h : V13 m ρ c main_v54 = shapeCast _ (W12 m ρ c (Proc.devRef .tc main_arg6)) shapeCasts_S1x256x1024_S256x1024 := by
    unfold_abbrev_sides; after_results; try rfl
  rw [h, W12_args m ρ c main_arg6 (by decide)]

theorem in1 : V13 m ρ c main_v55 = shapeCast _ (m ((c : Thread nD τ).loc main_arg14)) shapeCasts_S1x256x1024_S256x1024 := by
  have h : V13 m ρ c main_v55 = shapeCast _ (W12 m ρ c (Proc.devRef .tc main_arg14)) shapeCasts_S1x256x1024_S256x1024 := by
    unfold_abbrev_sides; after_results; try rfl
  rw [h, W12_args m ρ c main_arg14 (by decide)]

theorem in2 : V13 m ρ c main_v56 = shapeCast _ (m ((c : Thread nD τ).loc main_arg22)) shapeCasts_S1x256x1024_S256x1024 := by
  have h : V13 m ρ c main_v56 = shapeCast _ (W12 m ρ c (Proc.devRef .tc main_arg22)) shapeCasts_S1x256x1024_S256x1024 := by
    unfold_abbrev_sides; after_results; try rfl
  rw [h, W12_args m ρ c main_arg22 (by decide)]

theorem in3 : V13 m ρ c main_v57 = shapeCast _ (m ((c : Thread nD τ).loc main_arg30)) shapeCasts_S1x256x1024_S256x1024 := by
  have h : V13 m ρ c main_v57 = shapeCast _ (W12 m ρ c (Proc.devRef .tc main_arg30)) shapeCasts_S1x256x1024_S256x1024 := by
    unfold_abbrev_sides; after_results; try rfl
  rw [h, W12_args m ρ c main_arg30 (by decide)]

theorem chg_flat (w g u v : FVec Ideal S1x256x1024 .f32) : shapeCast (s := S256x1024) (α := Ideal .f32) S1x256x1024 (Del (shapeCast S256x1024 w shapeCasts_S1x256x1024_S256x1024) (shapeCast S256x1024 g shapeCasts_S1x256x1024_S256x1024) (shapeCast S256x1024 u shapeCasts_S1x256x1024_S256x1024) (shapeCast S256x1024 v shapeCasts_S1x256x1024_S256x1024)) shapeCasts_S256x1024_S1x256x1024 = Del w g u v := by
  funext i
  pointwise [Del]

theorem chg_host : W15 m ρ c (Proc.devRef .tc main_v60) = shapeCast _ (W14 m ρ c (Proc.devRef .tc main_v58_1)) shapeCasts_S256x1024_S1x256x1024 := by
  unfold_abbrev_sides; after_results; try rfl

theorem chg_region : W14 m ρ c (Proc.devRef .tc main_v58_1) = Del (V13 m ρ c main_v54) (V13 m ρ c main_v55) (V13 m ρ c main_v56) (V13 m ρ c main_v57) :=
  (hF6 m ρ c 5).symm.trans (Cert.StepAdamBig6.chg_at (V13 m ρ) c)

theorem chg_keep : W17 m ρ c (Proc.devRef .tc main_v60) = W15 m ρ c (Proc.devRef .tc main_v60) :=
  (W17_of m ρ c main_v60 (by decide)).trans <| (W16_of m ρ c main_v60 (by decide +kernel)).trans <| rfl

/-- The change at the end. -/
theorem chg_end : W17 m ρ c (Proc.devRef .tc main_v60) = Del (m ((c : Thread nD τ).loc main_arg6)) (m ((c : Thread nD τ).loc main_arg14)) (m ((c : Thread nD τ).loc main_arg22)) (m ((c : Thread nD τ).loc main_arg30)) := by
  rw [chg_keep m ρ c, chg_host m ρ c, chg_region m ρ c, in0 m ρ c, in1 m ρ c, in2 m ρ c, in3 m ρ c]
  exact chg_flat _ _ _ _

theorem mom_flat (g u : FVec Ideal S1x256x1024 .f32) : shapeCast (s := S256x1024) (α := Ideal .f32) S1x256x1024 (Mom (shapeCast S256x1024 g shapeCasts_S1x256x1024_S256x1024) (shapeCast S256x1024 u shapeCasts_S1x256x1024_S256x1024)) shapeCasts_S256x1024_S1x256x1024 = Mom g u := by
  funext i
  pointwise [Mom]

theorem mom_host : W15 m ρ c (Proc.devRef .tc main_v61) = shapeCast _ (W14 m ρ c (Proc.devRef .tc main_v58_2)) shapeCasts_S256x1024_S1x256x1024 := by
  unfold_abbrev_sides; after_results; try rfl

theorem mom_region : W14 m ρ c (Proc.devRef .tc main_v58_2) = Mom (V13 m ρ c main_v55) (V13 m ρ c main_v56) :=
  (hF6 m ρ c 6).symm.trans (Cert.StepAdamBig6.mom_at (V13 m ρ) c)

theorem mom_keep : W17 m ρ c (Proc.devRef .tc main_v61) = W15 m ρ c (Proc.devRef .tc main_v61) :=
  (W17_of m ρ c main_v61 (by decide)).trans <| (W16_of m ρ c main_v61 (by decide +kernel)).trans <| rfl

/-- The mean at the end. -/
theorem mom_end : W17 m ρ c (Proc.devRef .tc main_v61) = Mom (m ((c : Thread nD τ).loc main_arg14)) (m ((c : Thread nD τ).loc main_arg22)) := by
  rw [mom_keep m ρ c, mom_host m ρ c, mom_region m ρ c, in1 m ρ c, in2 m ρ c]
  exact mom_flat _ _

theorem vel_flat (g v : FVec Ideal S1x256x1024 .f32) : shapeCast (s := S256x1024) (α := Ideal .f32) S1x256x1024 (Vel (shapeCast S256x1024 g shapeCasts_S1x256x1024_S256x1024) (shapeCast S256x1024 v shapeCasts_S1x256x1024_S256x1024)) shapeCasts_S256x1024_S1x256x1024 = Vel g v := by
  funext i
  pointwise [Vel]

theorem vel_host : W15 m ρ c (Proc.devRef .tc main_v62) = shapeCast _ (W14 m ρ c (Proc.devRef .tc main_v58_3)) shapeCasts_S256x1024_S1x256x1024 := by
  unfold_abbrev_sides; after_results; try rfl

theorem vel_region : W14 m ρ c (Proc.devRef .tc main_v58_3) = Vel (V13 m ρ c main_v55) (V13 m ρ c main_v57) :=
  (hF6 m ρ c 7).symm.trans (Cert.StepAdamBig6.vel_at (V13 m ρ) c)

theorem vel_keep : W17 m ρ c (Proc.devRef .tc main_v62) = W15 m ρ c (Proc.devRef .tc main_v62) :=
  (W17_of m ρ c main_v62 (by decide)).trans <| (W16_of m ρ c main_v62 (by decide +kernel)).trans <| rfl

/-- The square at the end. -/
theorem vel_end : W17 m ρ c (Proc.devRef .tc main_v62) = Vel (m ((c : Thread nD τ).loc main_arg14)) (m ((c : Thread nD τ).loc main_arg30)) := by
  rw [vel_keep m ρ c, vel_host m ρ c, vel_region m ρ c, in1 m ρ c, in3 m ρ c]
  exact vel_flat _ _

end Cert.StepAdamChain6

end
-- ==== Proof.StepAdamBig7.lean ====
/- What one of the optimiser's kernels leaves: the change of a weight and its two running means. -/
module

public import proofs.«01_k».proof.Proof.Gen.Kernel3Ideal.Frame.Region7
public import proofs.«01_k».proof.Proof.StepAdam
public import Idealize.ShloMosaic.Lib.Pipeline.ValueKit

@[expose] public section

set_option maxRecDepth 16384

noncomputable section

namespace Cert.StepAdamBig7

open Cert.Kernel3Ideal Cert.Kernel3Ideal.Gen Idealize.ShloMosaic Idealize.ShloMosaic.TcCoe Idealize.SL.Sem
open Idealize.ShloMosaic.Pipeline (Dat)
open Cert.StepAdam

variable (V : (c : Dev nD) → (b : Ref sig .tc) → Buf (Elt Ideal) ((c : Thread nD τ).loc b))

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

theorem idx : ∀ t : Fin cfg7.N, win7_0.index t = ![t.val, 0] ∧ win7_1.index t = ![t.val, 0] ∧ win7_2.index t = ![t.val, 0] ∧ win7_3.index t = ![t.val, 0] ∧ win7_4.index t = ![t.val, 0] ∧ win7_5.index t = ![t.val, 0] ∧ win7_6.index t = ![t.val, 0] ∧ win7_7.index t = ![t.val, 0] :=
  (by decide +kernel : ∀ t : Fin grid7.N, _)

/-- The change of the weight. -/
theorem chg_at (c : Dev nD) : (dat7 V c).arrAt 5 cfg7.N = Del (V c main_v63) (V c main_v64) (V c main_v65) (V c main_v66) := by
  refine (dat7 V c).arrAt_eq_of_covers 5 _ (by decide +kernel) fun t _ y => ?_
  blk_simp
  rw [after7_5]; frame_out
  unfold_payloads
  pointwise [Del]
  simp only [inv_m, inv_v]
  refine (del_mul _ _ _ _).trans ?_
  blk_point [iblk7, idx t]

/-- The running mean of the gradient. -/
theorem mom_at (c : Dev nD) : (dat7 V c).arrAt 6 cfg7.N = Mom (V c main_v64) (V c main_v65) := by
  refine (dat7 V c).arrAt_eq_of_covers 6 _ (by decide +kernel) fun t _ y => ?_
  blk_simp
  rw [after7_6]; frame_out
  unfold_payloads
  pointwise [Mom, mom]
  blk_point [iblk7, idx t]

/-- The running mean of its square. -/
theorem vel_at (c : Dev nD) : (dat7 V c).arrAt 7 cfg7.N = Vel (V c main_v64) (V c main_v66) := by
  refine (dat7 V c).arrAt_eq_of_covers 7 _ (by decide +kernel) fun t _ y => ?_
  blk_simp
  rw [after7_7]; frame_out
  unfold_payloads
  pointwise [Vel, vel]
  blk_point [iblk7, idx t]

end Cert.StepAdamBig7

end
-- ==== Proof.StepAdamChain7.lean ====
/- One big weight's optimiser: its arguments as the host lays them out, and its results as the host gives them back. -/
module

public import proofs.«01_k».proof.Proof.Gen.Kernel3Ideal.Frame
public import proofs.«01_k».proof.Proof.StepAdamBig7

@[expose] public section

set_option maxRecDepth 16384

noncomputable section

namespace Cert.StepAdamChain7

open Cert.Kernel3Ideal Cert.Kernel3Ideal.Gen Idealize.ShloMosaic Idealize.ShloMosaic.TcCoe Idealize.SL.Sem
open Idealize.ShloMosaic.Pipeline (Dat)
open Cert.StepAdam

variable (m : (ℓ : Loc nD τ sig) → Buf (Elt Ideal) ℓ) (ρ : Dev nD → PrngReg) (c : Dev nD)

theorem in0 : V15 m ρ c main_v63 = shapeCast _ (m ((c : Thread nD τ).loc main_arg7)) shapeCasts_S1x256x256_S256x256 := by
  have h : V15 m ρ c main_v63 = shapeCast _ (W14 m ρ c (Proc.devRef .tc main_arg7)) shapeCasts_S1x256x256_S256x256 := by
    unfold_abbrev_sides; after_results; try rfl
  rw [h, W14_args m ρ c main_arg7 (by decide)]

theorem in1 : V15 m ρ c main_v64 = shapeCast _ (m ((c : Thread nD τ).loc main_arg15)) shapeCasts_S1x256x256_S256x256 := by
  have h : V15 m ρ c main_v64 = shapeCast _ (W14 m ρ c (Proc.devRef .tc main_arg15)) shapeCasts_S1x256x256_S256x256 := by
    unfold_abbrev_sides; after_results; try rfl
  rw [h, W14_args m ρ c main_arg15 (by decide)]

theorem in2 : V15 m ρ c main_v65 = shapeCast _ (m ((c : Thread nD τ).loc main_arg23)) shapeCasts_S1x256x256_S256x256 := by
  have h : V15 m ρ c main_v65 = shapeCast _ (W14 m ρ c (Proc.devRef .tc main_arg23)) shapeCasts_S1x256x256_S256x256 := by
    unfold_abbrev_sides; after_results; try rfl
  rw [h, W14_args m ρ c main_arg23 (by decide)]

theorem in3 : V15 m ρ c main_v66 = shapeCast _ (m ((c : Thread nD τ).loc main_arg31)) shapeCasts_S1x256x256_S256x256 := by
  have h : V15 m ρ c main_v66 = shapeCast _ (W14 m ρ c (Proc.devRef .tc main_arg31)) shapeCasts_S1x256x256_S256x256 := by
    unfold_abbrev_sides; after_results; try rfl
  rw [h, W14_args m ρ c main_arg31 (by decide)]

theorem chg_flat (w g u v : FVec Ideal S1x256x256 .f32) : shapeCast (s := S256x256) (α := Ideal .f32) S1x256x256 (Del (shapeCast S256x256 w shapeCasts_S1x256x256_S256x256) (shapeCast S256x256 g shapeCasts_S1x256x256_S256x256) (shapeCast S256x256 u shapeCasts_S1x256x256_S256x256) (shapeCast S256x256 v shapeCasts_S1x256x256_S256x256)) shapeCasts_S256x256_S1x256x256 = Del w g u v := by
  funext i
  pointwise [Del]

theorem chg_host : W17 m ρ c (Proc.devRef .tc main_v69) = shapeCast _ (W16 m ρ c (Proc.devRef .tc main_v67_1)) shapeCasts_S256x256_S1x256x256 := by
  unfold_abbrev_sides; after_results; try rfl

theorem chg_region : W16 m ρ c (Proc.devRef .tc main_v67_1) = Del (V15 m ρ c main_v63) (V15 m ρ c main_v64) (V15 m ρ c main_v65) (V15 m ρ c main_v66) :=
  (hF7 m ρ c 5).symm.trans (Cert.StepAdamBig7.chg_at (V15 m ρ) c)

theorem chg_keep : W17 m ρ c (Proc.devRef .tc main_v69) = W17 m ρ c (Proc.devRef .tc main_v69) :=
  rfl

/-- The change at the end. -/
theorem chg_end : W17 m ρ c (Proc.devRef .tc main_v69) = Del (m ((c : Thread nD τ).loc main_arg7)) (m ((c : Thread nD τ).loc main_arg15)) (m ((c : Thread nD τ).loc main_arg23)) (m ((c : Thread nD τ).loc main_arg31)) := by
  rw [chg_keep m ρ c, chg_host m ρ c, chg_region m ρ c, in0 m ρ c, in1 m ρ c, in2 m ρ c, in3 m ρ c]
  exact chg_flat _ _ _ _

theorem mom_flat (g u : FVec Ideal S1x256x256 .f32) : shapeCast (s := S256x256) (α := Ideal .f32) S1x256x256 (Mom (shapeCast S256x256 g shapeCasts_S1x256x256_S256x256) (shapeCast S256x256 u shapeCasts_S1x256x256_S256x256)) shapeCasts_S256x256_S1x256x256 = Mom g u := by
  funext i
  pointwise [Mom]

theorem mom_host : W17 m ρ c (Proc.devRef .tc main_v70) = shapeCast _ (W16 m ρ c (Proc.devRef .tc main_v67_2)) shapeCasts_S256x256_S1x256x256 := by
  unfold_abbrev_sides; after_results; try rfl

theorem mom_region : W16 m ρ c (Proc.devRef .tc main_v67_2) = Mom (V15 m ρ c main_v64) (V15 m ρ c main_v65) :=
  (hF7 m ρ c 6).symm.trans (Cert.StepAdamBig7.mom_at (V15 m ρ) c)

theorem mom_keep : W17 m ρ c (Proc.devRef .tc main_v70) = W17 m ρ c (Proc.devRef .tc main_v70) :=
  rfl

/-- The mean at the end. -/
theorem mom_end : W17 m ρ c (Proc.devRef .tc main_v70) = Mom (m ((c : Thread nD τ).loc main_arg15)) (m ((c : Thread nD τ).loc main_arg23)) := by
  rw [mom_keep m ρ c, mom_host m ρ c, mom_region m ρ c, in1 m ρ c, in2 m ρ c]
  exact mom_flat _ _

theorem vel_flat (g v : FVec Ideal S1x256x256 .f32) : shapeCast (s := S256x256) (α := Ideal .f32) S1x256x256 (Vel (shapeCast S256x256 g shapeCasts_S1x256x256_S256x256) (shapeCast S256x256 v shapeCasts_S1x256x256_S256x256)) shapeCasts_S256x256_S1x256x256 = Vel g v := by
  funext i
  pointwise [Vel]

theorem vel_host : W17 m ρ c (Proc.devRef .tc main_v71) = shapeCast _ (W16 m ρ c (Proc.devRef .tc main_v67_3)) shapeCasts_S256x256_S1x256x256 := by
  unfold_abbrev_sides; after_results; try rfl

theorem vel_region : W16 m ρ c (Proc.devRef .tc main_v67_3) = Vel (V15 m ρ c main_v64) (V15 m ρ c main_v66) :=
  (hF7 m ρ c 7).symm.trans (Cert.StepAdamBig7.vel_at (V15 m ρ) c)

theorem vel_keep : W17 m ρ c (Proc.devRef .tc main_v71) = W17 m ρ c (Proc.devRef .tc main_v71) :=
  rfl

/-- The square at the end. -/
theorem vel_end : W17 m ρ c (Proc.devRef .tc main_v71) = Vel (m ((c : Thread nD τ).loc main_arg15)) (m ((c : Thread nD τ).loc main_arg31)) := by
  rw [vel_keep m ρ c, vel_host m ρ c, vel_region m ρ c, in1 m ρ c, in3 m ρ c]
  exact vel_flat _ _

end Cert.StepAdamChain7

end
-- ==== Proof.StepAdamClaims.lean ====
/- The claims of the big weights' optimiser: the reference leaves its arguments alone, the kernels leave what the reference
   leaves, and the named numbers are the reciprocals they stand for. -/
module

public import proofs.«01_k».proof.Defs
public import proofs.«01_k».proof.Proof.Gen.Reference3Ideal.Run
public import proofs.«01_k».proof.Proof.StepAdamRef
public import proofs.«01_k».proof.Proof.StepAdamRun
public import proofs.«01_k».proof.Proof.StepAdamChain0
public import proofs.«01_k».proof.Proof.StepAdamChain1
public import proofs.«01_k».proof.Proof.StepAdamChain2
public import proofs.«01_k».proof.Proof.StepAdamChain3
public import proofs.«01_k».proof.Proof.StepAdamChain4
public import proofs.«01_k».proof.Proof.StepAdamChain5
public import proofs.«01_k».proof.Proof.StepAdamChain6
public import proofs.«01_k».proof.Proof.StepAdamChain7
public import Idealize.ShloMosaic.Lib.Claim
public import Idealize.ShloMosaic.Lib.Quiescent

@[expose] public section

set_option maxRecDepth 16384

noncomputable section

namespace Cert.StepAdamClaims

open Idealize.ShloMosaic Idealize.SL.Sem
open Cert.StepAdam

/-- The reference runs to its end, leaves its arguments and every counter at zero. -/
theorem frame_ref : Cert.quiescent_Reference3Ideal := by
  intro m ρ _
  exact (θ_run Cert.Reference3Ideal.defs _ _).mono
    (fun r h => ⟨fun c => (h c).2.2.2.2.2.2.2.2.2.2.2.2.2.2.2.2.2.2.2.2.2.2.2.2, sem_eq_zero_of_no_sems (by decide) r.2⟩)
    (Cert.Reference3Ideal.Value.run (F := Ideal) m ρ)

/-- The named numbers. -/
theorem preserves : preserves_Kernel3_Kernel3Ideal :=
  ⟨IdealRules.named_const.statement Cert.Kernel3Ideal.κ "inv_m" .f32 0x3FC48605#32 ((8388608 / 5463681 : ℝ) : EReal) rfl,
    IdealRules.named_const.statement Cert.Kernel3Ideal.κ "inv_v" .f32 0x42C8E6D3#32 ((268435456 / 2672307 : ℝ) : EReal) rfl⟩

theorem Del_eq {s : Shape} {w g u v w' g' u' v' : FVec Ideal s .f32} (hw : w' = w) (hg : g' = g) (hu : u' = u) (hv : v' = v) : Del w' g' u' v' = Del w g u v := by
  rw [hw, hg, hu, hv]

theorem Mom_eq {s : Shape} {g u g' u' : FVec Ideal s .f32} (hg : g' = g) (hu : u' = u) : Mom g' u' = Mom g u := by
  rw [hg, hu]

theorem Vel_eq {s : Shape} {g v g' v' : FVec Ideal s .f32} (hg : g' = g) (hv : v' = v) : Vel g' v' = Vel g v := by
  rw [hg, hv]

set_option maxHeartbeats 8000000 in
/-- The kernels' results are the reference's. -/
theorem algebraic : algebraic_Kernel3Ideal_Reference3Ideal := by
  intro m g m' g' _ hagree
  refine ⟨fun c => Del (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg24)),
    fun c => Del (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg25)),
    fun c => Del (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg26)),
    fun c => Del (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg27)),
    fun c => Del (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg20)) (m ((c.tc : Thread Cert.Kernel3Ideal.nD Cert.Kernel3Ideal.τ).loc Cert.Kernel3Ideal.main_arg28)),
    fun c => Del (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg21)) (m ((c.tc : Thread Cert.Kernel3Ideal.nD Cert.Kernel3Ideal.τ).loc Cert.Kernel3Ideal.main_arg29)),
    fun c => Del (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg22)) (m ((c.tc : Thread Cert.Kernel3Ideal.nD Cert.Kernel3Ideal.τ).loc Cert.Kernel3Ideal.main_arg30)),
    fun c => Del (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg23)) (m ((c.tc : Thread Cert.Kernel3Ideal.nD Cert.Kernel3Ideal.τ).loc Cert.Kernel3Ideal.main_arg31)),
    fun c => Mom (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg16)),
    fun c => Mom (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg17)),
    fun c => Mom (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg18)),
    fun c => Mom (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg19)),
    fun c => Mom (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg20)),
    fun c => Mom (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg21)),
    fun c => Mom (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg22)),
    fun c => Mom (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg23)),
    fun c => Vel (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg24)),
    fun c => Vel (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg25)),
    fun c => Vel (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg26)),
    fun c => Vel (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg27)),
    fun c => Vel (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg28)),
    fun c => Vel (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg29)),
    fun c => Vel (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg30)),
    fun c => Vel (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg31)),
    (θ_run Cert.Kernel3Ideal.defs _ _).mono (fun r h c => ?_) (Cert.StepAdamRun.run (F := Ideal) m g),
    (θ_run Cert.Reference3Ideal.defs _ _).mono (fun r h c => ?_) (Cert.StepAdamRef.run m' g')⟩
  · obtain ⟨h0, h1, h2, h3, h4, h5, h6, h7, h8, h9, h10, h11, h12, h13, h14, h15, h16, h17, h18, h19, h20, h21, h22, h23, hargs⟩ := h c
    exact ⟨h0.trans (Cert.StepAdamChain0.chg_end m g c), h1.trans (Cert.StepAdamChain1.chg_end m g c), h2.trans (Cert.StepAdamChain2.chg_end m g c), h3.trans (Cert.StepAdamChain3.chg_end m g c), h4.trans (Cert.StepAdamChain4.chg_end m g c), h5.trans (Cert.StepAdamChain5.chg_end m g c), h6.trans (Cert.StepAdamChain6.chg_end m g c), h7.trans (Cert.StepAdamChain7.chg_end m g c), h8.trans (Cert.StepAdamChain0.mom_end m g c), h9.trans (Cert.StepAdamChain1.mom_end m g c), h10.trans (Cert.StepAdamChain2.mom_end m g c), h11.trans (Cert.StepAdamChain3.mom_end m g c), h12.trans (Cert.StepAdamChain4.mom_end m g c), h13.trans (Cert.StepAdamChain5.mom_end m g c), h14.trans (Cert.StepAdamChain6.mom_end m g c), h15.trans (Cert.StepAdamChain7.mom_end m g c), h16.trans (Cert.StepAdamChain0.vel_end m g c), h17.trans (Cert.StepAdamChain1.vel_end m g c), h18.trans (Cert.StepAdamChain2.vel_end m g c), h19.trans (Cert.StepAdamChain3.vel_end m g c), h20.trans (Cert.StepAdamChain4.vel_end m g c), h21.trans (Cert.StepAdamChain5.vel_end m g c), h22.trans (Cert.StepAdamChain6.vel_end m g c), h23.trans (Cert.StepAdamChain7.vel_end m g c), hargs⟩
  · obtain ⟨h0, h1, h2, h3, h4, h5, h6, h7, h8, h9, h10, h11, h12, h13, h14, h15, h16, h17, h18, h19, h20, h21, h22, h23, hargs⟩ := h c
    obtain ⟨a0, a1, a2, a3, a4, a5, a6, a7, a8, a9, a10, a11, a12, a13, a14, a15, a16, a17, a18, a19, a20, a21, a22, a23, a24, a25, a26, a27, a28, a29, a30, a31⟩ := hagree c
    exact ⟨h0.trans (Del_eq a0 a8 a16 a24), h1.trans (Del_eq a1 a9 a17 a25), h2.trans (Del_eq a2 a10 a18 a26), h3.trans (Del_eq a3 a11 a19 a27), h4.trans (Del_eq a4 a12 a20 a28), h5.trans (Del_eq a5 a13 a21 a29), h6.trans (Del_eq a6 a14 a22 a30), h7.trans (Del_eq a7 a15 a23 a31), h8.trans (Mom_eq a8 a16), h9.trans (Mom_eq a9 a17), h10.trans (Mom_eq a10 a18), h11.trans (Mom_eq a11 a19), h12.trans (Mom_eq a12 a20), h13.trans (Mom_eq a13 a21), h14.trans (Mom_eq a14 a22), h15.trans (Mom_eq a15 a23), h16.trans (Vel_eq a8 a24), h17.trans (Vel_eq a9 a25), h18.trans (Vel_eq a10 a26), h19.trans (Vel_eq a11 a27), h20.trans (Vel_eq a12 a28), h21.trans (Vel_eq a13 a29), h22.trans (Vel_eq a14 a30), h23.trans (Vel_eq a15 a31), hargs⟩

end Cert.StepAdamClaims

end
-- ==== Proof.lean ====
/- The proof of the certificate's claims: the frames are the generated ones, the value claims come from
   the modules beside. -/
module

public import proofs.«01_k».proof.Proof.Gen.ReferenceIdeal.Run
public import proofs.«01_k».proof.Proof.Gen.KernelIdeal.Frame
public import proofs.«01_k».proof.Proof.Gen.Kernel.Frame
public import proofs.«01_k».proof.Proof.StepClaims
public import proofs.«01_k».proof.Proof.StepInClaims
public import proofs.«01_k».proof.Proof.Gen.Reference2Ideal.Run
public import proofs.«01_k».proof.Proof.Gen.Kernel2Ideal.Frame
public import proofs.«01_k».proof.Proof.Gen.Kernel2.Frame
public import proofs.«01_k».proof.Proof.StepAdamClaims
public import proofs.«01_k».proof.Proof.Gen.Reference3Ideal.Run
public import proofs.«01_k».proof.Proof.Gen.Kernel3Ideal.Frame
public import proofs.«01_k».proof.Proof.Gen.Kernel3.Frame
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Gen.frame m ρ,
  fun m ρ _ => Cert.KernelIdeal.Gen.frame m ρ,
  Cert.StepClaims.frame_ref,
  fun m ρ _ => Cert.Kernel2.Gen.frame m ρ,
  fun m ρ _ => Cert.Kernel2Ideal.Gen.frame m ρ,
  Cert.StepInClaims.frame_ref,
  fun m ρ _ => Cert.Kernel3.Gen.frame m ρ,
  fun m ρ _ => Cert.Kernel3Ideal.Gen.frame m ρ,
  Cert.StepAdamClaims.frame_ref,
  trivial,
  Cert.StepClaims.algebraic,
  trivial,
  Cert.StepInClaims.algebraic,
  Cert.StepAdamClaims.preserves,
  Cert.StepAdamClaims.algebraic⟩

end Cert.Proof

end
